-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_cst_5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_cst_5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_cst_14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x2048x768 : Shape := ⟨3, ![4, 2048, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel

variable [Facts]

def fn {F : FTy → Type} [FloatOps F] (main_arg0 : FVec F S4x2048x768 .f32) : IVec S_ 1 :=
  let main_v0 : FVec F S4x2048x768 .f32 := Host.absf main_arg0
  let main_cst : FVec F S_ .f32 := constant S_ .f32 0x44800000#32
  let main_v1 : FVec F S4x2048x768 .f32 := broadcastInDim S4x2048x768 ![] bcast_S_S4x2048x768 main_cst
  let main_v2 : IVec S4x2048x768 1 := cmpf .ole main_v0 main_v1
  let main_c : IVec S_ 1 := constantI S_ 1 1#1
  let main_v3 : IVec S_ 1 := (fun x v => Host.reduce IntOp.andi x v reducesTo_S4x2048x768_S_d0_1_2 h_S_) main_v2 main_c
  main_v3
-- ==== Kernel.lean ====
abbrev S4x2048x768 : Shape := ⟨3, ![4, 2048, 768]⟩
abbrev S4x1x2048 : Shape := ⟨3, ![4, 1, 2048]⟩
abbrev S1x2048x768 : Shape := ⟨3, ![1, 2048, 768]⟩
abbrev S1x1x2048 : Shape := ⟨3, ![1, 1, 2048]⟩
abbrev S2048x768 : Shape := ⟨2, ![2048, 768]⟩
abbrev S2048 : Shape := ⟨1, ![2048]⟩
abbrev S1x2048 : Shape := ⟨2, ![1, 2048]⟩
abbrev S1024x768 : Shape := ⟨2, ![1024, 768]⟩
abbrev S1024 : Shape := ⟨1, ![1024]⟩
abbrev S1024x2048 : Shape := ⟨2, ![1024, 2048]⟩
abbrev S1024x128 : Shape := ⟨2, ![1024, 128]⟩
abbrev S128 : Shape := ⟨1, ![128]⟩
abbrev S1024x1 : Shape := ⟨2, ![1024, 1]⟩
abbrev S1x128 : Shape := ⟨2, ![1, 128]⟩
abbrev S1x1x1024 : Shape := ⟨3, ![1, 1, 1024]⟩
abbrev S4x2048 : Shape := ⟨2, ![4, 2048]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x1 : Shape := ⟨2, ![1, 1]⟩
abbrev S4x256 : Shape := ⟨2, ![4, 256]⟩
abbrev S8192x768 : Shape := ⟨2, ![8192, 768]⟩
abbrev S32 : Shape := ⟨1, ![32]⟩
abbrev S32x768 : Shape := ⟨2, ![32, 768]⟩
abbrev S16 : Shape := ⟨1, ![16]⟩
abbrev S32x128 : Shape := ⟨2, ![32, 128]⟩
abbrev S8192x128 : Shape := ⟨2, ![8192, 128]⟩
abbrev S4x256x768 : Shape := ⟨3, ![4, 256, 768]⟩

abbrev nBuf : Table → Nat
  | .hbm => 557
  | .local .tc .vmem => 4
  | .local .scVector .vmem => 2
  | _ => 0

abbrev hbmTy0_0 (i : Nat) : BufTy := match i % 128 with
  | 0 => ⟨S4x2048x768, .f32⟩
  | 1 => ⟨S4x1x2048, .f32⟩
  | 2 => ⟨S4x2048, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1x2048, .f32⟩
  | 14 => ⟨S2048, .f32⟩
  | 15 => ⟨S_, .f32⟩
  | 16 => ⟨S_, .f32⟩
  | 17 => ⟨S1x2048, .f32⟩
  | 18 => ⟨S2048, .f32⟩
  | 19 => ⟨S_, .f32⟩
  | 20 => ⟨S_, .f32⟩
  | 21 => ⟨S1x2048, .f32⟩
  | 22 => ⟨S2048, .f32⟩
  | 23 => ⟨S_, .f32⟩
  | 24 => ⟨S_, .f32⟩
  | 25 => ⟨S1x2048, .f32⟩
  | 26 => ⟨S2048, .f32⟩
  | 27 => ⟨S_, .f32⟩
  | 28 => ⟨S_, .f32⟩
  | 29 => ⟨S1, .f32⟩
  | 30 => ⟨S1, .f32⟩
  | 31 => ⟨S1, .f32⟩
  | 32 => ⟨S1, .f32⟩
  | 33 => ⟨S4, .f32⟩
  | 34 => ⟨S4x1, .f32⟩
  | 35 => ⟨S4x2048, .f32⟩
  | 36 => ⟨S4x2048, .f32⟩
  | 37 => ⟨S4, .i32⟩
  | 38 => ⟨S_, .i32⟩
  | 39 => ⟨S4, .i32⟩
  | 40 => ⟨S4, .i32⟩
  | 41 => ⟨S4x1, .i32⟩
  | 42 => ⟨S_, .i32⟩
  | 43 => ⟨S4, .i32⟩
  | 44 => ⟨S4, .i32⟩
  | 45 => ⟨S4x1, .i32⟩
  | 46 => ⟨S4x2, .i32⟩
  | 47 => ⟨S1, .i32⟩
  | 48 => ⟨S_, .i32⟩
  | 49 => ⟨S1, .i32⟩
  | 50 => ⟨S_, .i32⟩
  | 51 => ⟨S4x1, .i32⟩
  | 52 => ⟨S4x1, .i32⟩
  | 53 => ⟨S_, .i32⟩
  | 54 => ⟨S_, .i32⟩
  | 55 => ⟨S_, .i32⟩
  | 56 => ⟨S4x1, .i32⟩
  | 57 => ⟨S4x1, .i32⟩
  | 58 => ⟨S4x1, .i32⟩
  | 59 => ⟨S4x1, .i32⟩
  | 60 => ⟨S4x1, .i32⟩
  | 61 => ⟨S_, .i32⟩
  | 62 => ⟨S4x1, .i32⟩
  | 63 => ⟨S4x1, .i32⟩
  | 64 => ⟨S_, .i32⟩
  | 65 => ⟨S4x1, .i32⟩
  | 66 => ⟨S4x1, .i32⟩
  | 67 => ⟨S4x1, .i32⟩
  | 68 => ⟨S4x1, .i32⟩
  | 69 => ⟨S4x1, .i32⟩
  | 70 => ⟨S_, .i32⟩
  | 71 => ⟨S4x1, .i32⟩
  | 72 => ⟨S4x1, .i32⟩
  | 73 => ⟨S_, .i32⟩
  | 74 => ⟨S4x1, .i32⟩
  | 75 => ⟨S4x1, .i32⟩
  | 76 => ⟨S4x1, .i32⟩
  | 77 => ⟨S4x1, .i32⟩
  | 78 => ⟨S4x1, .i32⟩
  | 79 => ⟨S_, .i32⟩
  | 80 => ⟨S4x1, .i32⟩
  | 81 => ⟨S4x1, .i32⟩
  | 82 => ⟨S_, .i32⟩
  | 83 => ⟨S4x1, .i32⟩
  | 84 => ⟨S4x1, .i32⟩
  | 85 => ⟨S4x1, .i32⟩
  | 86 => ⟨S4x1, .i32⟩
  | 87 => ⟨S4x1, .i32⟩
  | 88 => ⟨S_, .i32⟩
  | 89 => ⟨S4x1, .i32⟩
  | 90 => ⟨S4x1, .i32⟩
  | 91 => ⟨S_, .i32⟩
  | 92 => ⟨S4x1, .i32⟩
  | 93 => ⟨S4x1, .i32⟩
  | 94 => ⟨S4x1, .i32⟩
  | 95 => ⟨S4x1, .i32⟩
  | 96 => ⟨S4x1, .i32⟩
  | 97 => ⟨S4x1, .i32⟩
  | 98 => ⟨S4x1, .i32⟩
  | 99 => ⟨S4x1, .i32⟩
  | 100 => ⟨S_, .i32⟩
  | 101 => ⟨S4x1, .i32⟩
  | 102 => ⟨S4x1, .i32⟩
  | 103 => ⟨S4x1, .i32⟩
  | 104 => ⟨S_, .i32⟩
  | 105 => ⟨S4x1, .i32⟩
  | 106 => ⟨S4x1, .i32⟩
  | 107 => ⟨S_, .i32⟩
  | 108 => ⟨S4x1, .i32⟩
  | 109 => ⟨S4x1, .i32⟩
  | 110 => ⟨S4x1, .i32⟩
  | 111 => ⟨S4x1, .i32⟩
  | 112 => ⟨S4x1, .i32⟩
  | 113 => ⟨S_, .i32⟩
  | 114 => ⟨S4x1, .i32⟩
  | 115 => ⟨S4x1, .i32⟩
  | 116 => ⟨S_, .i32⟩
  | 117 => ⟨S4x1, .i32⟩
  | 118 => ⟨S4x1, .i32⟩
  | 119 => ⟨S4x1, .i32⟩
  | 120 => ⟨S4x1, .i32⟩
  | 121 => ⟨S4x1, .i32⟩
  | 122 => ⟨S_, .i32⟩
  | 123 => ⟨S4x1, .i32⟩
  | 124 => ⟨S4x1, .i32⟩
  | 125 => ⟨S_, .i32⟩
  | 126 => ⟨S4x1, .i32⟩
  | 127 => ⟨S4x1, .i32⟩
  | _ => ⟨S4x2048x768, .f32⟩

abbrev hbmTy0_1 (i : Nat) : BufTy := match i % 128 with
  | 0 => ⟨S4x1, .i32⟩
  | 1 => ⟨S4x1, .i32⟩
  | 2 => ⟨S4x1, .i32⟩
  | 3 => ⟨S_, .i32⟩
  | 4 => ⟨S4x1, .i32⟩
  | 5 => ⟨S4x1, .i32⟩
  | 6 => ⟨S_, .i32⟩
  | 7 => ⟨S4x1, .i32⟩
  | 8 => ⟨S4x1, .i32⟩
  | 9 => ⟨S4x1, .i32⟩
  | 10 => ⟨S4x1, .i32⟩
  | 11 => ⟨S4x1, .i32⟩
  | 12 => ⟨S4x1, .i32⟩
  | 13 => ⟨S4x1, .i32⟩
  | 14 => ⟨S4x1, .i32⟩
  | 15 => ⟨S_, .i32⟩
  | 16 => ⟨S4x1, .i32⟩
  | 17 => ⟨S4x1, .i32⟩
  | 18 => ⟨S4x1, .i32⟩
  | 19 => ⟨S_, .i32⟩
  | 20 => ⟨S4x1, .i32⟩
  | 21 => ⟨S4x1, .i32⟩
  | 22 => ⟨S_, .i32⟩
  | 23 => ⟨S4x1, .i32⟩
  | 24 => ⟨S4x1, .i32⟩
  | 25 => ⟨S4x1, .i32⟩
  | 26 => ⟨S4x1, .i32⟩
  | 27 => ⟨S4x1, .i32⟩
  | 28 => ⟨S_, .i32⟩
  | 29 => ⟨S4x1, .i32⟩
  | 30 => ⟨S4x1, .i32⟩
  | 31 => ⟨S_, .i32⟩
  | 32 => ⟨S4x1, .i32⟩
  | 33 => ⟨S4x1, .i32⟩
  | 34 => ⟨S4x1, .i32⟩
  | 35 => ⟨S4x1, .i32⟩
  | 36 => ⟨S4x1, .i32⟩
  | 37 => ⟨S_, .i32⟩
  | 38 => ⟨S4x1, .i32⟩
  | 39 => ⟨S4x1, .i32⟩
  | 40 => ⟨S_, .i32⟩
  | 41 => ⟨S4x1, .i32⟩
  | 42 => ⟨S4x1, .i32⟩
  | 43 => ⟨S4x1, .i32⟩
  | 44 => ⟨S4x1, .i32⟩
  | 45 => ⟨S4x1, .i32⟩
  | 46 => ⟨S_, .i32⟩
  | 47 => ⟨S4x1, .i32⟩
  | 48 => ⟨S4x1, .i32⟩
  | 49 => ⟨S_, .i32⟩
  | 50 => ⟨S4x1, .i32⟩
  | 51 => ⟨S4x1, .i32⟩
  | 52 => ⟨S4x1, .i32⟩
  | 53 => ⟨S4x1, .i32⟩
  | 54 => ⟨S4x1, .i32⟩
  | 55 => ⟨S4x1, .i32⟩
  | 56 => ⟨S4x1, .i32⟩
  | 57 => ⟨S4x1, .i32⟩
  | 58 => ⟨S_, .i32⟩
  | 59 => ⟨S4x1, .i32⟩
  | 60 => ⟨S4x1, .i32⟩
  | 61 => ⟨S4x1, .i32⟩
  | 62 => ⟨S_, .i32⟩
  | 63 => ⟨S4x1, .i32⟩
  | 64 => ⟨S4x1, .i32⟩
  | 65 => ⟨S_, .i32⟩
  | 66 => ⟨S4x1, .i32⟩
  | 67 => ⟨S4x1, .i32⟩
  | 68 => ⟨S4x1, .i32⟩
  | 69 => ⟨S4x1, .i32⟩
  | 70 => ⟨S4x1, .i32⟩
  | 71 => ⟨S_, .i32⟩
  | 72 => ⟨S4x1, .i32⟩
  | 73 => ⟨S4x1, .i32⟩
  | 74 => ⟨S_, .i32⟩
  | 75 => ⟨S4x1, .i32⟩
  | 76 => ⟨S4x1, .i32⟩
  | 77 => ⟨S4x1, .i32⟩
  | 78 => ⟨S4x1, .i32⟩
  | 79 => ⟨S4x1, .i32⟩
  | 80 => ⟨S_, .i32⟩
  | 81 => ⟨S4x1, .i32⟩
  | 82 => ⟨S4x1, .i32⟩
  | 83 => ⟨S_, .i32⟩
  | 84 => ⟨S4x1, .i32⟩
  | 85 => ⟨S4x1, .i32⟩
  | 86 => ⟨S4x1, .i32⟩
  | 87 => ⟨S4x1, .i32⟩
  | 88 => ⟨S4x1, .i32⟩
  | 89 => ⟨S_, .i32⟩
  | 90 => ⟨S4x1, .i32⟩
  | 91 => ⟨S4x1, .i32⟩
  | 92 => ⟨S_, .i32⟩
  | 93 => ⟨S4x1, .i32⟩
  | 94 => ⟨S4x1, .i32⟩
  | 95 => ⟨S4x1, .i32⟩
  | 96 => ⟨S4x1, .i32⟩
  | 97 => ⟨S4x1, .i32⟩
  | 98 => ⟨S4x1, .i32⟩
  | 99 => ⟨S4x1, .i32⟩
  | 100 => ⟨S4x1, .i32⟩
  | 101 => ⟨S_, .i32⟩
  | 102 => ⟨S4x1, .i32⟩
  | 103 => ⟨S4x1, .i32⟩
  | 104 => ⟨S4x1, .i32⟩
  | 105 => ⟨S_, .i32⟩
  | 106 => ⟨S4x1, .i32⟩
  | 107 => ⟨S4x1, .i32⟩
  | 108 => ⟨S_, .i32⟩
  | 109 => ⟨S4x1, .i32⟩
  | 110 => ⟨S4x1, .i32⟩
  | 111 => ⟨S4x1, .i32⟩
  | 112 => ⟨S4x1, .i32⟩
  | 113 => ⟨S4x1, .i32⟩
  | 114 => ⟨S_, .i32⟩
  | 115 => ⟨S4x1, .i32⟩
  | 116 => ⟨S4x1, .i32⟩
  | 117 => ⟨S_, .i32⟩
  | 118 => ⟨S4x1, .i32⟩
  | 119 => ⟨S4x1, .i32⟩
  | 120 => ⟨S4x1, .i32⟩
  | 121 => ⟨S4x1, .i32⟩
  | 122 => ⟨S4x1, .i32⟩
  | 123 => ⟨S_, .i32⟩
  | 124 => ⟨S4x1, .i32⟩
  | 125 => ⟨S4x1, .i32⟩
  | 126 => ⟨S_, .i32⟩
  | 127 => ⟨S4x1, .i32⟩
  | _ => ⟨S4x2048x768, .f32⟩

abbrev hbmTy0_2 (i : Nat) : BufTy := match i % 128 with
  | 0 => ⟨S4x1, .i32⟩
  | 1 => ⟨S4x1, .i32⟩
  | 2 => ⟨S4x1, .i32⟩
  | 3 => ⟨S4x1, .i32⟩
  | 4 => ⟨S_, .i32⟩
  | 5 => ⟨S4x1, .i32⟩
  | 6 => ⟨S4x1, .i32⟩
  | 7 => ⟨S_, .i32⟩
  | 8 => ⟨S4x1, .i32⟩
  | 9 => ⟨S4x1, .i32⟩
  | 10 => ⟨S4x1, .i32⟩
  | 11 => ⟨S4x1, .i32⟩
  | 12 => ⟨S4x1, .i32⟩
  | 13 => ⟨S4x1, .i32⟩
  | 14 => ⟨S4x1, .i32⟩
  | 15 => ⟨S4x1, .i32⟩
  | 16 => ⟨S_, .i32⟩
  | 17 => ⟨S4x1, .i32⟩
  | 18 => ⟨S4x1, .i32⟩
  | 19 => ⟨S4x2, .i32⟩
  | 20 => ⟨S_, .f32⟩
  | 21 => ⟨S_, .f32⟩
  | 22 => ⟨S_, .f32⟩
  | 23 => ⟨S1, .f32⟩
  | 24 => ⟨S1, .f32⟩
  | 25 => ⟨S4x1, .i32⟩
  | 26 => ⟨S4, .i32⟩
  | 27 => ⟨S4x1, .i32⟩
  | 28 => ⟨S4, .i32⟩
  | 29 => ⟨S2048, .i64⟩
  | 30 => ⟨S_, .i64⟩
  | 31 => ⟨S2048, .i64⟩
  | 32 => ⟨S2048, .i64⟩
  | 33 => ⟨S_, .i64⟩
  | 34 => ⟨S2048, .i64⟩
  | 35 => ⟨S2048, .i64⟩
  | 36 => ⟨S2048, .i32⟩
  | 37 => ⟨S2048, .i32⟩
  | 38 => ⟨S1x2048, .i32⟩
  | 39 => ⟨S1x2048, .i32⟩
  | 40 => ⟨S4x1, .i32⟩
  | 41 => ⟨S4x1, .i32⟩
  | 42 => ⟨S4x1, .i32⟩
  | 43 => ⟨S_, .i32⟩
  | 44 => ⟨S4x1, .i32⟩
  | 45 => ⟨S4x1, .i32⟩
  | 46 => ⟨S4x2048, .i32⟩
  | 47 => ⟨S4x2048, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S_, .i32⟩
  | 81 => ⟨S4x2048, .i32⟩
  | 82 => ⟨S4x2048, .i32⟩
  | 83 => ⟨S_, .i32⟩
  | 84 => ⟨S4x2048, .i32⟩
  | 85 => ⟨S4x2048, .i32⟩
  | 86 => ⟨S4x2048, .i32⟩
  | 87 => ⟨S4x2048, .i32⟩
  | 88 => ⟨S4x2048, .i32⟩
  | 89 => ⟨S4x2048, .i32⟩
  | 90 => ⟨S4x2048, .i32⟩
  | 91 => ⟨S4x2048, .i32⟩
  | 92 => ⟨S_, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S_, .i32⟩
  | 124 => ⟨S4x2048, .i32⟩
  | 125 => ⟨S4x2048, .i32⟩
  | 126 => ⟨S_, .i32⟩
  | 127 => ⟨S4x2048, .i32⟩
  | _ => ⟨S4x2048x768, .f32⟩

abbrev hbmTy0_3 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S4x2048, .i32⟩
  | 6 => ⟨S4x2048, .i32⟩
  | 7 => ⟨S_, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S4x2048, .i32⟩
  | 45 => ⟨S4x2048, .i32⟩
  | 46 => ⟨S4x2048, .i32⟩
  | 47 => ⟨S4x2048, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S4x2048, .i32⟩
  | 88 => ⟨S4x2048, .i32⟩
  | 89 => ⟨S4x2048, .i32⟩
  | 90 => ⟨S4x2048, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S_, .i32⟩
  | _ => ⟨S4x2048x768, .f32⟩

abbrev hbmTy0_4 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S4x2048, .i32⟩
  | 12 => ⟨S_, .i32⟩
  | 13 => ⟨S4x2048, .i32⟩
  | 14 => ⟨S4x2048, .i32⟩
  | 15 => ⟨S_, .i32⟩
  | 16 => ⟨S4x2048, .i32⟩
  | 17 => ⟨S4x2048, .i32⟩
  | 18 => ⟨S4x2048, .f32⟩
  | 19 => ⟨S_, .f32⟩
  | 20 => ⟨S4x2048, .f32⟩
  | 21 => ⟨S4x2048, .f32⟩
  | 22 => ⟨S1, .f32⟩
  | 23 => ⟨S1x1, .f32⟩
  | 24 => ⟨S4x2048, .f32⟩
  | 25 => ⟨S4x2048, .f32⟩
  | 26 => ⟨S1x1, .f32⟩
  | 27 => ⟨S4x2048, .f32⟩
  | 28 => ⟨S4x2048, .f32⟩
  | 29 => ⟨S1x1, .f32⟩
  | 30 => ⟨S4x2048, .f32⟩
  | 31 => ⟨S4x2048, .f32⟩
  | 32 => ⟨S4x2048, .f32⟩
  | 33 => ⟨S4x2048, .f32⟩
  | 34 => ⟨S4x2048, .f32⟩
  | 35 => ⟨S4x2048, .f32⟩
  | 36 => ⟨S4x2048, .f32⟩
  | 37 => ⟨S4x2048, .f32⟩
  | 38 => ⟨S4x256, .f32⟩
  | 39 => ⟨S4x256, .i32⟩
  | 40 => ⟨S1024, .i32⟩
  | 41 => ⟨S8192x768, .f32⟩
  | 42 => ⟨S1024x768, .f32⟩
  | 43 => ⟨S4x256x768, .f32⟩
  | 44 => ⟨S_, .f32⟩
  | _ => ⟨S4x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x768, .f32⟩

abbrev bufTy : (tb : Table) → Fin (nBuf tb) → BufTy
  | .hbm, ⟨i, _⟩ => hbmTy i
  | .local .tc .vmem, ⟨0, _⟩ => ⟨S1x2048x768, .f32⟩
  | .local .tc .vmem, ⟨1, _⟩ => ⟨S1x2048x768, .f32⟩
  | .local .tc .vmem, ⟨2, _⟩ => ⟨S1x1x2048, .f32⟩
  | .local .tc .vmem, ⟨3, _⟩ => ⟨S1x1x2048, .f32⟩
  | .local .scVector .vmem, ⟨0, _⟩ => ⟨S32, .i32⟩
  | .local .scVector .vmem, ⟨1, _⟩ => ⟨S32x768, .f32⟩
  | _, _ => ⟨S4x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_c_0 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v13_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v13_1 : Ref sig .tc := ⟨.hbm, 274, rfl⟩
abbrev main_v30 : Ref sig .tc := ⟨.hbm, 275, rfl⟩
abbrev main_call1_cst : Ref sig .tc := ⟨.hbm, 276, rfl⟩
abbrev main_call1_cst_0 : Ref sig .tc := ⟨.hbm, 277, rfl⟩
abbrev main_call1_call0_v0 : Ref sig .tc := ⟨.hbm, 278, rfl⟩
abbrev main_call1_call0_v1 : Ref sig .tc := ⟨.hbm, 279, rfl⟩
abbrev main_call1_call0_v2 : Ref sig .tc := ⟨.hbm, 280, rfl⟩
abbrev main_call1_call0_v3 : Ref sig .tc := ⟨.hbm, 281, rfl⟩
abbrev main_call1_call0_v4 : Ref sig .tc := ⟨.hbm, 282, rfl⟩
abbrev main_call1_call0_v5 : Ref sig .tc := ⟨.hbm, 283, rfl⟩
abbrev main_call1_call0_v6 : Ref sig .tc := ⟨.hbm, 284, rfl⟩
abbrev main_call1_call0_v7 : Ref sig .tc := ⟨.hbm, 285, rfl⟩
abbrev main_call1_call0_c : Ref sig .tc := ⟨.hbm, 286, rfl⟩
abbrev main_call1_call0_v8 : Ref sig .tc := ⟨.hbm, 287, rfl⟩
abbrev main_call1_call0_v9 : Ref sig .tc := ⟨.hbm, 288, rfl⟩
abbrev main_call1_call0_c_0 : Ref sig .tc := ⟨.hbm, 289, rfl⟩
abbrev main_call1_call0_v10 : Ref sig .tc := ⟨.hbm, 290, rfl⟩
abbrev main_call1_call0_v11 : Ref sig .tc := ⟨.hbm, 291, rfl⟩
abbrev main_call1_call0_v12 : Ref sig .tc := ⟨.hbm, 292, rfl⟩
abbrev main_call1_call0_v13 : Ref sig .tc := ⟨.hbm, 293, rfl⟩
abbrev main_call1_call0_v14 : Ref sig .tc := ⟨.hbm, 294, rfl⟩
abbrev main_call1_call0_v15 : Ref sig .tc := ⟨.hbm, 295, rfl⟩
abbrev main_call1_call0_v16 : Ref sig .tc := ⟨.hbm, 296, rfl⟩
abbrev main_call1_call0_v17 : Ref sig .tc := ⟨.hbm, 297, rfl⟩
abbrev main_call1_call0_call0_v0 : Ref sig .tc := ⟨.hbm, 298, rfl⟩
abbrev main_call1_call0_call0_c : Ref sig .tc := ⟨.hbm, 299, rfl⟩
abbrev main_call1_call0_call0_v1 : Ref sig .tc := ⟨.hbm, 300, rfl⟩
abbrev main_call1_call0_call0_v2 : Ref sig .tc := ⟨.hbm, 301, rfl⟩
abbrev main_call1_call0_call0_v3 : Ref sig .tc := ⟨.hbm, 302, rfl⟩
abbrev main_call1_call0_call0_v4 : Ref sig .tc := ⟨.hbm, 303, rfl⟩
abbrev main_call1_call0_call0_v5 : Ref sig .tc := ⟨.hbm, 304, rfl⟩
abbrev main_call1_call0_call0_v6 : Ref sig .tc := ⟨.hbm, 305, rfl⟩
abbrev main_call1_call0_call0_v7 : Ref sig .tc := ⟨.hbm, 306, rfl⟩
abbrev main_call1_call0_call0_v8 : Ref sig .tc := ⟨.hbm, 307, rfl⟩
abbrev main_call1_call0_call0_v9 : Ref sig .tc := ⟨.hbm, 308, rfl⟩
abbrev main_call1_call0_call0_c_0 : Ref sig .tc := ⟨.hbm, 309, rfl⟩
abbrev main_call1_call0_call0_v10 : Ref sig .tc := ⟨.hbm, 310, rfl⟩
abbrev main_call1_call0_call0_v11 : Ref sig .tc := ⟨.hbm, 311, rfl⟩
abbrev main_call1_call0_call0_c_1 : Ref sig .tc := ⟨.hbm, 312, rfl⟩
abbrev main_call1_call0_call0_v12 : Ref sig .tc := ⟨.hbm, 313, rfl⟩
abbrev main_call1_call0_call0_v13 : Ref sig .tc := ⟨.hbm, 314, rfl⟩
abbrev main_call1_call0_call0_v14 : Ref sig .tc := ⟨.hbm, 315, rfl⟩
abbrev main_call1_call0_call0_v15 : Ref sig .tc := ⟨.hbm, 316, rfl⟩
abbrev main_call1_call0_call0_v16 : Ref sig .tc := ⟨.hbm, 317, rfl⟩
abbrev main_call1_call0_call0_c_2 : Ref sig .tc := ⟨.hbm, 318, rfl⟩
abbrev main_call1_call0_call0_v17 : Ref sig .tc := ⟨.hbm, 319, rfl⟩
abbrev main_call1_call0_call0_v18 : Ref sig .tc := ⟨.hbm, 320, rfl⟩
abbrev main_call1_call0_call0_c_3 : Ref sig .tc := ⟨.hbm, 321, rfl⟩
abbrev main_call1_call0_call0_v19 : Ref sig .tc := ⟨.hbm, 322, rfl⟩
abbrev main_call1_call0_call0_v20 : Ref sig .tc := ⟨.hbm, 323, rfl⟩
abbrev main_call1_call0_call0_v21 : Ref sig .tc := ⟨.hbm, 324, rfl⟩
abbrev main_call1_call0_call0_v22 : Ref sig .tc := ⟨.hbm, 325, rfl⟩
abbrev main_call1_call0_call0_v23 : Ref sig .tc := ⟨.hbm, 326, rfl⟩
abbrev main_call1_call0_call0_c_4 : Ref sig .tc := ⟨.hbm, 327, rfl⟩
abbrev main_call1_call0_call0_v24 : Ref sig .tc := ⟨.hbm, 328, rfl⟩
abbrev main_call1_call0_call0_v25 : Ref sig .tc := ⟨.hbm, 329, rfl⟩
abbrev main_call1_call0_call0_c_5 : Ref sig .tc := ⟨.hbm, 330, rfl⟩
abbrev main_call1_call0_call0_v26 : Ref sig .tc := ⟨.hbm, 331, rfl⟩
abbrev main_call1_call0_call0_v27 : Ref sig .tc := ⟨.hbm, 332, rfl⟩
abbrev main_call1_call0_call0_v28 : Ref sig .tc := ⟨.hbm, 333, rfl⟩
abbrev main_call1_call0_call0_v29 : Ref sig .tc := ⟨.hbm, 334, rfl⟩
abbrev main_call1_call0_call0_v30 : Ref sig .tc := ⟨.hbm, 335, rfl⟩
abbrev main_call1_call0_call0_c_6 : Ref sig .tc := ⟨.hbm, 336, rfl⟩
abbrev main_call1_call0_call0_v31 : Ref sig .tc := ⟨.hbm, 337, rfl⟩
abbrev main_call1_call0_call0_v32 : Ref sig .tc := ⟨.hbm, 338, rfl⟩
abbrev main_call1_call0_call0_c_7 : Ref sig .tc := ⟨.hbm, 339, rfl⟩
abbrev main_call1_call0_call0_v33 : Ref sig .tc := ⟨.hbm, 340, rfl⟩
abbrev main_call1_call0_call0_v34 : Ref sig .tc := ⟨.hbm, 341, rfl⟩
abbrev main_call1_call0_call0_v35 : Ref sig .tc := ⟨.hbm, 342, rfl⟩
abbrev main_call1_call0_call0_v36 : Ref sig .tc := ⟨.hbm, 343, rfl⟩
abbrev main_call1_call0_call0_v37 : Ref sig .tc := ⟨.hbm, 344, rfl⟩
abbrev main_call1_call0_call0_v38 : Ref sig .tc := ⟨.hbm, 345, rfl⟩
abbrev main_call1_call0_call0_v39 : Ref sig .tc := ⟨.hbm, 346, rfl⟩
abbrev main_call1_call0_call0_v40 : Ref sig .tc := ⟨.hbm, 347, rfl⟩
abbrev main_call1_call0_call0_c_8 : Ref sig .tc := ⟨.hbm, 348, rfl⟩
abbrev main_call1_call0_call0_v41 : Ref sig .tc := ⟨.hbm, 349, rfl⟩
abbrev main_call1_call0_call0_v42 : Ref sig .tc := ⟨.hbm, 350, rfl⟩
abbrev main_call1_call0_call0_v43 : Ref sig .tc := ⟨.hbm, 351, rfl⟩
abbrev main_call1_call0_call0_c_9 : Ref sig .tc := ⟨.hbm, 352, rfl⟩
abbrev main_call1_call0_call0_v44 : Ref sig .tc := ⟨.hbm, 353, rfl⟩
abbrev main_call1_call0_call0_v45 : Ref sig .tc := ⟨.hbm, 354, rfl⟩
abbrev main_call1_call0_call0_c_10 : Ref sig .tc := ⟨.hbm, 355, rfl⟩
abbrev main_call1_call0_call0_v46 : Ref sig .tc := ⟨.hbm, 356, rfl⟩
abbrev main_call1_call0_call0_v47 : Ref sig .tc := ⟨.hbm, 357, rfl⟩
abbrev main_call1_call0_call0_v48 : Ref sig .tc := ⟨.hbm, 358, rfl⟩
abbrev main_call1_call0_call0_v49 : Ref sig .tc := ⟨.hbm, 359, rfl⟩
abbrev main_call1_call0_call0_v50 : Ref sig .tc := ⟨.hbm, 360, rfl⟩
abbrev main_call1_call0_call0_c_11 : Ref sig .tc := ⟨.hbm, 361, rfl⟩
abbrev main_call1_call0_call0_v51 : Ref sig .tc := ⟨.hbm, 362, rfl⟩
abbrev main_call1_call0_call0_v52 : Ref sig .tc := ⟨.hbm, 363, rfl⟩
abbrev main_call1_call0_call0_c_12 : Ref sig .tc := ⟨.hbm, 364, rfl⟩
abbrev main_call1_call0_call0_v53 : Ref sig .tc := ⟨.hbm, 365, rfl⟩
abbrev main_call1_call0_call0_v54 : Ref sig .tc := ⟨.hbm, 366, rfl⟩
abbrev main_call1_call0_call0_v55 : Ref sig .tc := ⟨.hbm, 367, rfl⟩
abbrev main_call1_call0_call0_v56 : Ref sig .tc := ⟨.hbm, 368, rfl⟩
abbrev main_call1_call0_call0_v57 : Ref sig .tc := ⟨.hbm, 369, rfl⟩
abbrev main_call1_call0_call0_c_13 : Ref sig .tc := ⟨.hbm, 370, rfl⟩
abbrev main_call1_call0_call0_v58 : Ref sig .tc := ⟨.hbm, 371, rfl⟩
abbrev main_call1_call0_call0_v59 : Ref sig .tc := ⟨.hbm, 372, rfl⟩
abbrev main_call1_call0_call0_c_14 : Ref sig .tc := ⟨.hbm, 373, rfl⟩
abbrev main_call1_call0_call0_v60 : Ref sig .tc := ⟨.hbm, 374, rfl⟩
abbrev main_call1_call0_call0_v61 : Ref sig .tc := ⟨.hbm, 375, rfl⟩
abbrev main_call1_call0_call0_v62 : Ref sig .tc := ⟨.hbm, 376, rfl⟩
abbrev main_call1_call0_call0_v63 : Ref sig .tc := ⟨.hbm, 377, rfl⟩
abbrev main_call1_call0_call0_v64 : Ref sig .tc := ⟨.hbm, 378, rfl⟩
abbrev main_call1_call0_call0_c_15 : Ref sig .tc := ⟨.hbm, 379, rfl⟩
abbrev main_call1_call0_call0_v65 : Ref sig .tc := ⟨.hbm, 380, rfl⟩
abbrev main_call1_call0_call0_v66 : Ref sig .tc := ⟨.hbm, 381, rfl⟩
abbrev main_call1_call0_call0_c_16 : Ref sig .tc := ⟨.hbm, 382, rfl⟩
abbrev main_call1_call0_call0_v67 : Ref sig .tc := ⟨.hbm, 383, rfl⟩
abbrev main_call1_call0_call0_v68 : Ref sig .tc := ⟨.hbm, 384, rfl⟩
abbrev main_call1_call0_call0_v69 : Ref sig .tc := ⟨.hbm, 385, rfl⟩
abbrev main_call1_call0_call0_v70 : Ref sig .tc := ⟨.hbm, 386, rfl⟩
abbrev main_call1_call0_call0_v71 : Ref sig .tc := ⟨.hbm, 387, rfl⟩
abbrev main_call1_call0_call0_v72 : Ref sig .tc := ⟨.hbm, 388, rfl⟩
abbrev main_call1_call0_call0_v73 : Ref sig .tc := ⟨.hbm, 389, rfl⟩
abbrev main_call1_call0_call0_v74 : Ref sig .tc := ⟨.hbm, 390, rfl⟩
abbrev main_call1_call0_call0_c_17 : Ref sig .tc := ⟨.hbm, 391, rfl⟩
abbrev main_call1_call0_call0_v75 : Ref sig .tc := ⟨.hbm, 392, rfl⟩
abbrev main_call1_call0_call0_v76 : Ref sig .tc := ⟨.hbm, 393, rfl⟩
abbrev main_call1_call0_call0_v77 : Ref sig .tc := ⟨.hbm, 394, rfl⟩
abbrev main_call1_call0_call0_c_18 : Ref sig .tc := ⟨.hbm, 395, rfl⟩
abbrev main_call1_call0_call0_v78 : Ref sig .tc := ⟨.hbm, 396, rfl⟩
abbrev main_call1_call0_call0_v79 : Ref sig .tc := ⟨.hbm, 397, rfl⟩
abbrev main_call1_call0_call0_c_19 : Ref sig .tc := ⟨.hbm, 398, rfl⟩
abbrev main_call1_call0_call0_v80 : Ref sig .tc := ⟨.hbm, 399, rfl⟩
abbrev main_call1_call0_call0_v81 : Ref sig .tc := ⟨.hbm, 400, rfl⟩
abbrev main_call1_call0_call0_v82 : Ref sig .tc := ⟨.hbm, 401, rfl⟩
abbrev main_call1_call0_call0_v83 : Ref sig .tc := ⟨.hbm, 402, rfl⟩
abbrev main_call1_call0_call0_v84 : Ref sig .tc := ⟨.hbm, 403, rfl⟩
abbrev main_call1_call0_call0_c_20 : Ref sig .tc := ⟨.hbm, 404, rfl⟩
abbrev main_call1_call0_call0_v85 : Ref sig .tc := ⟨.hbm, 405, rfl⟩
abbrev main_call1_call0_call0_v86 : Ref sig .tc := ⟨.hbm, 406, rfl⟩
abbrev main_call1_call0_call0_c_21 : Ref sig .tc := ⟨.hbm, 407, rfl⟩
abbrev main_call1_call0_call0_v87 : Ref sig .tc := ⟨.hbm, 408, rfl⟩
abbrev main_call1_call0_call0_v88 : Ref sig .tc := ⟨.hbm, 409, rfl⟩
abbrev main_call1_call0_call0_v89 : Ref sig .tc := ⟨.hbm, 410, rfl⟩
abbrev main_call1_call0_call0_v90 : Ref sig .tc := ⟨.hbm, 411, rfl⟩
abbrev main_call1_call0_call0_v91 : Ref sig .tc := ⟨.hbm, 412, rfl⟩
abbrev main_call1_call0_call0_c_22 : Ref sig .tc := ⟨.hbm, 413, rfl⟩
abbrev main_call1_call0_call0_v92 : Ref sig .tc := ⟨.hbm, 414, rfl⟩
abbrev main_call1_call0_call0_v93 : Ref sig .tc := ⟨.hbm, 415, rfl⟩
abbrev main_call1_call0_call0_c_23 : Ref sig .tc := ⟨.hbm, 416, rfl⟩
abbrev main_call1_call0_call0_v94 : Ref sig .tc := ⟨.hbm, 417, rfl⟩
abbrev main_call1_call0_call0_v95 : Ref sig .tc := ⟨.hbm, 418, rfl⟩
abbrev main_call1_call0_call0_v96 : Ref sig .tc := ⟨.hbm, 419, rfl⟩
abbrev main_call1_call0_call0_v97 : Ref sig .tc := ⟨.hbm, 420, rfl⟩
abbrev main_call1_call0_call0_v98 : Ref sig .tc := ⟨.hbm, 421, rfl⟩
abbrev main_call1_call0_call0_c_24 : Ref sig .tc := ⟨.hbm, 422, rfl⟩
abbrev main_call1_call0_call0_v99 : Ref sig .tc := ⟨.hbm, 423, rfl⟩
abbrev main_call1_call0_call0_v100 : Ref sig .tc := ⟨.hbm, 424, rfl⟩
abbrev main_call1_call0_call0_c_25 : Ref sig .tc := ⟨.hbm, 425, rfl⟩
abbrev main_call1_call0_call0_v101 : Ref sig .tc := ⟨.hbm, 426, rfl⟩
abbrev main_call1_call0_call0_v102 : Ref sig .tc := ⟨.hbm, 427, rfl⟩
abbrev main_call1_call0_call0_v103 : Ref sig .tc := ⟨.hbm, 428, rfl⟩
abbrev main_call1_call0_call0_v104 : Ref sig .tc := ⟨.hbm, 429, rfl⟩
abbrev main_call1_call0_call0_v105 : Ref sig .tc := ⟨.hbm, 430, rfl⟩
abbrev main_call1_call0_call0_v106 : Ref sig .tc := ⟨.hbm, 431, rfl⟩
abbrev main_call1_call0_call0_v107 : Ref sig .tc := ⟨.hbm, 432, rfl⟩
abbrev main_call1_call0_call0_v108 : Ref sig .tc := ⟨.hbm, 433, rfl⟩
abbrev main_call1_call0_call0_c_26 : Ref sig .tc := ⟨.hbm, 434, rfl⟩
abbrev main_call1_call0_call0_v109 : Ref sig .tc := ⟨.hbm, 435, rfl⟩
abbrev main_call1_call0_call0_v110 : Ref sig .tc := ⟨.hbm, 436, rfl⟩
abbrev main_call1_call0_call0_v111 : Ref sig .tc := ⟨.hbm, 437, rfl⟩
abbrev main_call1_call0_call0_c_27 : Ref sig .tc := ⟨.hbm, 438, rfl⟩
abbrev main_call1_call0_call0_v112 : Ref sig .tc := ⟨.hbm, 439, rfl⟩
abbrev main_call1_call0_call0_v113 : Ref sig .tc := ⟨.hbm, 440, rfl⟩
abbrev main_call1_call0_call0_c_28 : Ref sig .tc := ⟨.hbm, 441, rfl⟩
abbrev main_call1_call0_call0_v114 : Ref sig .tc := ⟨.hbm, 442, rfl⟩
abbrev main_call1_call0_call0_v115 : Ref sig .tc := ⟨.hbm, 443, rfl⟩
abbrev main_call1_call0_call0_v116 : Ref sig .tc := ⟨.hbm, 444, rfl⟩
abbrev main_call1_call0_call0_v117 : Ref sig .tc := ⟨.hbm, 445, rfl⟩
abbrev main_call1_call0_call0_v118 : Ref sig .tc := ⟨.hbm, 446, rfl⟩
abbrev main_call1_call0_call0_c_29 : Ref sig .tc := ⟨.hbm, 447, rfl⟩
abbrev main_call1_call0_call0_v119 : Ref sig .tc := ⟨.hbm, 448, rfl⟩
abbrev main_call1_call0_call0_v120 : Ref sig .tc := ⟨.hbm, 449, rfl⟩
abbrev main_call1_call0_call0_c_30 : Ref sig .tc := ⟨.hbm, 450, rfl⟩
abbrev main_call1_call0_call0_v121 : Ref sig .tc := ⟨.hbm, 451, rfl⟩
abbrev main_call1_call0_call0_v122 : Ref sig .tc := ⟨.hbm, 452, rfl⟩
abbrev main_call1_call0_call0_v123 : Ref sig .tc := ⟨.hbm, 453, rfl⟩
abbrev main_call1_call0_call0_v124 : Ref sig .tc := ⟨.hbm, 454, rfl⟩
abbrev main_call1_call0_call0_v125 : Ref sig .tc := ⟨.hbm, 455, rfl⟩
abbrev main_call1_call0_call0_c_31 : Ref sig .tc := ⟨.hbm, 456, rfl⟩
abbrev main_call1_call0_call0_v126 : Ref sig .tc := ⟨.hbm, 457, rfl⟩
abbrev main_call1_call0_call0_v127 : Ref sig .tc := ⟨.hbm, 458, rfl⟩
abbrev main_call1_call0_call0_c_32 : Ref sig .tc := ⟨.hbm, 459, rfl⟩
abbrev main_call1_call0_call0_v128 : Ref sig .tc := ⟨.hbm, 460, rfl⟩
abbrev main_call1_call0_call0_v129 : Ref sig .tc := ⟨.hbm, 461, rfl⟩
abbrev main_call1_call0_call0_v130 : Ref sig .tc := ⟨.hbm, 462, rfl⟩
abbrev main_call1_call0_call0_v131 : Ref sig .tc := ⟨.hbm, 463, rfl⟩
abbrev main_call1_call0_call0_v132 : Ref sig .tc := ⟨.hbm, 464, rfl⟩
abbrev main_call1_call0_call0_c_33 : Ref sig .tc := ⟨.hbm, 465, rfl⟩
abbrev main_call1_call0_call0_v133 : Ref sig .tc := ⟨.hbm, 466, rfl⟩
abbrev main_call1_call0_call0_v134 : Ref sig .tc := ⟨.hbm, 467, rfl⟩
abbrev main_call1_call0_call0_c_34 : Ref sig .tc := ⟨.hbm, 468, rfl⟩
abbrev main_call1_call0_call0_v135 : Ref sig .tc := ⟨.hbm, 469, rfl⟩
abbrev main_call1_call0_call0_v136 : Ref sig .tc := ⟨.hbm, 470, rfl⟩
abbrev main_call1_call0_call0_v137 : Ref sig .tc := ⟨.hbm, 471, rfl⟩
abbrev main_call1_call0_call0_v138 : Ref sig .tc := ⟨.hbm, 472, rfl⟩
abbrev main_call1_call0_call0_v139 : Ref sig .tc := ⟨.hbm, 473, rfl⟩
abbrev main_call1_call0_call0_v140 : Ref sig .tc := ⟨.hbm, 474, rfl⟩
abbrev main_call1_call0_call0_v141 : Ref sig .tc := ⟨.hbm, 475, rfl⟩
abbrev main_call1_call0_call0_v142 : Ref sig .tc := ⟨.hbm, 476, rfl⟩
abbrev main_call1_call0_call0_c_35 : Ref sig .tc := ⟨.hbm, 477, rfl⟩
abbrev main_call1_call0_call0_v143 : Ref sig .tc := ⟨.hbm, 478, rfl⟩
abbrev main_call1_call0_call0_v144 : Ref sig .tc := ⟨.hbm, 479, rfl⟩
abbrev main_call1_call0_call0_v145 : Ref sig .tc := ⟨.hbm, 480, rfl⟩
abbrev main_call1_call0_call0_c_36 : Ref sig .tc := ⟨.hbm, 481, rfl⟩
abbrev main_call1_call0_call0_v146 : Ref sig .tc := ⟨.hbm, 482, rfl⟩
abbrev main_call1_call0_call0_v147 : Ref sig .tc := ⟨.hbm, 483, rfl⟩
abbrev main_call1_call0_call0_c_37 : Ref sig .tc := ⟨.hbm, 484, rfl⟩
abbrev main_call1_call0_call0_v148 : Ref sig .tc := ⟨.hbm, 485, rfl⟩
abbrev main_call1_call0_call0_v149 : Ref sig .tc := ⟨.hbm, 486, rfl⟩
abbrev main_call1_call0_call0_v150 : Ref sig .tc := ⟨.hbm, 487, rfl⟩
abbrev main_call1_call0_call0_v151 : Ref sig .tc := ⟨.hbm, 488, rfl⟩
abbrev main_call1_call0_call0_v152 : Ref sig .tc := ⟨.hbm, 489, rfl⟩
abbrev main_call1_call0_call0_c_38 : Ref sig .tc := ⟨.hbm, 490, rfl⟩
abbrev main_call1_call0_call0_v153 : Ref sig .tc := ⟨.hbm, 491, rfl⟩
abbrev main_call1_call0_call0_v154 : Ref sig .tc := ⟨.hbm, 492, rfl⟩
abbrev main_call1_call0_call0_c_39 : Ref sig .tc := ⟨.hbm, 493, rfl⟩
abbrev main_call1_call0_call0_v155 : Ref sig .tc := ⟨.hbm, 494, rfl⟩
abbrev main_call1_call0_call0_v156 : Ref sig .tc := ⟨.hbm, 495, rfl⟩
abbrev main_call1_call0_call0_v157 : Ref sig .tc := ⟨.hbm, 496, rfl⟩
abbrev main_call1_call0_call0_v158 : Ref sig .tc := ⟨.hbm, 497, rfl⟩
abbrev main_call1_call0_call0_v159 : Ref sig .tc := ⟨.hbm, 498, rfl⟩
abbrev main_call1_call0_call0_c_40 : Ref sig .tc := ⟨.hbm, 499, rfl⟩
abbrev main_call1_call0_call0_v160 : Ref sig .tc := ⟨.hbm, 500, rfl⟩
abbrev main_call1_call0_call0_v161 : Ref sig .tc := ⟨.hbm, 501, rfl⟩
abbrev main_call1_call0_call0_c_41 : Ref sig .tc := ⟨.hbm, 502, rfl⟩
abbrev main_call1_call0_call0_v162 : Ref sig .tc := ⟨.hbm, 503, rfl⟩
abbrev main_call1_call0_call0_v163 : Ref sig .tc := ⟨.hbm, 504, rfl⟩
abbrev main_call1_call0_call0_v164 : Ref sig .tc := ⟨.hbm, 505, rfl⟩
abbrev main_call1_call0_call0_v165 : Ref sig .tc := ⟨.hbm, 506, rfl⟩
abbrev main_call1_call0_call0_v166 : Ref sig .tc := ⟨.hbm, 507, rfl⟩
abbrev main_call1_call0_call0_c_42 : Ref sig .tc := ⟨.hbm, 508, rfl⟩
abbrev main_call1_call0_call0_v167 : Ref sig .tc := ⟨.hbm, 509, rfl⟩
abbrev main_call1_call0_call0_v168 : Ref sig .tc := ⟨.hbm, 510, rfl⟩
abbrev main_call1_call0_call0_c_43 : Ref sig .tc := ⟨.hbm, 511, rfl⟩
abbrev main_call1_call0_call0_v169 : Ref sig .tc := ⟨.hbm, 512, rfl⟩
abbrev main_call1_call0_call0_v170 : Ref sig .tc := ⟨.hbm, 513, rfl⟩
abbrev main_call1_call0_call0_v171 : Ref sig .tc := ⟨.hbm, 514, rfl⟩
abbrev main_call1_call0_call0_v172 : Ref sig .tc := ⟨.hbm, 515, rfl⟩
abbrev main_call1_call0_call0_v173 : Ref sig .tc := ⟨.hbm, 516, rfl⟩
abbrev main_call1_call0_v18_0 : Ref sig .tc := ⟨.hbm, 517, rfl⟩
abbrev main_call1_call0_call0_v175 : Ref sig .tc := ⟨.hbm, 518, rfl⟩
abbrev main_call1_call0_call0_v176 : Ref sig .tc := ⟨.hbm, 519, rfl⟩
abbrev main_call1_call0_call0_c_44 : Ref sig .tc := ⟨.hbm, 520, rfl⟩
abbrev main_call1_call0_call0_v177 : Ref sig .tc := ⟨.hbm, 521, rfl⟩
abbrev main_call1_call0_v18_1 : Ref sig .tc := ⟨.hbm, 522, rfl⟩
abbrev main_call1_call0_v19 : Ref sig .tc := ⟨.hbm, 523, rfl⟩
abbrev main_call1_call0_c_1 : Ref sig .tc := ⟨.hbm, 524, rfl⟩
abbrev main_call1_call0_v20 : Ref sig .tc := ⟨.hbm, 525, rfl⟩
abbrev main_call1_call0_v21 : Ref sig .tc := ⟨.hbm, 526, rfl⟩
abbrev main_call1_call0_c_2 : Ref sig .tc := ⟨.hbm, 527, rfl⟩
abbrev main_call1_call0_v22 : Ref sig .tc := ⟨.hbm, 528, rfl⟩
abbrev main_call1_call0_v23 : Ref sig .tc := ⟨.hbm, 529, rfl⟩
abbrev main_call1_call0_v24 : Ref sig .tc := ⟨.hbm, 530, rfl⟩
abbrev main_call1_call0_cst : Ref sig .tc := ⟨.hbm, 531, rfl⟩
abbrev main_call1_call0_v25 : Ref sig .tc := ⟨.hbm, 532, rfl⟩
abbrev main_call1_call0_v26 : Ref sig .tc := ⟨.hbm, 533, rfl⟩
abbrev main_call1_call0_v27 : Ref sig .tc := ⟨.hbm, 534, rfl⟩
abbrev main_call1_call0_v28 : Ref sig .tc := ⟨.hbm, 535, rfl⟩
abbrev main_call1_call0_v29 : Ref sig .tc := ⟨.hbm, 536, rfl⟩
abbrev main_call1_call0_v30 : Ref sig .tc := ⟨.hbm, 537, rfl⟩
abbrev main_call1_call0_v31 : Ref sig .tc := ⟨.hbm, 538, rfl⟩
abbrev main_call1_call0_v32 : Ref sig .tc := ⟨.hbm, 539, rfl⟩
abbrev main_call1_call0_v33 : Ref sig .tc := ⟨.hbm, 540, rfl⟩
abbrev main_call1_call0_v34 : Ref sig .tc := ⟨.hbm, 541, rfl⟩
abbrev main_call1_call0_v35 : Ref sig .tc := ⟨.hbm, 542, rfl⟩
abbrev main_call1_v0 : Ref sig .tc := ⟨.hbm, 543, rfl⟩
abbrev main_call1_v1 : Ref sig .tc := ⟨.hbm, 544, rfl⟩
abbrev main_call1_v2 : Ref sig .tc := ⟨.hbm, 545, rfl⟩
abbrev main_call1_v3 : Ref sig .tc := ⟨.hbm, 546, rfl⟩
abbrev main_v31 : Ref sig .tc := ⟨.hbm, 547, rfl⟩
abbrev main_v32 : Ref sig .tc := ⟨.hbm, 548, rfl⟩
abbrev main_v33 : Ref sig .tc := ⟨.hbm, 549, rfl⟩
abbrev main_values : Ref sig .tc := ⟨.hbm, 550, rfl⟩
abbrev main_indices : Ref sig .tc := ⟨.hbm, 551, rfl⟩
abbrev main_v34 : Ref sig .tc := ⟨.hbm, 552, rfl⟩
abbrev main_v35 : Ref sig .tc := ⟨.hbm, 553, rfl⟩
abbrev main_v36 : Ref sig .tc := ⟨.hbm, 554, rfl⟩
abbrev main_v37 : Ref sig .tc := ⟨.hbm, 555, rfl⟩
abbrev main_cst_5 : Ref sig .tc := ⟨.hbm, 556, rfl⟩
abbrev main_v35_scv : Ref sig .scVector := ⟨.hbm, 553, rfl⟩
abbrev main_v34_scv : Ref sig .scVector := ⟨.hbm, 552, rfl⟩
abbrev main_v36_scv : Ref sig .scVector := ⟨.hbm, 554, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_50_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x768 : Shape := ⟨3, ![4, 2048, 768]⟩
abbrev S_ : Shape := ⟨0, ![]⟩
abbrev S1 : Shape := ⟨1, ![1]⟩
abbrev S2 : Shape := ⟨1, ![2]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x768x2048 : Shape := ⟨3, ![4, 768, 2048]⟩
abbrev S2048x2048 : Shape := ⟨2, ![2048, 2048]⟩
abbrev S1x2048x2048 : Shape := ⟨3, ![1, 2048, 2048]⟩
abbrev S4x2048x5 : Shape := ⟨3, ![4, 2048, 5]⟩
abbrev S4 : Shape := ⟨1, ![4]⟩
abbrev S4x1 : Shape := ⟨2, ![4, 1]⟩
abbrev S4x2 : Shape := ⟨2, ![4, 2]⟩
abbrev S2048 : Shape := ⟨1, ![2048]⟩
abbrev S1x2048 : Shape := ⟨2, ![1, 2048]⟩
abbrev S1x1 : Shape := ⟨2, ![1, 1]⟩
abbrev S4x256 : Shape := ⟨2, ![4, 256]⟩
abbrev S4x256x1 : Shape := ⟨3, ![4, 256, 1]⟩
abbrev S4x256x768 : Shape := ⟨3, ![4, 256, 768]⟩

abbrev nBuf : Space → Nat
  | .hbm => 584
  | .vmem => 0
  | .smem => 0
  | _ => 0

abbrev hbmTy0_0 (i : Nat) : BufTy := match i % 128 with
  | 0 => ⟨S4x2048x768, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S4x2048x768, .f32⟩
  | 12 => ⟨S_, .f32⟩
  | 13 => ⟨S4x2048, .f32⟩
  | 14 => ⟨S4x2048x1, .f32⟩
  | 15 => ⟨S4x1x2048, .f32⟩
  | 16 => ⟨S4x2048x2048, .f32⟩
  | 17 => ⟨S4x2048x2048, .f32⟩
  | 18 => ⟨S4x2048x2048, .f32⟩
  | 19 => ⟨S4x768x2048, .f32⟩
  | 20 => ⟨S4x2048x2048, .f32⟩
  | 21 => ⟨S_, .f32⟩
  | 22 => ⟨S4x2048x2048, .f32⟩
  | 23 => ⟨S4x2048x2048, .f32⟩
  | 24 => ⟨S4x2048x2048, .f32⟩
  | 25 => ⟨S_, .f32⟩
  | 26 => ⟨S4x2048x2048, .f32⟩
  | 27 => ⟨S4x2048x2048, .f32⟩
  | 28 => ⟨S2048x2048, .i32⟩
  | 29 => ⟨S2048x2048, .i32⟩
  | 30 => ⟨S_, .i32⟩
  | 31 => ⟨S2048x2048, .i32⟩
  | 32 => ⟨S2048x2048, .i32⟩
  | 33 => ⟨S2048x2048, .i1⟩
  | 34 => ⟨S2048x2048, .f32⟩
  | 35 => ⟨S_, .f32⟩
  | 36 => ⟨S2048x2048, .f32⟩
  | 37 => ⟨S2048x2048, .f32⟩
  | 38 => ⟨S1x2048x2048, .f32⟩
  | 39 => ⟨S4x2048x2048, .f32⟩
  | 40 => ⟨S4x2048x2048, .f32⟩
  | 41 => ⟨S4x2048x2048, .f32⟩
  | 42 => ⟨S4x2048x5, .f32⟩
  | 43 => ⟨S4x2048x5, .i32⟩
  | 44 => ⟨S4x2048x5, .f32⟩
  | 45 => ⟨S_, .f32⟩
  | 46 => ⟨S4x2048x5, .f32⟩
  | 47 => ⟨S4x2048x5, .f32⟩
  | 48 => ⟨S4x2048x5, .f32⟩
  | 49 => ⟨S_, .f32⟩
  | 50 => ⟨S4x2048, .f32⟩
  | 51 => ⟨S_, .f32⟩
  | 52 => ⟨S4x2048, .f32⟩
  | 53 => ⟨S4x2048, .f32⟩
  | 54 => ⟨S_, .f32⟩
  | 55 => ⟨S4, .f32⟩
  | 56 => ⟨S4x1, .f32⟩
  | 57 => ⟨S4x2048, .f32⟩
  | 58 => ⟨S4x2048, .f32⟩
  | 59 => ⟨S4, .i32⟩
  | 60 => ⟨S_, .i32⟩
  | 61 => ⟨S4, .i32⟩
  | 62 => ⟨S4, .i32⟩
  | 63 => ⟨S4x1, .i32⟩
  | 64 => ⟨S_, .i32⟩
  | 65 => ⟨S4, .i32⟩
  | 66 => ⟨S4, .i32⟩
  | 67 => ⟨S4x1, .i32⟩
  | 68 => ⟨S4x2, .i32⟩
  | 69 => ⟨S1, .i32⟩
  | 70 => ⟨S_, .i32⟩
  | 71 => ⟨S1, .i32⟩
  | 72 => ⟨S_, .i32⟩
  | 73 => ⟨S4x1, .i32⟩
  | 74 => ⟨S4x1, .i32⟩
  | 75 => ⟨S_, .i32⟩
  | 76 => ⟨S_, .i32⟩
  | 77 => ⟨S_, .i32⟩
  | 78 => ⟨S4x1, .i32⟩
  | 79 => ⟨S4x1, .i32⟩
  | 80 => ⟨S4x1, .i32⟩
  | 81 => ⟨S4x1, .i32⟩
  | 82 => ⟨S4x1, .i32⟩
  | 83 => ⟨S_, .i32⟩
  | 84 => ⟨S4x1, .i32⟩
  | 85 => ⟨S4x1, .i32⟩
  | 86 => ⟨S_, .i32⟩
  | 87 => ⟨S4x1, .i32⟩
  | 88 => ⟨S4x1, .i32⟩
  | 89 => ⟨S4x1, .i32⟩
  | 90 => ⟨S4x1, .i32⟩
  | 91 => ⟨S4x1, .i32⟩
  | 92 => ⟨S_, .i32⟩
  | 93 => ⟨S4x1, .i32⟩
  | 94 => ⟨S4x1, .i32⟩
  | 95 => ⟨S_, .i32⟩
  | 96 => ⟨S4x1, .i32⟩
  | 97 => ⟨S4x1, .i32⟩
  | 98 => ⟨S4x1, .i32⟩
  | 99 => ⟨S4x1, .i32⟩
  | 100 => ⟨S4x1, .i32⟩
  | 101 => ⟨S_, .i32⟩
  | 102 => ⟨S4x1, .i32⟩
  | 103 => ⟨S4x1, .i32⟩
  | 104 => ⟨S_, .i32⟩
  | 105 => ⟨S4x1, .i32⟩
  | 106 => ⟨S4x1, .i32⟩
  | 107 => ⟨S4x1, .i32⟩
  | 108 => ⟨S4x1, .i32⟩
  | 109 => ⟨S4x1, .i32⟩
  | 110 => ⟨S_, .i32⟩
  | 111 => ⟨S4x1, .i32⟩
  | 112 => ⟨S4x1, .i32⟩
  | 113 => ⟨S_, .i32⟩
  | 114 => ⟨S4x1, .i32⟩
  | 115 => ⟨S4x1, .i32⟩
  | 116 => ⟨S4x1, .i32⟩
  | 117 => ⟨S4x1, .i32⟩
  | 118 => ⟨S4x1, .i32⟩
  | 119 => ⟨S4x1, .i32⟩
  | 120 => ⟨S4x1, .i32⟩
  | 121 => ⟨S4x1, .i32⟩
  | 122 => ⟨S_, .i32⟩
  | 123 => ⟨S4x1, .i32⟩
  | 124 => ⟨S4x1, .i32⟩
  | 125 => ⟨S4x1, .i32⟩
  | 126 => ⟨S_, .i32⟩
  | 127 => ⟨S4x1, .i32⟩
  | _ => ⟨S4x2048x768, .f32⟩

abbrev hbmTy0_1 (i : Nat) : BufTy := match i % 128 with
  | 0 => ⟨S4x1, .i32⟩
  | 1 => ⟨S_, .i32⟩
  | 2 => ⟨S4x1, .i32⟩
  | 3 => ⟨S4x1, .i32⟩
  | 4 => ⟨S4x1, .i32⟩
  | 5 => ⟨S4x1, .i32⟩
  | 6 => ⟨S4x1, .i32⟩
  | 7 => ⟨S_, .i32⟩
  | 8 => ⟨S4x1, .i32⟩
  | 9 => ⟨S4x1, .i32⟩
  | 10 => ⟨S_, .i32⟩
  | 11 => ⟨S4x1, .i32⟩
  | 12 => ⟨S4x1, .i32⟩
  | 13 => ⟨S4x1, .i32⟩
  | 14 => ⟨S4x1, .i32⟩
  | 15 => ⟨S4x1, .i32⟩
  | 16 => ⟨S_, .i32⟩
  | 17 => ⟨S4x1, .i32⟩
  | 18 => ⟨S4x1, .i32⟩
  | 19 => ⟨S_, .i32⟩
  | 20 => ⟨S4x1, .i32⟩
  | 21 => ⟨S4x1, .i32⟩
  | 22 => ⟨S4x1, .i32⟩
  | 23 => ⟨S4x1, .i32⟩
  | 24 => ⟨S4x1, .i32⟩
  | 25 => ⟨S_, .i32⟩
  | 26 => ⟨S4x1, .i32⟩
  | 27 => ⟨S4x1, .i32⟩
  | 28 => ⟨S_, .i32⟩
  | 29 => ⟨S4x1, .i32⟩
  | 30 => ⟨S4x1, .i32⟩
  | 31 => ⟨S4x1, .i32⟩
  | 32 => ⟨S4x1, .i32⟩
  | 33 => ⟨S4x1, .i32⟩
  | 34 => ⟨S4x1, .i32⟩
  | 35 => ⟨S4x1, .i32⟩
  | 36 => ⟨S4x1, .i32⟩
  | 37 => ⟨S_, .i32⟩
  | 38 => ⟨S4x1, .i32⟩
  | 39 => ⟨S4x1, .i32⟩
  | 40 => ⟨S4x1, .i32⟩
  | 41 => ⟨S_, .i32⟩
  | 42 => ⟨S4x1, .i32⟩
  | 43 => ⟨S4x1, .i32⟩
  | 44 => ⟨S_, .i32⟩
  | 45 => ⟨S4x1, .i32⟩
  | 46 => ⟨S4x1, .i32⟩
  | 47 => ⟨S4x1, .i32⟩
  | 48 => ⟨S4x1, .i32⟩
  | 49 => ⟨S4x1, .i32⟩
  | 50 => ⟨S_, .i32⟩
  | 51 => ⟨S4x1, .i32⟩
  | 52 => ⟨S4x1, .i32⟩
  | 53 => ⟨S_, .i32⟩
  | 54 => ⟨S4x1, .i32⟩
  | 55 => ⟨S4x1, .i32⟩
  | 56 => ⟨S4x1, .i32⟩
  | 57 => ⟨S4x1, .i32⟩
  | 58 => ⟨S4x1, .i32⟩
  | 59 => ⟨S_, .i32⟩
  | 60 => ⟨S4x1, .i32⟩
  | 61 => ⟨S4x1, .i32⟩
  | 62 => ⟨S_, .i32⟩
  | 63 => ⟨S4x1, .i32⟩
  | 64 => ⟨S4x1, .i32⟩
  | 65 => ⟨S4x1, .i32⟩
  | 66 => ⟨S4x1, .i32⟩
  | 67 => ⟨S4x1, .i32⟩
  | 68 => ⟨S_, .i32⟩
  | 69 => ⟨S4x1, .i32⟩
  | 70 => ⟨S4x1, .i32⟩
  | 71 => ⟨S_, .i32⟩
  | 72 => ⟨S4x1, .i32⟩
  | 73 => ⟨S4x1, .i32⟩
  | 74 => ⟨S4x1, .i32⟩
  | 75 => ⟨S4x1, .i32⟩
  | 76 => ⟨S4x1, .i32⟩
  | 77 => ⟨S4x1, .i32⟩
  | 78 => ⟨S4x1, .i32⟩
  | 79 => ⟨S4x1, .i32⟩
  | 80 => ⟨S_, .i32⟩
  | 81 => ⟨S4x1, .i32⟩
  | 82 => ⟨S4x1, .i32⟩
  | 83 => ⟨S4x1, .i32⟩
  | 84 => ⟨S_, .i32⟩
  | 85 => ⟨S4x1, .i32⟩
  | 86 => ⟨S4x1, .i32⟩
  | 87 => ⟨S_, .i32⟩
  | 88 => ⟨S4x1, .i32⟩
  | 89 => ⟨S4x1, .i32⟩
  | 90 => ⟨S4x1, .i32⟩
  | 91 => ⟨S4x1, .i32⟩
  | 92 => ⟨S4x1, .i32⟩
  | 93 => ⟨S_, .i32⟩
  | 94 => ⟨S4x1, .i32⟩
  | 95 => ⟨S4x1, .i32⟩
  | 96 => ⟨S_, .i32⟩
  | 97 => ⟨S4x1, .i32⟩
  | 98 => ⟨S4x1, .i32⟩
  | 99 => ⟨S4x1, .i32⟩
  | 100 => ⟨S4x1, .i32⟩
  | 101 => ⟨S4x1, .i32⟩
  | 102 => ⟨S_, .i32⟩
  | 103 => ⟨S4x1, .i32⟩
  | 104 => ⟨S4x1, .i32⟩
  | 105 => ⟨S_, .i32⟩
  | 106 => ⟨S4x1, .i32⟩
  | 107 => ⟨S4x1, .i32⟩
  | 108 => ⟨S4x1, .i32⟩
  | 109 => ⟨S4x1, .i32⟩
  | 110 => ⟨S4x1, .i32⟩
  | 111 => ⟨S_, .i32⟩
  | 112 => ⟨S4x1, .i32⟩
  | 113 => ⟨S4x1, .i32⟩
  | 114 => ⟨S_, .i32⟩
  | 115 => ⟨S4x1, .i32⟩
  | 116 => ⟨S4x1, .i32⟩
  | 117 => ⟨S4x1, .i32⟩
  | 118 => ⟨S4x1, .i32⟩
  | 119 => ⟨S4x1, .i32⟩
  | 120 => ⟨S4x1, .i32⟩
  | 121 => ⟨S4x1, .i32⟩
  | 122 => ⟨S4x1, .i32⟩
  | 123 => ⟨S_, .i32⟩
  | 124 => ⟨S4x1, .i32⟩
  | 125 => ⟨S4x1, .i32⟩
  | 126 => ⟨S4x1, .i32⟩
  | 127 => ⟨S_, .i32⟩
  | _ => ⟨S4x2048x768, .f32⟩

abbrev hbmTy0_2 (i : Nat) : BufTy := match i % 128 with
  | 0 => ⟨S4x1, .i32⟩
  | 1 => ⟨S4x1, .i32⟩
  | 2 => ⟨S_, .i32⟩
  | 3 => ⟨S4x1, .i32⟩
  | 4 => ⟨S4x1, .i32⟩
  | 5 => ⟨S4x1, .i32⟩
  | 6 => ⟨S4x1, .i32⟩
  | 7 => ⟨S4x1, .i32⟩
  | 8 => ⟨S_, .i32⟩
  | 9 => ⟨S4x1, .i32⟩
  | 10 => ⟨S4x1, .i32⟩
  | 11 => ⟨S_, .i32⟩
  | 12 => ⟨S4x1, .i32⟩
  | 13 => ⟨S4x1, .i32⟩
  | 14 => ⟨S4x1, .i32⟩
  | 15 => ⟨S4x1, .i32⟩
  | 16 => ⟨S4x1, .i32⟩
  | 17 => ⟨S_, .i32⟩
  | 18 => ⟨S4x1, .i32⟩
  | 19 => ⟨S4x1, .i32⟩
  | 20 => ⟨S_, .i32⟩
  | 21 => ⟨S4x1, .i32⟩
  | 22 => ⟨S4x1, .i32⟩
  | 23 => ⟨S4x1, .i32⟩
  | 24 => ⟨S4x1, .i32⟩
  | 25 => ⟨S4x1, .i32⟩
  | 26 => ⟨S_, .i32⟩
  | 27 => ⟨S4x1, .i32⟩
  | 28 => ⟨S4x1, .i32⟩
  | 29 => ⟨S_, .i32⟩
  | 30 => ⟨S4x1, .i32⟩
  | 31 => ⟨S4x1, .i32⟩
  | 32 => ⟨S4x1, .i32⟩
  | 33 => ⟨S4x1, .i32⟩
  | 34 => ⟨S4x1, .i32⟩
  | 35 => ⟨S4x1, .i32⟩
  | 36 => ⟨S4x1, .i32⟩
  | 37 => ⟨S4x1, .i32⟩
  | 38 => ⟨S_, .i32⟩
  | 39 => ⟨S4x1, .i32⟩
  | 40 => ⟨S4x1, .i32⟩
  | 41 => ⟨S4x2, .i32⟩
  | 42 => ⟨S_, .f32⟩
  | 43 => ⟨S_, .f32⟩
  | 44 => ⟨S_, .f32⟩
  | 45 => ⟨S1, .f32⟩
  | 46 => ⟨S1, .f32⟩
  | 47 => ⟨S4x1, .i32⟩
  | 48 => ⟨S4, .i32⟩
  | 49 => ⟨S4x1, .i32⟩
  | 50 => ⟨S4, .i32⟩
  | 51 => ⟨S2048, .i64⟩
  | 52 => ⟨S_, .i64⟩
  | 53 => ⟨S2048, .i64⟩
  | 54 => ⟨S2048, .i64⟩
  | 55 => ⟨S_, .i64⟩
  | 56 => ⟨S2048, .i64⟩
  | 57 => ⟨S2048, .i64⟩
  | 58 => ⟨S2048, .i32⟩
  | 59 => ⟨S2048, .i32⟩
  | 60 => ⟨S1x2048, .i32⟩
  | 61 => ⟨S1x2048, .i32⟩
  | 62 => ⟨S4x1, .i32⟩
  | 63 => ⟨S4x1, .i32⟩
  | 64 => ⟨S4x1, .i32⟩
  | 65 => ⟨S_, .i32⟩
  | 66 => ⟨S4x1, .i32⟩
  | 67 => ⟨S4x1, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S4x2048, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S4x2048, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S_, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S4x2048, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S_, .i32⟩
  | 122 => ⟨S4x2048, .i32⟩
  | 123 => ⟨S4x2048, .i32⟩
  | 124 => ⟨S4x2048, .i32⟩
  | 125 => ⟨S4x2048, .i32⟩
  | 126 => ⟨S4x2048, .i32⟩
  | 127 => ⟨S_, .i32⟩
  | _ => ⟨S4x2048x768, .f32⟩

abbrev hbmTy0_3 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S_, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S4x2048, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S4x2048, .i32⟩
  | 33 => ⟨S_, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S4x2048, .i32⟩
  | 40 => ⟨S4x2048, .i32⟩
  | 41 => ⟨S4x2048, .i32⟩
  | 42 => ⟨S_, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S4x2048, .i32⟩
  | 49 => ⟨S4x2048, .i32⟩
  | 50 => ⟨S4x2048, .i32⟩
  | 51 => ⟨S_, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S_, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S4x2048, .i32⟩
  | 76 => ⟨S_, .i32⟩
  | 77 => ⟨S4x2048, .i32⟩
  | 78 => ⟨S4x2048, .i32⟩
  | 79 => ⟨S_, .i32⟩
  | 80 => ⟨S4x2048, .i32⟩
  | 81 => ⟨S4x2048, .i32⟩
  | 82 => ⟨S4x2048, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S4x2048, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S4x2048, .i32⟩
  | 119 => ⟨S_, .i32⟩
  | 120 => ⟨S4x2048, .i32⟩
  | 121 => ⟨S4x2048, .i32⟩
  | 122 => ⟨S_, .i32⟩
  | 123 => ⟨S4x2048, .i32⟩
  | 124 => ⟨S4x2048, .i32⟩
  | 125 => ⟨S4x2048, .i32⟩
  | 126 => ⟨S4x2048, .i32⟩
  | 127 => ⟨S4x2048, .i32⟩
  | _ => ⟨S4x2048x768, .f32⟩

abbrev hbmTy0_4 (i : Nat) : BufTy := match i % 128 with
  | 0 => ⟨S_, .i32⟩
  | 1 => ⟨S4x2048, .i32⟩
  | 2 => ⟨S4x2048, .i32⟩
  | 3 => ⟨S_, .i32⟩
  | 4 => ⟨S4x2048, .i32⟩
  | 5 => ⟨S4x2048, .i32⟩
  | 6 => ⟨S4x2048, .i32⟩
  | 7 => ⟨S4x2048, .i32⟩
  | 8 => ⟨S4x2048, .i32⟩
  | 9 => ⟨S_, .i32⟩
  | 10 => ⟨S4x2048, .i32⟩
  | 11 => ⟨S4x2048, .i32⟩
  | 12 => ⟨S_, .i32⟩
  | 13 => ⟨S4x2048, .i32⟩
  | 14 => ⟨S4x2048, .i32⟩
  | 15 => ⟨S4x2048, .i32⟩
  | 16 => ⟨S4x2048, .i32⟩
  | 17 => ⟨S4x2048, .i32⟩
  | 18 => ⟨S_, .i32⟩
  | 19 => ⟨S4x2048, .i32⟩
  | 20 => ⟨S4x2048, .i32⟩
  | 21 => ⟨S_, .i32⟩
  | 22 => ⟨S4x2048, .i32⟩
  | 23 => ⟨S4x2048, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S4x2048, .i32⟩
  | 30 => ⟨S_, .i32⟩
  | 31 => ⟨S4x2048, .i32⟩
  | 32 => ⟨S4x2048, .i32⟩
  | 33 => ⟨S4x2048, .i32⟩
  | 34 => ⟨S_, .i32⟩
  | 35 => ⟨S4x2048, .i32⟩
  | 36 => ⟨S4x2048, .i32⟩
  | 37 => ⟨S_, .i32⟩
  | 38 => ⟨S4x2048, .i32⟩
  | 39 => ⟨S4x2048, .i32⟩
  | 40 => ⟨S4x2048, .f32⟩
  | 41 => ⟨S_, .f32⟩
  | 42 => ⟨S4x2048, .f32⟩
  | 43 => ⟨S4x2048, .f32⟩
  | 44 => ⟨S1, .f32⟩
  | 45 => ⟨S1x1, .f32⟩
  | 46 => ⟨S4x2048, .f32⟩
  | 47 => ⟨S4x2048, .f32⟩
  | 48 => ⟨S1x1, .f32⟩
  | 49 => ⟨S4x2048, .f32⟩
  | 50 => ⟨S4x2048, .f32⟩
  | 51 => ⟨S1x1, .f32⟩
  | 52 => ⟨S4x2048, .f32⟩
  | 53 => ⟨S4x2048, .f32⟩
  | 54 => ⟨S4x2048, .f32⟩
  | 55 => ⟨S4x2048, .f32⟩
  | 56 => ⟨S4x2048, .f32⟩
  | 57 => ⟨S4x2048, .f32⟩
  | 58 => ⟨S4x2048, .f32⟩
  | 59 => ⟨S4x2048, .f32⟩
  | 60 => ⟨S4x256, .f32⟩
  | 61 => ⟨S4x256, .i32⟩
  | 62 => ⟨S_, .i32⟩
  | 63 => ⟨S4x256, .i32⟩
  | 64 => ⟨S4x256, .i1⟩
  | 65 => ⟨S_, .i32⟩
  | 66 => ⟨S4x256, .i32⟩
  | 67 => ⟨S4x256, .i32⟩
  | 68 => ⟨S4x256, .i32⟩
  | 69 => ⟨S4x256x1, .i32⟩
  | 70 => ⟨S4x256x768, .f32⟩
  | 71 => ⟨S_, .f32⟩
  | _ => ⟨S4x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_values : Ref sig .tc := ⟨.hbm, 42, rfl⟩
abbrev main_indices : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_c_0 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_call0_v0 : Ref sig .tc := ⟨.hbm, 75, rfl⟩
abbrev main_call0_call0_c : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_c_0 : Ref sig .tc := ⟨.hbm, 83, rfl⟩
abbrev main_call0_call0_v7 : Ref sig .tc := ⟨.hbm, 84, rfl⟩
abbrev main_call0_call0_v8 : Ref sig .tc := ⟨.hbm, 85, rfl⟩
abbrev main_call0_call0_c_1 : Ref sig .tc := ⟨.hbm, 86, rfl⟩
abbrev main_call0_call0_v9 : Ref sig .tc := ⟨.hbm, 87, rfl⟩
abbrev main_call0_call0_v10 : Ref sig .tc := ⟨.hbm, 88, rfl⟩
abbrev main_call0_call0_v11 : Ref sig .tc := ⟨.hbm, 89, rfl⟩
abbrev main_call0_call0_v12 : Ref sig .tc := ⟨.hbm, 90, rfl⟩
abbrev main_call0_call0_v13 : Ref sig .tc := ⟨.hbm, 91, rfl⟩
abbrev main_call0_call0_c_2 : Ref sig .tc := ⟨.hbm, 92, rfl⟩
abbrev main_call0_call0_v14 : Ref sig .tc := ⟨.hbm, 93, rfl⟩
abbrev main_call0_call0_v15 : Ref sig .tc := ⟨.hbm, 94, rfl⟩
abbrev main_call0_call0_c_3 : Ref sig .tc := ⟨.hbm, 95, rfl⟩
abbrev main_call0_call0_v16 : Ref sig .tc := ⟨.hbm, 96, rfl⟩
abbrev main_call0_call0_v17 : Ref sig .tc := ⟨.hbm, 97, rfl⟩
abbrev main_call0_call0_v18 : Ref sig .tc := ⟨.hbm, 98, rfl⟩
abbrev main_call0_call0_v19 : Ref sig .tc := ⟨.hbm, 99, rfl⟩
abbrev main_call0_call0_v20 : Ref sig .tc := ⟨.hbm, 100, rfl⟩
abbrev main_call0_call0_c_4 : Ref sig .tc := ⟨.hbm, 101, rfl⟩
abbrev main_call0_call0_v21 : Ref sig .tc := ⟨.hbm, 102, rfl⟩
abbrev main_call0_call0_v22 : Ref sig .tc := ⟨.hbm, 103, rfl⟩
abbrev main_call0_call0_c_5 : Ref sig .tc := ⟨.hbm, 104, rfl⟩
abbrev main_call0_call0_v23 : Ref sig .tc := ⟨.hbm, 105, rfl⟩
abbrev main_call0_call0_v24 : Ref sig .tc := ⟨.hbm, 106, rfl⟩
abbrev main_call0_call0_v25 : Ref sig .tc := ⟨.hbm, 107, rfl⟩
abbrev main_call0_call0_v26 : Ref sig .tc := ⟨.hbm, 108, rfl⟩
abbrev main_call0_call0_v27 : Ref sig .tc := ⟨.hbm, 109, rfl⟩
abbrev main_call0_call0_c_6 : Ref sig .tc := ⟨.hbm, 110, rfl⟩
abbrev main_call0_call0_v28 : Ref sig .tc := ⟨.hbm, 111, rfl⟩
abbrev main_call0_call0_v29 : Ref sig .tc := ⟨.hbm, 112, rfl⟩
abbrev main_call0_call0_c_7 : Ref sig .tc := ⟨.hbm, 113, rfl⟩
abbrev main_call0_call0_v30 : Ref sig .tc := ⟨.hbm, 114, rfl⟩
abbrev main_call0_call0_v31 : Ref sig .tc := ⟨.hbm, 115, rfl⟩
abbrev main_call0_call0_v32 : Ref sig .tc := ⟨.hbm, 116, rfl⟩
abbrev main_call0_call0_v33 : Ref sig .tc := ⟨.hbm, 117, rfl⟩
abbrev main_call0_call0_v34 : Ref sig .tc := ⟨.hbm, 118, rfl⟩
abbrev main_call0_call0_v35 : Ref sig .tc := ⟨.hbm, 119, rfl⟩
abbrev main_call0_call0_v36 : Ref sig .tc := ⟨.hbm, 120, rfl⟩
abbrev main_call0_call0_v37 : Ref sig .tc := ⟨.hbm, 121, rfl⟩
abbrev main_call0_call0_c_8 : Ref sig .tc := ⟨.hbm, 122, rfl⟩
abbrev main_call0_call0_v38 : Ref sig .tc := ⟨.hbm, 123, rfl⟩
abbrev main_call0_call0_v39 : Ref sig .tc := ⟨.hbm, 124, rfl⟩
abbrev main_call0_call0_v40 : Ref sig .tc := ⟨.hbm, 125, rfl⟩
abbrev main_call0_call0_c_9 : Ref sig .tc := ⟨.hbm, 126, rfl⟩
abbrev main_call0_call0_v41 : Ref sig .tc := ⟨.hbm, 127, rfl⟩
abbrev main_call0_call0_v42 : Ref sig .tc := ⟨.hbm, 128, rfl⟩
abbrev main_call0_call0_c_10 : Ref sig .tc := ⟨.hbm, 129, rfl⟩
abbrev main_call0_call0_v43 : Ref sig .tc := ⟨.hbm, 130, rfl⟩
abbrev main_call0_call0_v44 : Ref sig .tc := ⟨.hbm, 131, rfl⟩
abbrev main_call0_call0_v45 : Ref sig .tc := ⟨.hbm, 132, rfl⟩
abbrev main_call0_call0_v46 : Ref sig .tc := ⟨.hbm, 133, rfl⟩
abbrev main_call0_call0_v47 : Ref sig .tc := ⟨.hbm, 134, rfl⟩
abbrev main_call0_call0_c_11 : Ref sig .tc := ⟨.hbm, 135, rfl⟩
abbrev main_call0_call0_v48 : Ref sig .tc := ⟨.hbm, 136, rfl⟩
abbrev main_call0_call0_v49 : Ref sig .tc := ⟨.hbm, 137, rfl⟩
abbrev main_call0_call0_c_12 : Ref sig .tc := ⟨.hbm, 138, rfl⟩
abbrev main_call0_call0_v50 : Ref sig .tc := ⟨.hbm, 139, rfl⟩
abbrev main_call0_call0_v51 : Ref sig .tc := ⟨.hbm, 140, rfl⟩
abbrev main_call0_call0_v52 : Ref sig .tc := ⟨.hbm, 141, rfl⟩
abbrev main_call0_call0_v53 : Ref sig .tc := ⟨.hbm, 142, rfl⟩
abbrev main_call0_call0_v54 : Ref sig .tc := ⟨.hbm, 143, rfl⟩
abbrev main_call0_call0_c_13 : Ref sig .tc := ⟨.hbm, 144, rfl⟩
abbrev main_call0_call0_v55 : Ref sig .tc := ⟨.hbm, 145, rfl⟩
abbrev main_call0_call0_v56 : Ref sig .tc := ⟨.hbm, 146, rfl⟩
abbrev main_call0_call0_c_14 : Ref sig .tc := ⟨.hbm, 147, rfl⟩
abbrev main_call0_call0_v57 : Ref sig .tc := ⟨.hbm, 148, rfl⟩
abbrev main_call0_call0_v58 : Ref sig .tc := ⟨.hbm, 149, rfl⟩
abbrev main_call0_call0_v59 : Ref sig .tc := ⟨.hbm, 150, rfl⟩
abbrev main_call0_call0_v60 : Ref sig .tc := ⟨.hbm, 151, rfl⟩
abbrev main_call0_call0_v61 : Ref sig .tc := ⟨.hbm, 152, rfl⟩
abbrev main_call0_call0_c_15 : Ref sig .tc := ⟨.hbm, 153, rfl⟩
abbrev main_call0_call0_v62 : Ref sig .tc := ⟨.hbm, 154, rfl⟩
abbrev main_call0_call0_v63 : Ref sig .tc := ⟨.hbm, 155, rfl⟩
abbrev main_call0_call0_c_16 : Ref sig .tc := ⟨.hbm, 156, rfl⟩
abbrev main_call0_call0_v64 : Ref sig .tc := ⟨.hbm, 157, rfl⟩
abbrev main_call0_call0_v65 : Ref sig .tc := ⟨.hbm, 158, rfl⟩
abbrev main_call0_call0_v66 : Ref sig .tc := ⟨.hbm, 159, rfl⟩
abbrev main_call0_call0_v67 : Ref sig .tc := ⟨.hbm, 160, rfl⟩
abbrev main_call0_call0_v68 : Ref sig .tc := ⟨.hbm, 161, rfl⟩
abbrev main_call0_call0_v69 : Ref sig .tc := ⟨.hbm, 162, rfl⟩
abbrev main_call0_call0_v70 : Ref sig .tc := ⟨.hbm, 163, rfl⟩
abbrev main_call0_call0_v71 : Ref sig .tc := ⟨.hbm, 164, rfl⟩
abbrev main_call0_call0_c_17 : Ref sig .tc := ⟨.hbm, 165, rfl⟩
abbrev main_call0_call0_v72 : Ref sig .tc := ⟨.hbm, 166, rfl⟩
abbrev main_call0_call0_v73 : Ref sig .tc := ⟨.hbm, 167, rfl⟩
abbrev main_call0_call0_v74 : Ref sig .tc := ⟨.hbm, 168, rfl⟩
abbrev main_call0_call0_c_18 : Ref sig .tc := ⟨.hbm, 169, rfl⟩
abbrev main_call0_call0_v75 : Ref sig .tc := ⟨.hbm, 170, rfl⟩
abbrev main_call0_call0_v76 : Ref sig .tc := ⟨.hbm, 171, rfl⟩
abbrev main_call0_call0_c_19 : Ref sig .tc := ⟨.hbm, 172, rfl⟩
abbrev main_call0_call0_v77 : Ref sig .tc := ⟨.hbm, 173, rfl⟩
abbrev main_call0_call0_v78 : Ref sig .tc := ⟨.hbm, 174, rfl⟩
abbrev main_call0_call0_v79 : Ref sig .tc := ⟨.hbm, 175, rfl⟩
abbrev main_call0_call0_v80 : Ref sig .tc := ⟨.hbm, 176, rfl⟩
abbrev main_call0_call0_v81 : Ref sig .tc := ⟨.hbm, 177, rfl⟩
abbrev main_call0_call0_c_20 : Ref sig .tc := ⟨.hbm, 178, rfl⟩
abbrev main_call0_call0_v82 : Ref sig .tc := ⟨.hbm, 179, rfl⟩
abbrev main_call0_call0_v83 : Ref sig .tc := ⟨.hbm, 180, rfl⟩
abbrev main_call0_call0_c_21 : Ref sig .tc := ⟨.hbm, 181, rfl⟩
abbrev main_call0_call0_v84 : Ref sig .tc := ⟨.hbm, 182, rfl⟩
abbrev main_call0_call0_v85 : Ref sig .tc := ⟨.hbm, 183, rfl⟩
abbrev main_call0_call0_v86 : Ref sig .tc := ⟨.hbm, 184, rfl⟩
abbrev main_call0_call0_v87 : Ref sig .tc := ⟨.hbm, 185, rfl⟩
abbrev main_call0_call0_v88 : Ref sig .tc := ⟨.hbm, 186, rfl⟩
abbrev main_call0_call0_c_22 : Ref sig .tc := ⟨.hbm, 187, rfl⟩
abbrev main_call0_call0_v89 : Ref sig .tc := ⟨.hbm, 188, rfl⟩
abbrev main_call0_call0_v90 : Ref sig .tc := ⟨.hbm, 189, rfl⟩
abbrev main_call0_call0_c_23 : Ref sig .tc := ⟨.hbm, 190, rfl⟩
abbrev main_call0_call0_v91 : Ref sig .tc := ⟨.hbm, 191, rfl⟩
abbrev main_call0_call0_v92 : Ref sig .tc := ⟨.hbm, 192, rfl⟩
abbrev main_call0_call0_v93 : Ref sig .tc := ⟨.hbm, 193, rfl⟩
abbrev main_call0_call0_v94 : Ref sig .tc := ⟨.hbm, 194, rfl⟩
abbrev main_call0_call0_v95 : Ref sig .tc := ⟨.hbm, 195, rfl⟩
abbrev main_call0_call0_c_24 : Ref sig .tc := ⟨.hbm, 196, rfl⟩
abbrev main_call0_call0_v96 : Ref sig .tc := ⟨.hbm, 197, rfl⟩
abbrev main_call0_call0_v97 : Ref sig .tc := ⟨.hbm, 198, rfl⟩
abbrev main_call0_call0_c_25 : Ref sig .tc := ⟨.hbm, 199, rfl⟩
abbrev main_call0_call0_v98 : Ref sig .tc := ⟨.hbm, 200, rfl⟩
abbrev main_call0_call0_v99 : Ref sig .tc := ⟨.hbm, 201, rfl⟩
abbrev main_call0_call0_v100 : Ref sig .tc := ⟨.hbm, 202, rfl⟩
abbrev main_call0_call0_v101 : Ref sig .tc := ⟨.hbm, 203, rfl⟩
abbrev main_call0_call0_v102 : Ref sig .tc := ⟨.hbm, 204, rfl⟩
abbrev main_call0_call0_v103 : Ref sig .tc := ⟨.hbm, 205, rfl⟩
abbrev main_call0_call0_v104 : Ref sig .tc := ⟨.hbm, 206, rfl⟩
abbrev main_call0_call0_v105 : Ref sig .tc := ⟨.hbm, 207, rfl⟩
abbrev main_call0_call0_c_26 : Ref sig .tc := ⟨.hbm, 208, rfl⟩
abbrev main_call0_call0_v106 : Ref sig .tc := ⟨.hbm, 209, rfl⟩
abbrev main_call0_call0_v107 : Ref sig .tc := ⟨.hbm, 210, rfl⟩
abbrev main_call0_call0_v108 : Ref sig .tc := ⟨.hbm, 211, rfl⟩
abbrev main_call0_call0_c_27 : Ref sig .tc := ⟨.hbm, 212, rfl⟩
abbrev main_call0_call0_v109 : Ref sig .tc := ⟨.hbm, 213, rfl⟩
abbrev main_call0_call0_v110 : Ref sig .tc := ⟨.hbm, 214, rfl⟩
abbrev main_call0_call0_c_28 : Ref sig .tc := ⟨.hbm, 215, rfl⟩
abbrev main_call0_call0_v111 : Ref sig .tc := ⟨.hbm, 216, rfl⟩
abbrev main_call0_call0_v112 : Ref sig .tc := ⟨.hbm, 217, rfl⟩
abbrev main_call0_call0_v113 : Ref sig .tc := ⟨.hbm, 218, rfl⟩
abbrev main_call0_call0_v114 : Ref sig .tc := ⟨.hbm, 219, rfl⟩
abbrev main_call0_call0_v115 : Ref sig .tc := ⟨.hbm, 220, rfl⟩
abbrev main_call0_call0_c_29 : Ref sig .tc := ⟨.hbm, 221, rfl⟩
abbrev main_call0_call0_v116 : Ref sig .tc := ⟨.hbm, 222, rfl⟩
abbrev main_call0_call0_v117 : Ref sig .tc := ⟨.hbm, 223, rfl⟩
abbrev main_call0_call0_c_30 : Ref sig .tc := ⟨.hbm, 224, rfl⟩
abbrev main_call0_call0_v118 : Ref sig .tc := ⟨.hbm, 225, rfl⟩
abbrev main_call0_call0_v119 : Ref sig .tc := ⟨.hbm, 226, rfl⟩
abbrev main_call0_call0_v120 : Ref sig .tc := ⟨.hbm, 227, rfl⟩
abbrev main_call0_call0_v121 : Ref sig .tc := ⟨.hbm, 228, rfl⟩
abbrev main_call0_call0_v122 : Ref sig .tc := ⟨.hbm, 229, rfl⟩
abbrev main_call0_call0_c_31 : Ref sig .tc := ⟨.hbm, 230, rfl⟩
abbrev main_call0_call0_v123 : Ref sig .tc := ⟨.hbm, 231, rfl⟩
abbrev main_call0_call0_v124 : Ref sig .tc := ⟨.hbm, 232, rfl⟩
abbrev main_call0_call0_c_32 : Ref sig .tc := ⟨.hbm, 233, rfl⟩
abbrev main_call0_call0_v125 : Ref sig .tc := ⟨.hbm, 234, rfl⟩
abbrev main_call0_call0_v126 : Ref sig .tc := ⟨.hbm, 235, rfl⟩
abbrev main_call0_call0_v127 : Ref sig .tc := ⟨.hbm, 236, rfl⟩
abbrev main_call0_call0_v128 : Ref sig .tc := ⟨.hbm, 237, rfl⟩
abbrev main_call0_call0_v129 : Ref sig .tc := ⟨.hbm, 238, rfl⟩
abbrev main_call0_call0_c_33 : Ref sig .tc := ⟨.hbm, 239, rfl⟩
abbrev main_call0_call0_v130 : Ref sig .tc := ⟨.hbm, 240, rfl⟩
abbrev main_call0_call0_v131 : Ref sig .tc := ⟨.hbm, 241, rfl⟩
abbrev main_call0_call0_c_34 : Ref sig .tc := ⟨.hbm, 242, rfl⟩
abbrev main_call0_call0_v132 : Ref sig .tc := ⟨.hbm, 243, rfl⟩
abbrev main_call0_call0_v133 : Ref sig .tc := ⟨.hbm, 244, rfl⟩
abbrev main_call0_call0_v134 : Ref sig .tc := ⟨.hbm, 245, rfl⟩
abbrev main_call0_call0_v135 : Ref sig .tc := ⟨.hbm, 246, rfl⟩
abbrev main_call0_call0_v136 : Ref sig .tc := ⟨.hbm, 247, rfl⟩
abbrev main_call0_call0_v137 : Ref sig .tc := ⟨.hbm, 248, rfl⟩
abbrev main_call0_call0_v138 : Ref sig .tc := ⟨.hbm, 249, rfl⟩
abbrev main_call0_call0_v139 : Ref sig .tc := ⟨.hbm, 250, rfl⟩
abbrev main_call0_call0_c_35 : Ref sig .tc := ⟨.hbm, 251, rfl⟩
abbrev main_call0_call0_v140 : Ref sig .tc := ⟨.hbm, 252, rfl⟩
abbrev main_call0_call0_v141 : Ref sig .tc := ⟨.hbm, 253, rfl⟩
abbrev main_call0_call0_v142 : Ref sig .tc := ⟨.hbm, 254, rfl⟩
abbrev main_call0_call0_c_36 : Ref sig .tc := ⟨.hbm, 255, rfl⟩
abbrev main_call0_call0_v143 : Ref sig .tc := ⟨.hbm, 256, rfl⟩
abbrev main_call0_call0_v144 : Ref sig .tc := ⟨.hbm, 257, rfl⟩
abbrev main_call0_call0_c_37 : Ref sig .tc := ⟨.hbm, 258, rfl⟩
abbrev main_call0_call0_v145 : Ref sig .tc := ⟨.hbm, 259, rfl⟩
abbrev main_call0_call0_v146 : Ref sig .tc := ⟨.hbm, 260, rfl⟩
abbrev main_call0_call0_v147 : Ref sig .tc := ⟨.hbm, 261, rfl⟩
abbrev main_call0_call0_v148 : Ref sig .tc := ⟨.hbm, 262, rfl⟩
abbrev main_call0_call0_v149 : Ref sig .tc := ⟨.hbm, 263, rfl⟩
abbrev main_call0_call0_c_38 : Ref sig .tc := ⟨.hbm, 264, rfl⟩
abbrev main_call0_call0_v150 : Ref sig .tc := ⟨.hbm, 265, rfl⟩
abbrev main_call0_call0_v151 : Ref sig .tc := ⟨.hbm, 266, rfl⟩
abbrev main_call0_call0_c_39 : Ref sig .tc := ⟨.hbm, 267, rfl⟩
abbrev main_call0_call0_v152 : Ref sig .tc := ⟨.hbm, 268, rfl⟩
abbrev main_call0_call0_v153 : Ref sig .tc := ⟨.hbm, 269, rfl⟩
abbrev main_call0_call0_v154 : Ref sig .tc := ⟨.hbm, 270, rfl⟩
abbrev main_call0_call0_v155 : Ref sig .tc := ⟨.hbm, 271, rfl⟩
abbrev main_call0_call0_v156 : Ref sig .tc := ⟨.hbm, 272, rfl⟩
abbrev main_call0_call0_c_40 : Ref sig .tc := ⟨.hbm, 273, rfl⟩
abbrev main_call0_call0_v157 : Ref sig .tc := ⟨.hbm, 274, rfl⟩
abbrev main_call0_call0_v158 : Ref sig .tc := ⟨.hbm, 275, rfl⟩
abbrev main_call0_call0_c_41 : Ref sig .tc := ⟨.hbm, 276, rfl⟩
abbrev main_call0_call0_v159 : Ref sig .tc := ⟨.hbm, 277, rfl⟩
abbrev main_call0_call0_v160 : Ref sig .tc := ⟨.hbm, 278, rfl⟩
abbrev main_call0_call0_v161 : Ref sig .tc := ⟨.hbm, 279, rfl⟩
abbrev main_call0_call0_v162 : Ref sig .tc := ⟨.hbm, 280, rfl⟩
abbrev main_call0_call0_v163 : Ref sig .tc := ⟨.hbm, 281, rfl⟩
abbrev main_call0_call0_c_42 : Ref sig .tc := ⟨.hbm, 282, rfl⟩
abbrev main_call0_call0_v164 : Ref sig .tc := ⟨.hbm, 283, rfl⟩
abbrev main_call0_call0_v165 : Ref sig .tc := ⟨.hbm, 284, rfl⟩
abbrev main_call0_call0_c_43 : Ref sig .tc := ⟨.hbm, 285, rfl⟩
abbrev main_call0_call0_v166 : Ref sig .tc := ⟨.hbm, 286, rfl⟩
abbrev main_call0_call0_v167 : Ref sig .tc := ⟨.hbm, 287, rfl⟩
abbrev main_call0_call0_v168 : Ref sig .tc := ⟨.hbm, 288, rfl⟩
abbrev main_call0_call0_v169 : Ref sig .tc := ⟨.hbm, 289, rfl⟩
abbrev main_call0_call0_v170 : Ref sig .tc := ⟨.hbm, 290, rfl⟩
abbrev main_call0_v13_0 : Ref sig .tc := ⟨.hbm, 291, rfl⟩
abbrev main_call0_call0_v172 : Ref sig .tc := ⟨.hbm, 292, rfl⟩
abbrev main_call0_call0_v173 : Ref sig .tc := ⟨.hbm, 293, rfl⟩
abbrev main_call0_call0_c_44 : Ref sig .tc := ⟨.hbm, 294, rfl⟩
abbrev main_call0_call0_v174 : Ref sig .tc := ⟨.hbm, 295, rfl⟩
abbrev main_call0_v13_1 : Ref sig .tc := ⟨.hbm, 296, rfl⟩
abbrev main_v45 : Ref sig .tc := ⟨.hbm, 297, rfl⟩
abbrev main_call1_cst : Ref sig .tc := ⟨.hbm, 298, rfl⟩
abbrev main_call1_cst_0 : Ref sig .tc := ⟨.hbm, 299, rfl⟩
abbrev main_call1_call0_v0 : Ref sig .tc := ⟨.hbm, 300, rfl⟩
abbrev main_call1_call0_v1 : Ref sig .tc := ⟨.hbm, 301, rfl⟩
abbrev main_call1_call0_v2 : Ref sig .tc := ⟨.hbm, 302, rfl⟩
abbrev main_call1_call0_v3 : Ref sig .tc := ⟨.hbm, 303, rfl⟩
abbrev main_call1_call0_v4 : Ref sig .tc := ⟨.hbm, 304, rfl⟩
abbrev main_call1_call0_v5 : Ref sig .tc := ⟨.hbm, 305, rfl⟩
abbrev main_call1_call0_v6 : Ref sig .tc := ⟨.hbm, 306, rfl⟩
abbrev main_call1_call0_v7 : Ref sig .tc := ⟨.hbm, 307, rfl⟩
abbrev main_call1_call0_c : Ref sig .tc := ⟨.hbm, 308, rfl⟩
abbrev main_call1_call0_v8 : Ref sig .tc := ⟨.hbm, 309, rfl⟩
abbrev main_call1_call0_v9 : Ref sig .tc := ⟨.hbm, 310, rfl⟩
abbrev main_call1_call0_c_0 : Ref sig .tc := ⟨.hbm, 311, rfl⟩
abbrev main_call1_call0_v10 : Ref sig .tc := ⟨.hbm, 312, rfl⟩
abbrev main_call1_call0_v11 : Ref sig .tc := ⟨.hbm, 313, rfl⟩
abbrev main_call1_call0_v12 : Ref sig .tc := ⟨.hbm, 314, rfl⟩
abbrev main_call1_call0_v13 : Ref sig .tc := ⟨.hbm, 315, rfl⟩
abbrev main_call1_call0_v14 : Ref sig .tc := ⟨.hbm, 316, rfl⟩
abbrev main_call1_call0_v15 : Ref sig .tc := ⟨.hbm, 317, rfl⟩
abbrev main_call1_call0_v16 : Ref sig .tc := ⟨.hbm, 318, rfl⟩
abbrev main_call1_call0_v17 : Ref sig .tc := ⟨.hbm, 319, rfl⟩
abbrev main_call1_call0_call0_v0 : Ref sig .tc := ⟨.hbm, 320, rfl⟩
abbrev main_call1_call0_call0_c : Ref sig .tc := ⟨.hbm, 321, rfl⟩
abbrev main_call1_call0_call0_v1 : Ref sig .tc := ⟨.hbm, 322, rfl⟩
abbrev main_call1_call0_call0_v2 : Ref sig .tc := ⟨.hbm, 323, rfl⟩
abbrev main_call1_call0_call0_v3 : Ref sig .tc := ⟨.hbm, 324, rfl⟩
abbrev main_call1_call0_call0_v4 : Ref sig .tc := ⟨.hbm, 325, rfl⟩
abbrev main_call1_call0_call0_v5 : Ref sig .tc := ⟨.hbm, 326, rfl⟩
abbrev main_call1_call0_call0_v6 : Ref sig .tc := ⟨.hbm, 327, rfl⟩
abbrev main_call1_call0_call0_v7 : Ref sig .tc := ⟨.hbm, 328, rfl⟩
abbrev main_call1_call0_call0_v8 : Ref sig .tc := ⟨.hbm, 329, rfl⟩
abbrev main_call1_call0_call0_v9 : Ref sig .tc := ⟨.hbm, 330, rfl⟩
abbrev main_call1_call0_call0_c_0 : Ref sig .tc := ⟨.hbm, 331, rfl⟩
abbrev main_call1_call0_call0_v10 : Ref sig .tc := ⟨.hbm, 332, rfl⟩
abbrev main_call1_call0_call0_v11 : Ref sig .tc := ⟨.hbm, 333, rfl⟩
abbrev main_call1_call0_call0_c_1 : Ref sig .tc := ⟨.hbm, 334, rfl⟩
abbrev main_call1_call0_call0_v12 : Ref sig .tc := ⟨.hbm, 335, rfl⟩
abbrev main_call1_call0_call0_v13 : Ref sig .tc := ⟨.hbm, 336, rfl⟩
abbrev main_call1_call0_call0_v14 : Ref sig .tc := ⟨.hbm, 337, rfl⟩
abbrev main_call1_call0_call0_v15 : Ref sig .tc := ⟨.hbm, 338, rfl⟩
abbrev main_call1_call0_call0_v16 : Ref sig .tc := ⟨.hbm, 339, rfl⟩
abbrev main_call1_call0_call0_c_2 : Ref sig .tc := ⟨.hbm, 340, rfl⟩
abbrev main_call1_call0_call0_v17 : Ref sig .tc := ⟨.hbm, 341, rfl⟩
abbrev main_call1_call0_call0_v18 : Ref sig .tc := ⟨.hbm, 342, rfl⟩
abbrev main_call1_call0_call0_c_3 : Ref sig .tc := ⟨.hbm, 343, rfl⟩
abbrev main_call1_call0_call0_v19 : Ref sig .tc := ⟨.hbm, 344, rfl⟩
abbrev main_call1_call0_call0_v20 : Ref sig .tc := ⟨.hbm, 345, rfl⟩
abbrev main_call1_call0_call0_v21 : Ref sig .tc := ⟨.hbm, 346, rfl⟩
abbrev main_call1_call0_call0_v22 : Ref sig .tc := ⟨.hbm, 347, rfl⟩
abbrev main_call1_call0_call0_v23 : Ref sig .tc := ⟨.hbm, 348, rfl⟩
abbrev main_call1_call0_call0_c_4 : Ref sig .tc := ⟨.hbm, 349, rfl⟩
abbrev main_call1_call0_call0_v24 : Ref sig .tc := ⟨.hbm, 350, rfl⟩
abbrev main_call1_call0_call0_v25 : Ref sig .tc := ⟨.hbm, 351, rfl⟩
abbrev main_call1_call0_call0_c_5 : Ref sig .tc := ⟨.hbm, 352, rfl⟩
abbrev main_call1_call0_call0_v26 : Ref sig .tc := ⟨.hbm, 353, rfl⟩
abbrev main_call1_call0_call0_v27 : Ref sig .tc := ⟨.hbm, 354, rfl⟩
abbrev main_call1_call0_call0_v28 : Ref sig .tc := ⟨.hbm, 355, rfl⟩
abbrev main_call1_call0_call0_v29 : Ref sig .tc := ⟨.hbm, 356, rfl⟩
abbrev main_call1_call0_call0_v30 : Ref sig .tc := ⟨.hbm, 357, rfl⟩
abbrev main_call1_call0_call0_c_6 : Ref sig .tc := ⟨.hbm, 358, rfl⟩
abbrev main_call1_call0_call0_v31 : Ref sig .tc := ⟨.hbm, 359, rfl⟩
abbrev main_call1_call0_call0_v32 : Ref sig .tc := ⟨.hbm, 360, rfl⟩
abbrev main_call1_call0_call0_c_7 : Ref sig .tc := ⟨.hbm, 361, rfl⟩
abbrev main_call1_call0_call0_v33 : Ref sig .tc := ⟨.hbm, 362, rfl⟩
abbrev main_call1_call0_call0_v34 : Ref sig .tc := ⟨.hbm, 363, rfl⟩
abbrev main_call1_call0_call0_v35 : Ref sig .tc := ⟨.hbm, 364, rfl⟩
abbrev main_call1_call0_call0_v36 : Ref sig .tc := ⟨.hbm, 365, rfl⟩
abbrev main_call1_call0_call0_v37 : Ref sig .tc := ⟨.hbm, 366, rfl⟩
abbrev main_call1_call0_call0_v38 : Ref sig .tc := ⟨.hbm, 367, rfl⟩
abbrev main_call1_call0_call0_v39 : Ref sig .tc := ⟨.hbm, 368, rfl⟩
abbrev main_call1_call0_call0_v40 : Ref sig .tc := ⟨.hbm, 369, rfl⟩
abbrev main_call1_call0_call0_c_8 : Ref sig .tc := ⟨.hbm, 370, rfl⟩
abbrev main_call1_call0_call0_v41 : Ref sig .tc := ⟨.hbm, 371, rfl⟩
abbrev main_call1_call0_call0_v42 : Ref sig .tc := ⟨.hbm, 372, rfl⟩
abbrev main_call1_call0_call0_v43 : Ref sig .tc := ⟨.hbm, 373, rfl⟩
abbrev main_call1_call0_call0_c_9 : Ref sig .tc := ⟨.hbm, 374, rfl⟩
abbrev main_call1_call0_call0_v44 : Ref sig .tc := ⟨.hbm, 375, rfl⟩
abbrev main_call1_call0_call0_v45 : Ref sig .tc := ⟨.hbm, 376, rfl⟩
abbrev main_call1_call0_call0_c_10 : Ref sig .tc := ⟨.hbm, 377, rfl⟩
abbrev main_call1_call0_call0_v46 : Ref sig .tc := ⟨.hbm, 378, rfl⟩
abbrev main_call1_call0_call0_v47 : Ref sig .tc := ⟨.hbm, 379, rfl⟩
abbrev main_call1_call0_call0_v48 : Ref sig .tc := ⟨.hbm, 380, rfl⟩
abbrev main_call1_call0_call0_v49 : Ref sig .tc := ⟨.hbm, 381, rfl⟩
abbrev main_call1_call0_call0_v50 : Ref sig .tc := ⟨.hbm, 382, rfl⟩
abbrev main_call1_call0_call0_c_11 : Ref sig .tc := ⟨.hbm, 383, rfl⟩
abbrev main_call1_call0_call0_v51 : Ref sig .tc := ⟨.hbm, 384, rfl⟩
abbrev main_call1_call0_call0_v52 : Ref sig .tc := ⟨.hbm, 385, rfl⟩
abbrev main_call1_call0_call0_c_12 : Ref sig .tc := ⟨.hbm, 386, rfl⟩
abbrev main_call1_call0_call0_v53 : Ref sig .tc := ⟨.hbm, 387, rfl⟩
abbrev main_call1_call0_call0_v54 : Ref sig .tc := ⟨.hbm, 388, rfl⟩
abbrev main_call1_call0_call0_v55 : Ref sig .tc := ⟨.hbm, 389, rfl⟩
abbrev main_call1_call0_call0_v56 : Ref sig .tc := ⟨.hbm, 390, rfl⟩
abbrev main_call1_call0_call0_v57 : Ref sig .tc := ⟨.hbm, 391, rfl⟩
abbrev main_call1_call0_call0_c_13 : Ref sig .tc := ⟨.hbm, 392, rfl⟩
abbrev main_call1_call0_call0_v58 : Ref sig .tc := ⟨.hbm, 393, rfl⟩
abbrev main_call1_call0_call0_v59 : Ref sig .tc := ⟨.hbm, 394, rfl⟩
abbrev main_call1_call0_call0_c_14 : Ref sig .tc := ⟨.hbm, 395, rfl⟩
abbrev main_call1_call0_call0_v60 : Ref sig .tc := ⟨.hbm, 396, rfl⟩
abbrev main_call1_call0_call0_v61 : Ref sig .tc := ⟨.hbm, 397, rfl⟩
abbrev main_call1_call0_call0_v62 : Ref sig .tc := ⟨.hbm, 398, rfl⟩
abbrev main_call1_call0_call0_v63 : Ref sig .tc := ⟨.hbm, 399, rfl⟩
abbrev main_call1_call0_call0_v64 : Ref sig .tc := ⟨.hbm, 400, rfl⟩
abbrev main_call1_call0_call0_c_15 : Ref sig .tc := ⟨.hbm, 401, rfl⟩
abbrev main_call1_call0_call0_v65 : Ref sig .tc := ⟨.hbm, 402, rfl⟩
abbrev main_call1_call0_call0_v66 : Ref sig .tc := ⟨.hbm, 403, rfl⟩
abbrev main_call1_call0_call0_c_16 : Ref sig .tc := ⟨.hbm, 404, rfl⟩
abbrev main_call1_call0_call0_v67 : Ref sig .tc := ⟨.hbm, 405, rfl⟩
abbrev main_call1_call0_call0_v68 : Ref sig .tc := ⟨.hbm, 406, rfl⟩
abbrev main_call1_call0_call0_v69 : Ref sig .tc := ⟨.hbm, 407, rfl⟩
abbrev main_call1_call0_call0_v70 : Ref sig .tc := ⟨.hbm, 408, rfl⟩
abbrev main_call1_call0_call0_v71 : Ref sig .tc := ⟨.hbm, 409, rfl⟩
abbrev main_call1_call0_call0_v72 : Ref sig .tc := ⟨.hbm, 410, rfl⟩
abbrev main_call1_call0_call0_v73 : Ref sig .tc := ⟨.hbm, 411, rfl⟩
abbrev main_call1_call0_call0_v74 : Ref sig .tc := ⟨.hbm, 412, rfl⟩
abbrev main_call1_call0_call0_c_17 : Ref sig .tc := ⟨.hbm, 413, rfl⟩
abbrev main_call1_call0_call0_v75 : Ref sig .tc := ⟨.hbm, 414, rfl⟩
abbrev main_call1_call0_call0_v76 : Ref sig .tc := ⟨.hbm, 415, rfl⟩
abbrev main_call1_call0_call0_v77 : Ref sig .tc := ⟨.hbm, 416, rfl⟩
abbrev main_call1_call0_call0_c_18 : Ref sig .tc := ⟨.hbm, 417, rfl⟩
abbrev main_call1_call0_call0_v78 : Ref sig .tc := ⟨.hbm, 418, rfl⟩
abbrev main_call1_call0_call0_v79 : Ref sig .tc := ⟨.hbm, 419, rfl⟩
abbrev main_call1_call0_call0_c_19 : Ref sig .tc := ⟨.hbm, 420, rfl⟩
abbrev main_call1_call0_call0_v80 : Ref sig .tc := ⟨.hbm, 421, rfl⟩
abbrev main_call1_call0_call0_v81 : Ref sig .tc := ⟨.hbm, 422, rfl⟩
abbrev main_call1_call0_call0_v82 : Ref sig .tc := ⟨.hbm, 423, rfl⟩
abbrev main_call1_call0_call0_v83 : Ref sig .tc := ⟨.hbm, 424, rfl⟩
abbrev main_call1_call0_call0_v84 : Ref sig .tc := ⟨.hbm, 425, rfl⟩
abbrev main_call1_call0_call0_c_20 : Ref sig .tc := ⟨.hbm, 426, rfl⟩
abbrev main_call1_call0_call0_v85 : Ref sig .tc := ⟨.hbm, 427, rfl⟩
abbrev main_call1_call0_call0_v86 : Ref sig .tc := ⟨.hbm, 428, rfl⟩
abbrev main_call1_call0_call0_c_21 : Ref sig .tc := ⟨.hbm, 429, rfl⟩
abbrev main_call1_call0_call0_v87 : Ref sig .tc := ⟨.hbm, 430, rfl⟩
abbrev main_call1_call0_call0_v88 : Ref sig .tc := ⟨.hbm, 431, rfl⟩
abbrev main_call1_call0_call0_v89 : Ref sig .tc := ⟨.hbm, 432, rfl⟩
abbrev main_call1_call0_call0_v90 : Ref sig .tc := ⟨.hbm, 433, rfl⟩
abbrev main_call1_call0_call0_v91 : Ref sig .tc := ⟨.hbm, 434, rfl⟩
abbrev main_call1_call0_call0_c_22 : Ref sig .tc := ⟨.hbm, 435, rfl⟩
abbrev main_call1_call0_call0_v92 : Ref sig .tc := ⟨.hbm, 436, rfl⟩
abbrev main_call1_call0_call0_v93 : Ref sig .tc := ⟨.hbm, 437, rfl⟩
abbrev main_call1_call0_call0_c_23 : Ref sig .tc := ⟨.hbm, 438, rfl⟩
abbrev main_call1_call0_call0_v94 : Ref sig .tc := ⟨.hbm, 439, rfl⟩
abbrev main_call1_call0_call0_v95 : Ref sig .tc := ⟨.hbm, 440, rfl⟩
abbrev main_call1_call0_call0_v96 : Ref sig .tc := ⟨.hbm, 441, rfl⟩
abbrev main_call1_call0_call0_v97 : Ref sig .tc := ⟨.hbm, 442, rfl⟩
abbrev main_call1_call0_call0_v98 : Ref sig .tc := ⟨.hbm, 443, rfl⟩
abbrev main_call1_call0_call0_c_24 : Ref sig .tc := ⟨.hbm, 444, rfl⟩
abbrev main_call1_call0_call0_v99 : Ref sig .tc := ⟨.hbm, 445, rfl⟩
abbrev main_call1_call0_call0_v100 : Ref sig .tc := ⟨.hbm, 446, rfl⟩
abbrev main_call1_call0_call0_c_25 : Ref sig .tc := ⟨.hbm, 447, rfl⟩
abbrev main_call1_call0_call0_v101 : Ref sig .tc := ⟨.hbm, 448, rfl⟩
abbrev main_call1_call0_call0_v102 : Ref sig .tc := ⟨.hbm, 449, rfl⟩
abbrev main_call1_call0_call0_v103 : Ref sig .tc := ⟨.hbm, 450, rfl⟩
abbrev main_call1_call0_call0_v104 : Ref sig .tc := ⟨.hbm, 451, rfl⟩
abbrev main_call1_call0_call0_v105 : Ref sig .tc := ⟨.hbm, 452, rfl⟩
abbrev main_call1_call0_call0_v106 : Ref sig .tc := ⟨.hbm, 453, rfl⟩
abbrev main_call1_call0_call0_v107 : Ref sig .tc := ⟨.hbm, 454, rfl⟩
abbrev main_call1_call0_call0_v108 : Ref sig .tc := ⟨.hbm, 455, rfl⟩
abbrev main_call1_call0_call0_c_26 : Ref sig .tc := ⟨.hbm, 456, rfl⟩
abbrev main_call1_call0_call0_v109 : Ref sig .tc := ⟨.hbm, 457, rfl⟩
abbrev main_call1_call0_call0_v110 : Ref sig .tc := ⟨.hbm, 458, rfl⟩
abbrev main_call1_call0_call0_v111 : Ref sig .tc := ⟨.hbm, 459, rfl⟩
abbrev main_call1_call0_call0_c_27 : Ref sig .tc := ⟨.hbm, 460, rfl⟩
abbrev main_call1_call0_call0_v112 : Ref sig .tc := ⟨.hbm, 461, rfl⟩
abbrev main_call1_call0_call0_v113 : Ref sig .tc := ⟨.hbm, 462, rfl⟩
abbrev main_call1_call0_call0_c_28 : Ref sig .tc := ⟨.hbm, 463, rfl⟩
abbrev main_call1_call0_call0_v114 : Ref sig .tc := ⟨.hbm, 464, rfl⟩
abbrev main_call1_call0_call0_v115 : Ref sig .tc := ⟨.hbm, 465, rfl⟩
abbrev main_call1_call0_call0_v116 : Ref sig .tc := ⟨.hbm, 466, rfl⟩
abbrev main_call1_call0_call0_v117 : Ref sig .tc := ⟨.hbm, 467, rfl⟩
abbrev main_call1_call0_call0_v118 : Ref sig .tc := ⟨.hbm, 468, rfl⟩
abbrev main_call1_call0_call0_c_29 : Ref sig .tc := ⟨.hbm, 469, rfl⟩
abbrev main_call1_call0_call0_v119 : Ref sig .tc := ⟨.hbm, 470, rfl⟩
abbrev main_call1_call0_call0_v120 : Ref sig .tc := ⟨.hbm, 471, rfl⟩
abbrev main_call1_call0_call0_c_30 : Ref sig .tc := ⟨.hbm, 472, rfl⟩
abbrev main_call1_call0_call0_v121 : Ref sig .tc := ⟨.hbm, 473, rfl⟩
abbrev main_call1_call0_call0_v122 : Ref sig .tc := ⟨.hbm, 474, rfl⟩
abbrev main_call1_call0_call0_v123 : Ref sig .tc := ⟨.hbm, 475, rfl⟩
abbrev main_call1_call0_call0_v124 : Ref sig .tc := ⟨.hbm, 476, rfl⟩
abbrev main_call1_call0_call0_v125 : Ref sig .tc := ⟨.hbm, 477, rfl⟩
abbrev main_call1_call0_call0_c_31 : Ref sig .tc := ⟨.hbm, 478, rfl⟩
abbrev main_call1_call0_call0_v126 : Ref sig .tc := ⟨.hbm, 479, rfl⟩
abbrev main_call1_call0_call0_v127 : Ref sig .tc := ⟨.hbm, 480, rfl⟩
abbrev main_call1_call0_call0_c_32 : Ref sig .tc := ⟨.hbm, 481, rfl⟩
abbrev main_call1_call0_call0_v128 : Ref sig .tc := ⟨.hbm, 482, rfl⟩
abbrev main_call1_call0_call0_v129 : Ref sig .tc := ⟨.hbm, 483, rfl⟩
abbrev main_call1_call0_call0_v130 : Ref sig .tc := ⟨.hbm, 484, rfl⟩
abbrev main_call1_call0_call0_v131 : Ref sig .tc := ⟨.hbm, 485, rfl⟩
abbrev main_call1_call0_call0_v132 : Ref sig .tc := ⟨.hbm, 486, rfl⟩
abbrev main_call1_call0_call0_c_33 : Ref sig .tc := ⟨.hbm, 487, rfl⟩
abbrev main_call1_call0_call0_v133 : Ref sig .tc := ⟨.hbm, 488, rfl⟩
abbrev main_call1_call0_call0_v134 : Ref sig .tc := ⟨.hbm, 489, rfl⟩
abbrev main_call1_call0_call0_c_34 : Ref sig .tc := ⟨.hbm, 490, rfl⟩
abbrev main_call1_call0_call0_v135 : Ref sig .tc := ⟨.hbm, 491, rfl⟩
abbrev main_call1_call0_call0_v136 : Ref sig .tc := ⟨.hbm, 492, rfl⟩
abbrev main_call1_call0_call0_v137 : Ref sig .tc := ⟨.hbm, 493, rfl⟩
abbrev main_call1_call0_call0_v138 : Ref sig .tc := ⟨.hbm, 494, rfl⟩
abbrev main_call1_call0_call0_v139 : Ref sig .tc := ⟨.hbm, 495, rfl⟩
abbrev main_call1_call0_call0_v140 : Ref sig .tc := ⟨.hbm, 496, rfl⟩
abbrev main_call1_call0_call0_v141 : Ref sig .tc := ⟨.hbm, 497, rfl⟩
abbrev main_call1_call0_call0_v142 : Ref sig .tc := ⟨.hbm, 498, rfl⟩
abbrev main_call1_call0_call0_c_35 : Ref sig .tc := ⟨.hbm, 499, rfl⟩
abbrev main_call1_call0_call0_v143 : Ref sig .tc := ⟨.hbm, 500, rfl⟩
abbrev main_call1_call0_call0_v144 : Ref sig .tc := ⟨.hbm, 501, rfl⟩
abbrev main_call1_call0_call0_v145 : Ref sig .tc := ⟨.hbm, 502, rfl⟩
abbrev main_call1_call0_call0_c_36 : Ref sig .tc := ⟨.hbm, 503, rfl⟩
abbrev main_call1_call0_call0_v146 : Ref sig .tc := ⟨.hbm, 504, rfl⟩
abbrev main_call1_call0_call0_v147 : Ref sig .tc := ⟨.hbm, 505, rfl⟩
abbrev main_call1_call0_call0_c_37 : Ref sig .tc := ⟨.hbm, 506, rfl⟩
abbrev main_call1_call0_call0_v148 : Ref sig .tc := ⟨.hbm, 507, rfl⟩
abbrev main_call1_call0_call0_v149 : Ref sig .tc := ⟨.hbm, 508, rfl⟩
abbrev main_call1_call0_call0_v150 : Ref sig .tc := ⟨.hbm, 509, rfl⟩
abbrev main_call1_call0_call0_v151 : Ref sig .tc := ⟨.hbm, 510, rfl⟩
abbrev main_call1_call0_call0_v152 : Ref sig .tc := ⟨.hbm, 511, rfl⟩
abbrev main_call1_call0_call0_c_38 : Ref sig .tc := ⟨.hbm, 512, rfl⟩
abbrev main_call1_call0_call0_v153 : Ref sig .tc := ⟨.hbm, 513, rfl⟩
abbrev main_call1_call0_call0_v154 : Ref sig .tc := ⟨.hbm, 514, rfl⟩
abbrev main_call1_call0_call0_c_39 : Ref sig .tc := ⟨.hbm, 515, rfl⟩
abbrev main_call1_call0_call0_v155 : Ref sig .tc := ⟨.hbm, 516, rfl⟩
abbrev main_call1_call0_call0_v156 : Ref sig .tc := ⟨.hbm, 517, rfl⟩
abbrev main_call1_call0_call0_v157 : Ref sig .tc := ⟨.hbm, 518, rfl⟩
abbrev main_call1_call0_call0_v158 : Ref sig .tc := ⟨.hbm, 519, rfl⟩
abbrev main_call1_call0_call0_v159 : Ref sig .tc := ⟨.hbm, 520, rfl⟩
abbrev main_call1_call0_call0_c_40 : Ref sig .tc := ⟨.hbm, 521, rfl⟩
abbrev main_call1_call0_call0_v160 : Ref sig .tc := ⟨.hbm, 522, rfl⟩
abbrev main_call1_call0_call0_v161 : Ref sig .tc := ⟨.hbm, 523, rfl⟩
abbrev main_call1_call0_call0_c_41 : Ref sig .tc := ⟨.hbm, 524, rfl⟩
abbrev main_call1_call0_call0_v162 : Ref sig .tc := ⟨.hbm, 525, rfl⟩
abbrev main_call1_call0_call0_v163 : Ref sig .tc := ⟨.hbm, 526, rfl⟩
abbrev main_call1_call0_call0_v164 : Ref sig .tc := ⟨.hbm, 527, rfl⟩
abbrev main_call1_call0_call0_v165 : Ref sig .tc := ⟨.hbm, 528, rfl⟩
abbrev main_call1_call0_call0_v166 : Ref sig .tc := ⟨.hbm, 529, rfl⟩
abbrev main_call1_call0_call0_c_42 : Ref sig .tc := ⟨.hbm, 530, rfl⟩
abbrev main_call1_call0_call0_v167 : Ref sig .tc := ⟨.hbm, 531, rfl⟩
abbrev main_call1_call0_call0_v168 : Ref sig .tc := ⟨.hbm, 532, rfl⟩
abbrev main_call1_call0_call0_c_43 : Ref sig .tc := ⟨.hbm, 533, rfl⟩
abbrev main_call1_call0_call0_v169 : Ref sig .tc := ⟨.hbm, 534, rfl⟩
abbrev main_call1_call0_call0_v170 : Ref sig .tc := ⟨.hbm, 535, rfl⟩
abbrev main_call1_call0_call0_v171 : Ref sig .tc := ⟨.hbm, 536, rfl⟩
abbrev main_call1_call0_call0_v172 : Ref sig .tc := ⟨.hbm, 537, rfl⟩
abbrev main_call1_call0_call0_v173 : Ref sig .tc := ⟨.hbm, 538, rfl⟩
abbrev main_call1_call0_v18_0 : Ref sig .tc := ⟨.hbm, 539, rfl⟩
abbrev main_call1_call0_call0_v175 : Ref sig .tc := ⟨.hbm, 540, rfl⟩
abbrev main_call1_call0_call0_v176 : Ref sig .tc := ⟨.hbm, 541, rfl⟩
abbrev main_call1_call0_call0_c_44 : Ref sig .tc := ⟨.hbm, 542, rfl⟩
abbrev main_call1_call0_call0_v177 : Ref sig .tc := ⟨.hbm, 543, rfl⟩
abbrev main_call1_call0_v18_1 : Ref sig .tc := ⟨.hbm, 544, rfl⟩
abbrev main_call1_call0_v19 : Ref sig .tc := ⟨.hbm, 545, rfl⟩
abbrev main_call1_call0_c_1 : Ref sig .tc := ⟨.hbm, 546, rfl⟩
abbrev main_call1_call0_v20 : Ref sig .tc := ⟨.hbm, 547, rfl⟩
abbrev main_call1_call0_v21 : Ref sig .tc := ⟨.hbm, 548, rfl⟩
abbrev main_call1_call0_c_2 : Ref sig .tc := ⟨.hbm, 549, rfl⟩
abbrev main_call1_call0_v22 : Ref sig .tc := ⟨.hbm, 550, rfl⟩
abbrev main_call1_call0_v23 : Ref sig .tc := ⟨.hbm, 551, rfl⟩
abbrev main_call1_call0_v24 : Ref sig .tc := ⟨.hbm, 552, rfl⟩
abbrev main_call1_call0_cst : Ref sig .tc := ⟨.hbm, 553, rfl⟩
abbrev main_call1_call0_v25 : Ref sig .tc := ⟨.hbm, 554, rfl⟩
abbrev main_call1_call0_v26 : Ref sig .tc := ⟨.hbm, 555, rfl⟩
abbrev main_call1_call0_v27 : Ref sig .tc := ⟨.hbm, 556, rfl⟩
abbrev main_call1_call0_v28 : Ref sig .tc := ⟨.hbm, 557, rfl⟩
abbrev main_call1_call0_v29 : Ref sig .tc := ⟨.hbm, 558, rfl⟩
abbrev main_call1_call0_v30 : Ref sig .tc := ⟨.hbm, 559, rfl⟩
abbrev main_call1_call0_v31 : Ref sig .tc := ⟨.hbm, 560, rfl⟩
abbrev main_call1_call0_v32 : Ref sig .tc := ⟨.hbm, 561, rfl⟩
abbrev main_call1_call0_v33 : Ref sig .tc := ⟨.hbm, 562, rfl⟩
abbrev main_call1_call0_v34 : Ref sig .tc := ⟨.hbm, 563, rfl⟩
abbrev main_call1_call0_v35 : Ref sig .tc := ⟨.hbm, 564, rfl⟩
abbrev main_call1_v0 : Ref sig .tc := ⟨.hbm, 565, rfl⟩
abbrev main_call1_v1 : Ref sig .tc := ⟨.hbm, 566, rfl⟩
abbrev main_call1_v2 : Ref sig .tc := ⟨.hbm, 567, rfl⟩
abbrev main_call1_v3 : Ref sig .tc := ⟨.hbm, 568, rfl⟩
abbrev main_v46 : Ref sig .tc := ⟨.hbm, 569, rfl⟩
abbrev main_v47 : Ref sig .tc := ⟨.hbm, 570, rfl⟩
abbrev main_v48 : Ref sig .tc := ⟨.hbm, 571, rfl⟩
abbrev main_values_10 : Ref sig .tc := ⟨.hbm, 572, rfl⟩
abbrev main_indices_11 : Ref sig .tc := ⟨.hbm, 573, rfl⟩
abbrev main_c_12 : Ref sig .tc := ⟨.hbm, 574, rfl⟩
abbrev main_v49 : Ref sig .tc := ⟨.hbm, 575, rfl⟩
abbrev main_v50 : Ref sig .tc := ⟨.hbm, 576, rfl⟩
abbrev main_c_13 : Ref sig .tc := ⟨.hbm, 577, rfl⟩
abbrev main_v51 : Ref sig .tc := ⟨.hbm, 578, rfl⟩
abbrev main_v52 : Ref sig .tc := ⟨.hbm, 579, rfl⟩
abbrev main_v53 : Ref sig .tc := ⟨.hbm, 580, rfl⟩
abbrev main_v54 : Ref sig .tc := ⟨.hbm, 581, rfl⟩
abbrev main_v55 : Ref sig .tc := ⟨.hbm, 582, rfl⟩
abbrev main_cst_14 : Ref sig .tc := ⟨.hbm, 583, rfl⟩

abbrev nD : Nat := 1
abbrev τ : Topo := Topo.v7x

variable {F : FTy → Type} [FloatOps F]
-- ==== Proof.Tile.lean ====
/-
  The gather on one vector subcore: from 32 of the 1024 row numbers, a share of the table and 32 rows of the result,
  it leaves those rows of the result holding the table's rows that the numbers name, each number moved by 2048 for each
  whole batch before the tile's.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pipeline.FrameBody
public import Idealize.ShloMosaic.Lib.Pipeline.Value
public import Idealize.ShloMosaic.Lib.Pointwise.Reshape

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the staging cells' rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The call's arrays -/

abbrev tLoc (d : Dev nD) : Loc nD τ sig := (SparseCore.T d).loc main_v35
abbrev iLoc (d : Dev nD) : Loc nD τ sig := (SparseCore.T d).loc main_v34
abbrev oLoc (d : Dev nD) : Loc nD τ sig := (SparseCore.T d).loc main_v36

local notation "tV" => (Memref.whole Cert.KernelIdeal.main_v35_scv : Memref Cert.KernelIdeal.sig Kind.scVector Space.hbm Cert.KernelIdeal.S8192x768 EltTy.f32)
local notation "iV" => (Memref.whole Cert.KernelIdeal.main_v34_scv : Memref Cert.KernelIdeal.sig Kind.scVector Space.hbm Cert.KernelIdeal.S1024 EltTy.i32)
local notation "oV" => (Memref.whole Cert.KernelIdeal.main_v36_scv : Memref Cert.KernelIdeal.sig Kind.scVector Space.hbm Cert.KernelIdeal.S1024x768 EltTy.f32)
local notation "sV" => (Memref.whole Cert.KernelIdeal.cc1_scratch0 : Memref Cert.KernelIdeal.sig Kind.scVector Space.vmem Cert.KernelIdeal.S32 EltTy.i32)
local notation "rV" => (Memref.whole Cert.KernelIdeal.cc1_scratch1 : Memref Cert.KernelIdeal.sig Kind.scVector Space.vmem Cert.KernelIdeal.S32x768 EltTy.f32)

/-- The tile's number on its device, and the entries of the row numbers and the rows of the result that are its. -/
def blk (c : Fin 2) (s : Fin 16) : ℕ := 2 * s.val + c.val
def iSet (c : Fin 2) (s : Fin 16) : Finset S1024.Idx := Finset.univ.filter fun j => (j 0).val / 32 = blk c s
def oSet (c : Fin 2) (s : Fin 16) : Finset S1024x768.Idx := Finset.univ.filter fun j => (j 0).val / 32 = blk c s

/-- The index of a vector, and of a matrix, from its coordinates. -/
def ix1 (r : Fin 1024) : S1024.Idx := fun | 0 => r | ⟨_ + 1, h⟩ => absurd h (Nat.not_lt.2 (Nat.le_add_left _ _))
def ixT (r : Fin 8192) (k : Fin 768) : S8192x768.Idx := fun | 0 => r | 1 => k | ⟨_ + 2, h⟩ => absurd h (Nat.not_lt.2 (Nat.le_add_left _ _))

/-- Row `r` of the result is this row of the table. -/
def srcRow (I : S1024.Idx → BitVec 32) (r : Fin 1024) : Fin 8192 :=
  ⟨(r.val / 256 * 2048 + (I (ix1 r)).toNat) % 8192, Nat.mod_lt _ (by decide)⟩

/-- What the call leaves in its result. -/
def gathered (Tt : S8192x768.Idx → Elt F .f32) (I : S1024.Idx → BitVec 32) : S1024x768.Idx → Elt F .f32 :=
  fun j => Tt (ixT (srcRow I (j 0)) (j 1))

variable [FloatOps F]

section Tile

variable (Tt : (d : Dev nD) → Buf (Elt F) (tLoc d)) (I : (d : Dev nD) → Buf (Elt F) (iLoc d))
variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

abbrev iK (L : grid1.Coords) : Memref sig .scVector .hbm S32 .i32 := (iV).slice (Rect.unit (s := S1024) (k1_off1 L) S32.size (k1_off1_inb L)) (fun _ => rfl)
abbrev oK (L : grid1.Coords) : Memref sig .scVector .hbm S32x768 .f32 := (oV).slice (Rect.unit (s := S1024x768) (k1_off2 L) S32x768.size (k1_off2_inb L)) (fun _ => rfl)

omit [FloatOps F] in
theorem set_iK : (iK L).view.set = iSet (cL L) (jL L) := by
  show ((View.whole (main_v34_scv : Ref sig .scVector)).slice _).set = _
  rw [View.set_slice_whole]
  refine Finset.ext fun (j : S1024.Idx) => Rect.mem_set_unit.trans ?_
  rw [k1_off1_eq]
  refine Iff.trans ?_ (Finset.mem_filter.trans (and_iff_right (Finset.mem_univ _))).symm
  constructor
  · intro h
    have h1 : 64 * (L 1).val + 32 * (L 0).val ≤ (j 0).val ∧ (j 0).val < 64 * (L 1).val + 32 * (L 0).val + 32 := h 0
    show (j 0).val / 32 = 2 * (L 1).val + (L 0).val
    omega
  · intro h a
    have h1 : (j 0).val / 32 = 2 * (L 1).val + (L 0).val := h
    match a with
    | 0 => show 64 * (L 1).val + 32 * (L 0).val ≤ (j 0).val ∧ (j 0).val < 64 * (L 1).val + 32 * (L 0).val + 32; omega
omit [FloatOps F] in
theorem set_oK : (oK L).view.set = oSet (cL L) (jL L) := by
  show ((View.whole (main_v36_scv : Ref sig .scVector)).slice _).set = _
  rw [View.set_slice_whole]
  refine Finset.ext fun (j : S1024x768.Idx) => Rect.mem_set_unit.trans ?_
  rw [k1_off2_eq]
  refine Iff.trans ?_ (Finset.mem_filter.trans (and_iff_right (Finset.mem_univ _))).symm
  constructor
  · intro h
    have h1 : 64 * (L 1).val + 32 * (L 0).val ≤ (j 0).val ∧ (j 0).val < 64 * (L 1).val + 32 * (L 0).val + 32 := h 0
    show (j 0).val / 32 = 2 * (L 1).val + (L 0).val
    omega
  · intro h a
    have h1 : (j 0).val / 32 = 2 * (L 1).val + (L 0).val := h
    match a with
    | 0 => show 64 * (L 1).val + 32 * (L 0).val ≤ (j 0).val ∧ (j 0).val < 64 * (L 1).val + 32 * (L 0).val + 32; omega
    | 1 => exact ⟨Nat.zero_le _, by show (j 1).val < 0 + 768; have : (j 1).val < 768 := (j 1).isLt; omega⟩

abbrev tPts (q : PosShare TreeShare) : sProp 𝕄 := tLoc d ↦{q} Tt d
abbrev iPts (c : Fin 2) (s : Fin 16) : sProp 𝕄 := iLoc d ↦[iSet c s]{fullShare} I d
abbrev oPts (c : Fin 2) (s : Fin 16) (f : Buf (Elt F) (oLoc d)) : sProp 𝕄 := oLoc d ↦[oSet c s]{fullShare} f

omit [FloatOps F] in
theorem pts_iK (f : Buf (Elt F) (iLoc d)) :
    ((iK L).view.loc (V d (cV L) (jV L)) ↦[(iK L).view.set]{fullShare} f : sProp 𝕄) = iLoc d ↦[iSet (cL L) (jL L)]{fullShare} f := by
  rw [set_iK]
omit [FloatOps F] in
theorem pts_oK (f : Buf (Elt F) (oLoc d)) :
    ((oK L).view.loc (V d (cV L) (jV L)) ↦[(oK L).view.set]{fullShare} f : sProp 𝕄) = oLoc d ↦[oSet (cL L) (jL L)]{fullShare} f := by
  rw [set_oK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

set_option maxRecDepth 65536 in
omit [FloatOps F] in
/-- The two scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What a tile adds to each of its row numbers: 2048 for each whole batch before it. -/
def moved (L : grid1.Coords) : BitVec 32 := BitVec.ofNat 32 ((64 * (L 1).val + 32 * (L 0).val) / 256 * 2048)

omit [FloatOps F] in
theorem pay1_eq (v : Vec F S16 .i32) : k1_pay1 (F := F) L v = fun x => v x + moved L := by
  have h : ∀ L : grid1.Coords, Scalar.muli (Scalar.select (Scalar.andi (Scalar.cmpi .ne (Scalar.subi (Scalar.extui (Scalar.cmpi .sgt (Scalar.muli (Scalar.addi (Scalar.muli (BitVec.ofNat 32 (L 1).val) 2#32) (BitVec.ofNat 32 (L 0).val)) 32#32) 0#32)) (Scalar.extui (Scalar.cmpi .slt (Scalar.muli (Scalar.addi (Scalar.muli (BitVec.ofNat 32 (L 1).val) 2#32) (BitVec.ofNat 32 (L 0).val)) 32#32) 0#32))) (Scalar.subi (Scalar.extui (Scalar.cmpi .sgt 256#32 0#32)) (Scalar.extui (Scalar.cmpi .slt 256#32 0#32)))) (Scalar.cmpi .ne (Scalar.remsi (Scalar.muli (Scalar.addi (Scalar.muli (BitVec.ofNat 32 (L 1).val) 2#32) (BitVec.ofNat 32 (L 0).val)) 32#32) 256#32) 0#32)) (Scalar.subi (Scalar.divsi (Scalar.muli (Scalar.addi (Scalar.muli (BitVec.ofNat 32 (L 1).val) 2#32) (BitVec.ofNat 32 (L 0).val)) 32#32) 256#32) 1#32) (Scalar.divsi (Scalar.muli (Scalar.addi (Scalar.muli (BitVec.ofNat 32 (L 1).val) 2#32) (BitVec.ofNat 32 (L 0).val)) 32#32) 256#32)) 2048#32 = moved L := by
    decide +kernel
  unfold k1_pay1
  simp only [Idealize.ShloMosaic.shapeCast_id]
  funext x
  exact congrArg (v x + ·) (h L)

omit [FloatOps F] in
theorem pay2_eq (v : Vec F S16 .i32) : k1_pay2 (F := F) L v = fun x => v x + moved L := pay1_eq L v

/-- The tile's row numbers, moved: entry `j` of its list. -/
def adj (I : S1024.Idx → BitVec 32) (L : grid1.Coords) : S32.Idx → BitVec 32 := fun j =>
  I (ix1 ⟨64 * (L 1).val + 32 * (L 0).val + (j 0).val, by
    have h0 : (L 0).val < 2 := (L 0).isLt
    have h1 : (L 1).val < 16 := (L 1).isLt
    have h2 : (j 0).val < 32 := (j 0).isLt
    omega⟩) + moved L

theorem list_adj (g h : Vec F S16 .i32) (f : Buf (Elt F) ((V d (cV L) (jV L)).loc cc1_scratch0))
    (hg : ∀ x : S16.Idx, g x + moved L = adj (I d) L (fun | 0 => ⟨0 + (x 0).val, by have : (x 0).val < 16 := (x 0).isLt; show _ < 32; omega⟩ | ⟨_ + 1, h⟩ => absurd h (Nat.not_lt.2 (Nat.le_add_left _ _))))
    (hh : ∀ x : S16.Idx, h x + moved L = adj (I d) L (fun | 0 => ⟨16 + (x 0).val, by have : (x 0).val < 16 := (x 0).isLt; show _ < 32; omega⟩ | ⟨_ + 1, h⟩ => absurd h (Nat.not_lt.2 (Nat.le_add_left _ _)))) :
    (sV).view.writes (Elt F) f [⟨Rect.unit ![16] S16.size inb_S32_S16_16, k1_pay2 (F := F) L h⟩, ⟨Rect.unit ![0] S16.size inb_S32_S16_0, k1_pay1 (F := F) L g⟩]
      = adj (I d) L := by
  rw [pay1_eq, pay2_eq]
  refine (View.read_whole (Val := Elt F) _ _).symm.trans ?_
  funext (y : S32.Idx)
  rw [View.read_writes_cons_unit _ _ _ _ _ _ rfl]
  split
  · next hy =>
    refine (hh _).trans (congrArg _ (funext fun a => ?_))
    match a with
    | 0 =>
      have := (hy 0).1
      refine Fin.ext ?_
      show 16 + ((y 0).val - 16) = (y 0).val
      have h16 : 16 ≤ (y 0).val := this
      omega
  · next hy =>
    rw [View.read_writes_cons_unit _ _ _ _ _ _ rfl]
    have hlt : (y 0).val < 16 := by
      by_contra hc
      refine hy fun a => ?_
      match a with
      | 0 => have : (y 0).val < 32 := (y 0).isLt
             show 16 ≤ (y 0).val ∧ (y 0).val < 16 + 16
             omega
    rw [dif_pos (fun a => match a with | 0 => by show 0 ≤ (y 0).val ∧ (y 0).val < 0 + 16; omega)]
    refine (hg _).trans (congrArg _ (funext fun a => ?_))
    match a with
    | 0 => exact Fin.ext (Nat.zero_add _)

omit [FloatOps F] in
theorem adj_toNat (I : S1024.Idx → BitVec 32) (hI : ∀ j, (I j).toNat < 2048) (x : S32.Idx) :
    (adj I L x).toNat = (srcRow I ⟨64 * (L 1).val + 32 * (L 0).val + (x 0).val, by
      have h0 : (L 0).val < 2 := (L 0).isLt
      have h1 : (L 1).val < 16 := (L 1).isLt
      have h2 : (x 0).val < 32 := (x 0).isLt
      omega⟩).val := by
  have h0 : (L 0).val < 2 := (L 0).isLt
  have h1 : (L 1).val < 16 := (L 1).isLt
  have h2 : (x 0).val < 32 := (x 0).isLt
  unfold adj moved srcRow
  rw [BitVec.toNat_add, BitVec.toNat_ofNat]
  dsimp only
  have := hI (ix1 ⟨64 * (L 1).val + 32 * (L 0).val + (x 0).val, by omega⟩)
  omega

/-- The tile's row buffer once every column block is in. -/
def tileRows (Tt : S8192x768.Idx → Elt F .f32) (I : S1024.Idx → BitVec 32) (L : grid1.Coords) : S32x768.Idx → Elt F .f32 :=
  fun y => gathered (F := F) Tt I (fun
    | 0 => ⟨64 * (L 1).val + 32 * (L 0).val + (y 0).val, by
        have h0 : (L 0).val < 2 := (L 0).isLt
        have h1 : (L 1).val < 16 := (L 1).isLt
        have h2 : (y 0).val < 32 := (y 0).isLt
        show _ < 1024
        omega⟩
    | 1 => y 1
    | ⟨_ + 2, h⟩ => absurd h (Nat.not_lt.2 (Nat.le_add_left _ _)))

omit [FloatOps F] in
theorem gather_piece (hI : ∀ j, (I d j).toNat < 2048) (o : ℕ) (inb : ∀ a, (![0, o] : Fin 2 → ℕ) a + (![8192, 128] : Fin 2 → ℕ) a ≤ S8192x768.size a)
    (inb' : ∀ a, (![0, o] : Fin 2 → ℕ) a + (![32, 128] : Fin 2 → ℕ) a ≤ S32x768.size a) (st) (hn)
    (hin : ∀ x, ((sV).view.read (Elt F) (adj (I d) L) x).toNat < S8192x128.size gathers_S8192x128_S32x128.axis) (x : S32x128.Idx) :
    SparseCore.gatherPayload gathers_S8192x128_S32x128
        (((tV).slice (Rect.unit ![0, o] ![8192, 128] inb) st).view.read (Elt F) (Tt d))
        (SparseCore.rows ((sV).view.read (Elt F) (adj (I d) L)) hn hin) x
      = tileRows (F := F) (Tt d) (I d) L ((Rect.unit (s := S32x768) ![0, o] ![32, 128] inb').emb x) := by
  unfold SparseCore.gatherPayload
  rw [show ∀ j, ((tV).slice (Rect.unit ![0, o] ![8192, 128] inb) st).view.read (Elt F) (Tt d) j
      = Tt d ((Rect.unit (s := S8192x768) ![0, o] ![8192, 128] inb).emb j) from fun j => (View.read_apply _ _).trans (cast_eq _ _)]
  unfold tileRows gathered
  refine congrArg (Tt d) (funext fun a => ?_)
  match a with
  | 0 =>
    refine Fin.ext ?_
    show 0 + 1 * (gathers_S8192x128_S32x128.idx _ x gathers_S8192x128_S32x128.axis).val = _
    rw [Shape.Gathers.idx_axis]
    refine (zero_add _).trans ((one_mul _).trans ((adj_toNat L (I d) hI _).trans ?_))
    refine congrArg (fun r => (srcRow (I d) r).val) (Fin.ext ?_)
    show 64 * (L 1).val + 32 * (L 0).val + _ = 64 * (L 1).val + 32 * (L 0).val + (0 + 1 * (x 0).val)
    rw [zero_add, one_mul]
    refine congrArg (64 * (L 1).val + 32 * (L 0).val + ·) ?_
    refine (Shape.rowMajor_val_one (d := S32.size) (S32.rowMajor.symm _)).symm.trans ?_
    rw [Equiv.apply_symm_apply]
    rfl
  | 1 =>
    refine Fin.ext ?_
    show o + 1 * (gathers_S8192x128_S32x128.idx _ x 1).val = o + 1 * (x 1).val
    rw [Shape.Gathers.idx_of_ne _ _ _ _ (by decide)]
    rfl

omit [FloatOps F] in
/-- The copied-out block of the output. -/
theorem out_block (fo : Buf (Elt F) (oLoc d)) :
    ∀ j ∈ oSet (cL L) (jL L), (oK L).view.writes (Elt F) fo [⟨Rect.whole S32x768, tileRows (F := F) (Tt d) (I d) L⟩] j = gathered (F := F) (Tt d) (I d) j := by
  rw [← set_oK]
  intro j hj
  obtain ⟨x, -, rfl⟩ := Finset.mem_map.mp hj
  rw [View.writes_singleton]
  refine (cast_eq _ _).symm.trans ((View.read_apply (v := (oK L).view) _ x).symm.trans ?_)
  have hx : ((oK L).view.slice (Rect.whole S32x768)).emb x = (oK L).view.emb x := congrArg (oK L).view.emb (Rect.emb_whole_apply S32x768 x)
  refine (cast_eq _ _).trans ((congrArg _ hx.symm).trans ((View.write_emb_of_mem (v := (oK L).view.slice (Rect.whole S32x768)) _ _ (Finset.mem_univ x)).trans ((cast_eq _ _).trans ?_)))
  refine congrArg (gathered (F := F) (Tt d) (I d)) (funext fun a => ?_)
  match a with
  | 0 =>
    refine Fin.ext ?_
    show 64 * (L 1).val + 32 * (L 0).val + (x 0).val = k1_off2 L 0 + 1 * (x 0).val
    rw [k1_off2_eq, one_mul]
    rfl
  | 1 =>
    refine Fin.ext ?_
    show (x 1).val = k1_off2 L 1 + 1 * (x 1).val
    rw [k1_off2_eq, one_mul]
    exact (zero_add _).symm

omit [FloatOps F] in
/-- The sixteen fetched words from `o` on, moved. -/
theorem fetched (fs : Buf (Elt F) ((V d (cV L) (jV L)).loc cc1_scratch0)) (o : ℕ) (inb : ∀ a, (![o] : Fin 1 → ℕ) a + S16.size a ≤ S32.size a) (ho : o + 16 ≤ 32) (x : S16.Idx) :
    HAdd.hAdd (α := BitVec 32) (β := BitVec 32) (γ := BitVec 32)
        (View.readAt (Elt F) (sV).view (Rect.unit (s := S32) ![o] S16.size inb).toLoadRect
          (View.write (Elt F) (sV).view fs (ReadAs.same.apply ((iK L).view.read (Elt F) (I d))) Finset.univ) x) (moved L)
      = adj (I d) L (fun | 0 => ⟨o + (x 0).val, by have : (x 0).val < 16 := (x 0).isLt; show _ < 32; omega⟩ | ⟨_ + 1, h⟩ => absurd h (Nat.not_lt.2 (Nat.le_add_left _ _))) := by
  rw [View.write_whole_univ, View.readAt_apply]
  unfold adj
  refine congrArg (fun v : BitVec 32 => v + moved L) ((cast_eq _ _).trans ((cast_eq _ _).trans (congrArg (I d) (funext fun a => ?_))))
  match a with
  | 0 =>
    refine Fin.ext ?_
    show k1_off1 L 0 + 1 * (o + 1 * (x 0).val) = 64 * (L 1).val + 32 * (L 0).val + (o + (x 0).val)
    rw [k1_off1_eq, one_mul, one_mul]
    rfl

omit [FloatOps F] in
theorem mem_cols (o : ℕ) (inb : ∀ a, (![0, o] : Fin 2 → ℕ) a + (![32, 128] : Fin 2 → ℕ) a ≤ S32x768.size a) (y : S32x768.Idx)
    (h : o ≤ (y 1).val ∧ (y 1).val < o + 128) : y ∈ (Rect.unit (s := S32x768) ![0, o] ![32, 128] inb).set :=
  Rect.mem_set_unit.mpr fun
    | 0 => ⟨Nat.zero_le _, by show (y 0).val < 0 + 32; have : (y 0).val < 32 := (y 0).isLt; omega⟩
    | 1 => h

omit [FloatOps F] in
/-- The six column blocks cover the row buffer. -/
theorem cov_cols (g0 g1 g2 g3 g4 g5 : S32x128.Idx → Elt F .f32) (y : S32x768.Idx) :
    ∃ p ∈ ([⟨Rect.unit ![0, 640] ![32, 128] inb_S32x768_S32x128_0_640, g5⟩, ⟨Rect.unit ![0, 512] ![32, 128] inb_S32x768_S32x128_0_512, g4⟩,
        ⟨Rect.unit ![0, 384] S32x128.size inb_S32x768_S32x128_0_384, g3⟩, ⟨Rect.unit ![0, 256] S32x128.size inb_S32x768_S32x128_0_256, g2⟩,
        ⟨Rect.unit ![0, 128] S32x128.size inb_S32x768_S32x128_0_128, g1⟩, ⟨Rect.unit ![0, 0] S32x128.size inb_S32x768_S32x128_0_0, g0⟩] :
          List (View.Piece (Elt F) S32x768 .f32)), y ∈ p.1.set := by
  have hy : (y 1).val < 768 := (y 1).isLt
  by_cases h5 : 640 ≤ (y 1).val; · exact ⟨_, List.mem_cons_self, mem_cols 640 inb_S32x768_S32x128_0_640 y (by omega)⟩
  by_cases h4 : 512 ≤ (y 1).val; · exact ⟨_, .tail _ List.mem_cons_self, mem_cols 512 inb_S32x768_S32x128_0_512 y (by omega)⟩
  by_cases h3 : 384 ≤ (y 1).val; · exact ⟨_, .tail _ (.tail _ List.mem_cons_self), mem_cols 384 inb_S32x768_S32x128_0_384 y (by omega)⟩
  by_cases h2 : 256 ≤ (y 1).val; · exact ⟨_, .tail _ (.tail _ (.tail _ List.mem_cons_self)), mem_cols 256 inb_S32x768_S32x128_0_256 y (by omega)⟩
  by_cases h1 : 128 ≤ (y 1).val; · exact ⟨_, .tail _ (.tail _ (.tail _ (.tail _ List.mem_cons_self))), mem_cols 128 inb_S32x768_S32x128_0_128 y (by omega)⟩
  exact ⟨_, .tail _ (.tail _ (.tail _ (.tail _ (.tail _ List.mem_cons_self)))), mem_cols 0 inb_S32x768_S32x128_0_0 y (by omega)⟩

set_option maxHeartbeats 4000000 in
theorem tile_body (hF : (K (F := F)).Facts) (q : PosShare TreeShare) (O : CellTallies nD τ sig (HIx 1)) (W : Waits sig (HIx 1)) (hO : ∀ g, O g none = 0) (fo : Buf (Elt F) (oLoc d))
    (hI : ∀ j, (I d j).toNat < 2048) :
    iprop(levAts (K (F := F)).L (K (F := F)).lev ∗ emp
        ∗ (iPts I d (cL L) (jL L) ∗ tPts Tt d q ∗ oPts d (cL L) (jL L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            sV (Memref.isWhole_whole _) rV (Memref.isWhole_whole _) cc1_scratch2 cc1_scoped0 cc1_scoped1)
          fun _ => iprop((iPts I d (cL L) (jL L) ∗ tPts Tt d q ∗ oPts d (cL L) (jL L) (gathered (F := F) (Tt d) (I d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  have hlist : (sV).view.writes (Elt F) (sV).view.junk (tile_body.sl.Hs'_2 I d L fs) = adj (I d) L := by
    refine list_adj I d L _ _ _ (fun x => ?_) (fun x => ?_)
    · exact fetched (F := F) (I := I) (d := d) (L := L) fs 0 _ (by omega) x
    · exact fetched (F := F) (I := I) (d := d) (L := L) fs 16 _ (by omega) x
  rw [hlist]
  have hin : ∀ x, ((sV).view.read (Elt F) (adj (I d) L) x).toNat < S8192x128.size gathers_S8192x128_S32x128.axis := fun x => by
    refine lt_of_eq_of_lt (adj_toNat L (I d) hI x) (Fin.isLt _)
  sl_exec
  have hQ : tile_body.sl.dma0_1 Tt I d L fr hin = tileRows (F := F) (Tt d) (I d) L := by
    unfold tile_body.sl.dma0_1
    refine (View.read_writes_eq_canon _ _ _ (cov_cols _ _ _ _ _ _)).trans (funext fun y => View.canon_apply_of_pieces _ _ ?_ y (cov_cols _ _ _ _ _ _ y))
    unfold tile_body.sl.gather0 tile_body.sl.gather1 tile_body.sl.gather2 tile_body.sl.gather3 tile_body.sl.gather4 tile_body.sl.gather5
    exact List.forall_mem_cons.mpr ⟨fun x => gather_piece (F := F) Tt I d L hI 640 inb_S8192x768_S8192x128_0_640 inb_S32x768_S32x128_0_640 (fun _ => rfl) rfl hin x,
      List.forall_mem_cons.mpr ⟨fun x => gather_piece (F := F) Tt I d L hI 512 inb_S8192x768_S8192x128_0_512 inb_S32x768_S32x128_0_512 (fun _ => rfl) rfl hin x,
      List.forall_mem_cons.mpr ⟨fun x => gather_piece (F := F) Tt I d L hI 384 inb_S8192x768_S8192x128_0_384 inb_S32x768_S32x128_0_384 (fun _ => rfl) rfl hin x,
      List.forall_mem_cons.mpr ⟨fun x => gather_piece (F := F) Tt I d L hI 256 inb_S8192x768_S8192x128_0_256 inb_S32x768_S32x128_0_256 (fun _ => rfl) rfl hin x,
      List.forall_mem_cons.mpr ⟨fun x => gather_piece (F := F) Tt I d L hI 128 inb_S8192x768_S8192x128_0_128 inb_S32x768_S32x128_0_128 (fun _ => rfl) rfl hin x,
      List.forall_mem_cons.mpr ⟨fun x => gather_piece (F := F) Tt I d L hI 0 inb_S8192x768_S8192x128_0_0 inb_S32x768_S32x128_0_0 (fun _ => rfl) rfl hin x,
      fun _ h => absurd h List.not_mem_nil⟩⟩⟩⟩⟩⟩
  rw [hQ]
  ihave Ho' := (Entails.of_eq ((pts_oK (F := F) d L _).trans (pointsTo_congr (out_block Tt I d L fo)))) $$ Ho'
  sl_step
  isplitl [Hi' Hx' Ho']
  · isplitl [Hi']; · iapply (Entails.of_eq (pts_iK (F := F) d L _)); iexact Hi'
    isplitl [Hx']; · iexact Hx'
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  iterate 8
    rcases Finset.mem_insert.mp hp with hp | hp
    · exact .inr (hp ▸ rfl)
  exact .inl hp

end Tile

end Cert.Proof

end
-- ==== Proof.Ent.lean ====
/-
  What the entropy kernel's body computes, in the vector operations of its own text but written as a loop: the squared
  distances chunk by chunk, a sorted list of five kept in every lane, and five extractions of the smallest over the
  lanes. The printed body is one load of its block, and two stores of what `means` says.
-/
module

public import proofs.«01_k».proof.Proof.Tile

@[expose] public section

noncomputable section

namespace Cert.Proof

open Cert.KernelIdeal Cert.KernelIdeal.Gen

open Idealize.ShloMosaic
open Idealize.SL.Sem

variable {F : FTy → Type} [FloatOps F]

/-! ## The pieces -/

/-- Chunk `c` of a row of 2048 columns starts at `128 c`. -/
theorem slice_cols (c : Fin 16) : S1024x2048.Slices ![0, 128 * c.val] S1024x128 := by
  revert c; decide
theorem slice_norms (c : Fin 16) : S2048.Slices ![128 * c.val] S128 := by
  revert c; decide

/-- The row numbers of a half that starts at row `o`. -/
def rowIds (o : BitVec 32) : IVec S1024x128 32 := addi (broadcast S1024x128 o) (iota .tc S1024x128 32 [0] iota_S1024x128_d0_w32)
/-- The lane numbers. -/
def laneIds : IVec S1024x128 32 := iota .tc S1024x128 32 [1] iota_S1024x128_d1_w32
/-- The value that stands for "no distance", in every lane. -/
def bigs : FVec F S1024x128 .f32 := broadcast S1024x128 (Scalar.ofBits .f32 0x501502F9#32)

/-- Chunk `c` of a half's products with all rows, and of the norms of all rows. -/
def colsOf (mm : FVec F S1024x2048 .f32) (c : Fin 16) : FVec F S1024x128 .f32 := extractStridedSlice S1024x128 ![0, 128 * c.val] mm (slice_cols c)
def normsOf (sf : FVec F S2048 .f32) (c : Fin 16) : FVec F S128 .f32 := extractStridedSlice S128 ![128 * c.val] sf (slice_norms c)
/-- The sums of a half's row norms and the norms of chunk `c`. -/
def sums (sf : FVec F S2048 .f32) (sr : FVec F S1024 .f32) (c : Fin 16) : FVec F S1024x128 .f32 :=
  addf (broadcastTo S1024x128 (shapeCast S1024x1 sr shapeCasts_S1024_S1024x1) broadcasts_S1024x1_S1024x128)
    (broadcastTo S1024x128 (shapeCast S1x128 (normsOf sf c) shapeCasts_S128_S1x128) broadcasts_S1x128_S1024x128)
/-- The squared distances of a half's rows to the columns of chunk `c`, -/
def raw (sf : FVec F S2048 .f32) (sr : FVec F S1024 .f32) (mm : FVec F S1024x2048 .f32) (c : Fin 16) : FVec F S1024x128 .f32 :=
  subf (sums sf sr c) (mulf (broadcast S1024x128 (Scalar.ofBits .f32 0x40000000#32)) (colsOf mm c))
/-- clamped at zero. -/
def dist (sf : FVec F S2048 .f32) (sr : FVec F S1024 .f32) (mm : FVec F S1024x2048 .f32) (c : Fin 16) : FVec F S1024x128 .f32 :=
  maximumf (raw sf sr mm c) (broadcast S1024x128 (Scalar.ofBits .f32 0x00000000#32))

/-- The same with a row's distance to itself replaced by the large value: `o` the half's first row. -/
def masked (o : BitVec 32) (sf : FVec F S2048 .f32) (sr : FVec F S1024 .f32) (mm : FVec F S1024x2048 .f32) (c : Fin 16) : FVec F S1024x128 .f32 :=
  select (cmpi .eq (rowIds o) (addi (broadcast S1024x128 (BitVec.ofNat 32 (128 * c.val))) laneIds)) bigs (dist sf sr mm c)

/-- Five values in every lane. -/
structure Five (F : FTy → Type) where
  a : FVec F S1024x128 .f32
  b : FVec F S1024x128 .f32
  c : FVec F S1024x128 .f32
  d : FVec F S1024x128 .f32
  e : FVec F S1024x128 .f32

namespace Five

/-- The list that holds `v` alone. -/
def one (v : FVec F S1024x128 .f32) : Five F := ⟨v, bigs, bigs, bigs, bigs⟩

/-- What goes on past the list's first, second, third, fourth place when `v` is put into it: the larger at each place. -/
def carry1 (m : Five F) (v : FVec F S1024x128 .f32) : FVec F S1024x128 .f32 := maximumf m.a v
def carry2 (m : Five F) (v : FVec F S1024x128 .f32) : FVec F S1024x128 .f32 := maximumf m.b (m.carry1 v)
def carry3 (m : Five F) (v : FVec F S1024x128 .f32) : FVec F S1024x128 .f32 := maximumf m.c (m.carry2 v)
def carry4 (m : Five F) (v : FVec F S1024x128 .f32) : FVec F S1024x128 .f32 := maximumf m.d (m.carry3 v)

/-- `v` put into the list: at each place the smaller stays. -/
def put (m : Five F) (v : FVec F S1024x128 .f32) : Five F :=
  ⟨minimumf m.a v, minimumf m.b (m.carry1 v), minimumf m.c (m.carry2 v), minimumf m.d (m.carry3 v), minimumf m.e (m.carry4 v)⟩

theorem put_a (m : Five F) (v : FVec F S1024x128 .f32) : (m.put v).a = minimumf m.a v := by unfold put; rfl
theorem put_b (m : Five F) (v : FVec F S1024x128 .f32) : (m.put v).b = minimumf m.b (m.carry1 v) := by unfold put; rfl
theorem put_c (m : Five F) (v : FVec F S1024x128 .f32) : (m.put v).c = minimumf m.c (m.carry2 v) := by unfold put; rfl
theorem put_d (m : Five F) (v : FVec F S1024x128 .f32) : (m.put v).d = minimumf m.d (m.carry3 v) := by unfold put; rfl
theorem put_e (m : Five F) (v : FVec F S1024x128 .f32) : (m.put v).e = minimumf m.e (m.carry4 v) := by unfold put; rfl

/-- `v` put into the list's first two, three or four places. -/
def put2 (m : Five F) (v : FVec F S1024x128 .f32) : Five F := ⟨minimumf m.a v, minimumf m.b (m.carry1 v), m.c, m.d, m.e⟩
def put3 (m : Five F) (v : FVec F S1024x128 .f32) : Five F := ⟨minimumf m.a v, minimumf m.b (m.carry1 v), minimumf m.c (m.carry2 v), m.d, m.e⟩
def put4 (m : Five F) (v : FVec F S1024x128 .f32) : Five F :=
  ⟨minimumf m.a v, minimumf m.b (m.carry1 v), minimumf m.c (m.carry2 v), minimumf m.d (m.carry3 v), m.e⟩

/-- The list after chunk `n`: chunks put into it one by one, the first few into the places that can be taken. -/
def fill (v : Fin 16 → FVec F S1024x128 .f32) : ℕ → Five F
  | 0 => one (v 0)
  | 1 => (one (v 0)).put2 (v 1)
  | 2 => ((one (v 0)).put2 (v 1)).put3 (v 2)
  | 3 => (((one (v 0)).put2 (v 1)).put3 (v 2)).put4 (v 3)
  | n + 4 => (fill v (n + 3)).put (v (Fin.ofNat 16 (n + 4)))

/-- Each row's smallest value over the lanes. -/
def least (m : Five F) : FVec F S1024 .f32 := multiReduction .minimumf [1] S1024 m.a 0x7F800000#32 reduces_S1024x128_S1024 (.inl rfl) rfl

/-- The same in every lane. -/
def leasts (m : Five F) : FVec F S1024x128 .f32 := broadcastTo S1024x128 (shapeCast S1024x1 m.least shapeCasts_S1024_S1024x1) broadcasts_S1024x1_S1024x128

/-- The lanes that hold it. -/
def ties (m : Five F) : IVec S1024x128 1 := cmpf .oeq m.a m.leasts

/-- The first lane of each row that holds the smallest value. -/
def hit (m : Five F) : IVec S1024x128 1 :=
  cmpi .eq laneIds (broadcastTo S1024x128 (shapeCast S1024x1
    (multiReductionI .minsi [1] S1024
      (select m.ties laneIds (broadcast S1024x128 128#32))
      2147483647#32 reduces_S1024x128_S1024 rfl)
    shapeCasts_S1024_S1024x1) broadcasts_S1024x1_S1024x128)

/-- The smallest value taken out of the lane it was found in. -/
def drop (m : Five F) : Five F := ⟨select m.hit m.b m.a, select m.hit m.c m.b, select m.hit m.d m.c, select m.hit m.e m.d, select m.hit bigs m.e⟩

theorem drop_a (m : Five F) : m.drop.a = select m.hit m.b m.a := by simp only [drop]
theorem drop_b (m : Five F) : m.drop.b = select m.hit m.c m.b := by simp only [drop]
theorem drop_c (m : Five F) : m.drop.c = select m.hit m.d m.c := by simp only [drop]
theorem drop_d (m : Five F) : m.drop.d = select m.hit m.e m.d := by simp only [drop]

/-- The root of each row's smallest value, floored. -/
def root (m : Five F) : FVec F S1024 .f32 := sqrt (maximumf m.least (broadcast S1024 (Scalar.ofBits .f32 0x2B8CBCCC#32)))

/-- The sum of the first roots, extraction by extraction. -/
def acc1 (m : Five F) : FVec F S1024 .f32 := addf (broadcast S1024 (Scalar.ofBits .f32 0x00000000#32)) m.root
def acc3 (m : Five F) : FVec F S1024 .f32 := addf (addf m.acc1 m.drop.root) m.drop.drop.root
def acc4 (m : Five F) : FVec F S1024 .f32 := addf m.acc3 m.drop.drop.drop.root

/-- The mean of the roots of the five smallest values of each row. -/
def mean (m : Five F) : FVec F S1x1x1024 .f32 :=
  shapeCast S1x1x1024 (divf (addf m.acc4 m.drop.drop.drop.drop.root) (broadcast S1024 (Scalar.ofBits .f32 0x40A00000#32))) shapeCasts_S1024_S1x1x1024

end Five

/-- The block's rows. -/
def rowsOf (x : Vec F S1x2048x768 .f32) : FVec F S2048x768 .f32 := shapeCast S2048x768 x shapeCasts_S1x2048x768_S2048x768
/-- Every row's squared norm. -/
def norms (x : Vec F S1x2048x768 .f32) : FVec F S2048 .f32 :=
  shapeCast S2048 (shapeCast S1x2048 (multiReduction .add [1] S2048 (mulf (rowsOf x) (rowsOf x)) 0x00000000#32 reduces_S2048x768_S2048 (.inl rfl) rfl)
    shapeCasts_S2048_S1x2048) shapeCasts_S1x2048_S2048
/-- The rows of the first and of the second half, -/
def half0 (x : Vec F S1x2048x768 .f32) : FVec F S1024x768 .f32 := extractStridedSlice S1024x768 ![0, 0] (rowsOf x) slices_S2048x768_o0_0_S1024x768
def half1 (x : Vec F S1x2048x768 .f32) : FVec F S1024x768 .f32 := extractStridedSlice S1024x768 ![1024, 0] (rowsOf x) slices_S2048x768_o1024_0_S1024x768
/-- their squared norms -/
def hnorms (y : FVec F S1024x768 .f32) : FVec F S1024 .f32 := multiReduction .add [1] S1024 (mulf y y) 0x00000000#32 reduces_S1024x768_S1024 (.inl rfl) rfl
/-- and their products with all rows. -/
def prods (x : Vec F S1x2048x768 .f32) (y : FVec F S1024x768 .f32) : FVec F S1024x2048 .f32 :=
  matmul dot_S1024x768_S2048x768_S1024x2048_1_1_0_0_n_n none y (rowsOf x) (constant S1024x2048 .f32 0x00000000#32)

/-- The chunks of the first half: its own rows are among the first eight, -/
def chunks0 (x : Vec F S1x2048x768 .f32) (c : Fin 16) : FVec F S1024x128 .f32 :=
  if c.val < 8 then masked 0#32 (norms x) (hnorms (half0 x)) (prods x (half0 x)) c else dist (norms x) (hnorms (half0 x)) (prods x (half0 x)) c
/-- of the second half: among the last eight. -/
def chunks1 (x : Vec F S1x2048x768 .f32) (c : Fin 16) : FVec F S1024x128 .f32 :=
  if c.val < 8 then dist (norms x) (hnorms (half1 x)) (prods x (half1 x)) c else masked 1024#32 (norms x) (hnorms (half1 x)) (prods x (half1 x)) c

/-- The lists after chunk `n`. -/
def up0 (x : Vec F S1x2048x768 .f32) (n : ℕ) : Five F := Five.fill (chunks0 x) n
def up1 (x : Vec F S1x2048x768 .f32) (n : ℕ) : Five F := Five.fill (chunks1 x) n

/-- What the body stores for each half. -/
def mean0 (x : Vec F S1x2048x768 .f32) : FVec F S1x1x1024 .f32 := (up0 x 15).mean
def mean1 (x : Vec F S1x2048x768 .f32) : FVec F S1x1x1024 .f32 := (up1 x 15).mean

/-! ## The printed body, part by part -/

section Parts

open Five

variable (x : Vec F S1x2048x768 .f32)
variable (i : grid0.Coords) (arg1 : Memref sig .tc .vmem S1x2048x768 .f32) (harg1 : arg1.IsWhole) (arg2 : Memref sig .tc .vmem S1x1x2048 .f32) (harg2 : arg2.IsWhole)

theorem part2 : k0_part2 (F := F) i arg1 harg1 arg2 harg2 (norms x) (hnorms (half0 x)) (prods x (half0 x)) (rowIds 0#32) laneIds bigs (up0 x 0).a (dist (norms x) (hnorms (half0 x)) (prods x (half0 x)) 1) 128#32
    = pure ⟨(up0 x 2).c, (up0 x 3).a, (up0 x 3).b, (carry2 (up0 x 2) (chunks0 x 3))⟩ := by
  rw [k0_part2_eq_skeleton]
  rw [show up0 x 3 = (up0 x 2).put4 (chunks0 x 3) from rfl]
  rw [show up0 x 2 = (up0 x 1).put3 (chunks0 x 2) from rfl]
  rw [show up0 x 1 = (up0 x 0).put2 (chunks0 x 1) from rfl]
  rw [show up0 x 0 = one (chunks0 x 0) from rfl]
  generalize chunks0 x 0 = c0
  rfl

theorem part3 : k0_part3 (F := F) i arg1 harg1 arg2 harg2 (norms x) (hnorms (half0 x)) (prods x (half0 x)) (rowIds 0#32) laneIds bigs (up0 x 2).c (up0 x 3).a (up0 x 3).b (carry2 (up0 x 2) (chunks0 x 3))
    = pure ⟨(up0 x 4).d, (up0 x 4).e, (up0 x 5).a, (up0 x 5).b, (up0 x 5).c, (carry3 (up0 x 4) (chunks0 x 5))⟩ := by
  rw [k0_part3_eq_skeleton]
  rw [show up0 x 5 = (up0 x 4).put (chunks0 x 5) from rfl]
  rw [show up0 x 4 = (up0 x 3).put (chunks0 x 4) from rfl]
  rw [show up0 x 3 = (up0 x 2).put4 (chunks0 x 3) from rfl]
  rw [show up0 x 2 = (up0 x 1).put3 (chunks0 x 2) from rfl]
  rw [show up0 x 1 = (up0 x 0).put2 (chunks0 x 1) from rfl]
  rw [show up0 x 0 = one (chunks0 x 0) from rfl]
  generalize chunks0 x 0 = c0
  generalize chunks0 x 1 = c1
  generalize chunks0 x 2 = c2
  rfl

theorem part4 : k0_part4 (F := F) i arg1 harg1 arg2 harg2 (norms x) (hnorms (half0 x)) (prods x (half0 x)) (rowIds 0#32) laneIds (up0 x 4).d (up0 x 4).e (up0 x 5).a (up0 x 5).b (up0 x 5).c (carry3 (up0 x 4) (chunks0 x 5))
    = pure ⟨(up0 x 6).d, (up0 x 6).e, (up0 x 7).a, (up0 x 7).b, (up0 x 7).c, (carry3 (up0 x 6) (chunks0 x 7))⟩ := by
  rw [k0_part4_eq_skeleton]
  rw [show up0 x 7 = (up0 x 6).put (chunks0 x 7) from rfl]
  rw [show up0 x 6 = (up0 x 5).put (chunks0 x 6) from rfl]
  rw [show up0 x 5 = (up0 x 4).put (chunks0 x 5) from rfl]
  generalize up0 x 4 = m
  rfl

theorem part5 : k0_part5 (F := F) i arg1 harg1 arg2 harg2 (norms x) (hnorms (half0 x)) (prods x (half0 x)) (up0 x 6).d (up0 x 6).e (up0 x 7).a (up0 x 7).b (up0 x 7).c (carry3 (up0 x 6) (chunks0 x 7))
    = pure ⟨(up0 x 9).a, (up0 x 9).b, (up0 x 9).c, (up0 x 9).d, (up0 x 9).e, (raw (norms x) (hnorms (half0 x)) (prods x (half0 x)) 10)⟩ := by
  rw [k0_part5_eq_skeleton]
  rw [show up0 x 9 = (up0 x 8).put (chunks0 x 9) from rfl]
  rw [show up0 x 8 = (up0 x 7).put (chunks0 x 8) from rfl]
  rw [show up0 x 7 = (up0 x 6).put (chunks0 x 7) from rfl]
  generalize up0 x 6 = m
  rfl

theorem part6 : k0_part6 (F := F) i arg1 harg1 arg2 harg2 (norms x) (hnorms (half0 x)) (prods x (half0 x)) (up0 x 9).a (up0 x 9).b (up0 x 9).c (up0 x 9).d (up0 x 9).e (raw (norms x) (hnorms (half0 x)) (prods x (half0 x)) 10)
    = pure ⟨(up0 x 12).a, (up0 x 12).b, (up0 x 12).c, (up0 x 12).d, (up0 x 12).e, (colsOf (prods x (half0 x)) 13), (normsOf (norms x) 13)⟩ := by
  rw [k0_part6_eq_skeleton]
  rw [show up0 x 12 = (up0 x 11).put (chunks0 x 12) from rfl]
  rw [show up0 x 11 = (up0 x 10).put (chunks0 x 11) from rfl]
  rw [show up0 x 10 = (up0 x 9).put (chunks0 x 10) from rfl]
  generalize up0 x 9 = m
  rfl

theorem part7 : k0_part7 (F := F) i arg1 harg1 arg2 harg2 (norms x) (hnorms (half0 x)) (prods x (half0 x)) (up0 x 12).a (up0 x 12).b (up0 x 12).c (up0 x 12).d (up0 x 12).e (colsOf (prods x (half0 x)) 13) (normsOf (norms x) 13)
    = pure ⟨(up0 x 14).b, (up0 x 14).c, (up0 x 14).d, (up0 x 14).e, (up0 x 15).a, (carry1 (up0 x 14) (chunks0 x 15))⟩ := by
  rw [k0_part7_eq_skeleton]
  rw [show up0 x 15 = (up0 x 14).put (chunks0 x 15) from rfl]
  rw [show up0 x 14 = (up0 x 13).put (chunks0 x 14) from rfl]
  rw [show up0 x 13 = (up0 x 12).put (chunks0 x 13) from rfl]
  generalize up0 x 12 = m
  rfl

set_option maxRecDepth 100000 in
theorem part8 : k0_part8 (F := F) i arg1 harg1 arg2 harg2 (up0 x 14).b (up0 x 14).c (up0 x 14).d (up0 x 14).e (up0 x 15).a (carry1 (up0 x 14) (chunks0 x 15))
    = pure ⟨laneIds, (up0 x 15).drop.drop.a, (up0 x 15).drop.drop.b, (up0 x 15).drop.drop.c, (up0 x 15).drop.drop.least, (up0 x 15).acc3⟩ := by
  rw [k0_part8_eq_skeleton]
  rw [show up0 x 15 = (up0 x 14).put (chunks0 x 15) from rfl]
  generalize up0 x 14 = m
  simp only [k0_part8_skel, k0_pay125, k0_pay126, k0_pay127, k0_pay128, k0_pay129, k0_pay130, k0_pay131, k0_pay132, k0_pay133, k0_pay134, k0_pay135, k0_pay136, k0_pay137, k0_pay138, k0_pay139, k0_pay140, k0_pay141, put_a, put_b, put_c, put_d, put_e, carry2, carry3, carry4, drop_a, drop_b, drop_c, drop_d, hit, ties, leasts, least, root, acc1, acc3, acc4, laneIds]

theorem part10 : k0_part10 (F := F) i arg1 harg1 arg2 harg2 (norms x) (hnorms (half1 x)) (prods x (half1 x))
    = pure ⟨bigs, (up1 x 2).a, (up1 x 2).b, (up1 x 2).c, (colsOf (prods x (half1 x)) 3), (sums (norms x) (hnorms (half1 x)) 3), (Scalar.ofBits .f32 0x40000000#32)⟩ := by
  rw [k0_part10_eq_skeleton]
  rw [show up1 x 2 = (up1 x 1).put3 (chunks1 x 2) from rfl]
  rw [show up1 x 1 = (up1 x 0).put2 (chunks1 x 1) from rfl]
  rw [show up1 x 0 = one (chunks1 x 0) from rfl]
  rfl

theorem part11 : k0_part11 (F := F) i arg1 harg1 arg2 harg2 (norms x) (hnorms (half1 x)) (prods x (half1 x)) bigs (up1 x 2).a (up1 x 2).b (up1 x 2).c (colsOf (prods x (half1 x)) 3) (sums (norms x) (hnorms (half1 x)) 3) (Scalar.ofBits .f32 0x40000000#32)
    = pure ⟨(up1 x 5).a, (up1 x 5).b, (up1 x 5).c, (up1 x 5).d, (up1 x 5).e, (colsOf (prods x (half1 x)) 6)⟩ := by
  rw [k0_part11_eq_skeleton]
  rw [show up1 x 5 = (up1 x 4).put (chunks1 x 5) from rfl]
  rw [show up1 x 4 = (up1 x 3).put (chunks1 x 4) from rfl]
  rw [show up1 x 3 = (up1 x 2).put4 (chunks1 x 3) from rfl]
  rw [show up1 x 2 = (up1 x 1).put3 (chunks1 x 2) from rfl]
  rw [show up1 x 1 = (up1 x 0).put2 (chunks1 x 1) from rfl]
  rw [show up1 x 0 = one (chunks1 x 0) from rfl]
  generalize chunks1 x 0 = c0
  generalize chunks1 x 1 = c1
  generalize chunks1 x 2 = c2
  rfl

theorem part12 : k0_part12 (F := F) i arg1 harg1 arg2 harg2 (norms x) (hnorms (half1 x)) (prods x (half1 x)) (up1 x 5).a (up1 x 5).b (up1 x 5).c (up1 x 5).d (up1 x 5).e (colsOf (prods x (half1 x)) 6)
    = pure ⟨(up1 x 7).a, (up1 x 7).b, (up1 x 7).c, (up1 x 7).d, (up1 x 7).e, (dist (norms x) (hnorms (half1 x)) (prods x (half1 x)) 8), 1024#32⟩ := by
  rw [k0_part12_eq_skeleton]
  rw [show up1 x 7 = (up1 x 6).put (chunks1 x 7) from rfl]
  rw [show up1 x 6 = (up1 x 5).put (chunks1 x 6) from rfl]
  generalize up1 x 5 = m
  rfl

theorem part13 : k0_part13 (F := F) i arg1 harg1 arg2 harg2 (norms x) (hnorms (half1 x)) (prods x (half1 x)) (rowIds 1024#32) laneIds (up1 x 7).a (up1 x 7).b (up1 x 7).c (up1 x 7).d (up1 x 7).e (dist (norms x) (hnorms (half1 x)) (prods x (half1 x)) 8) 1024#32
    = pure ⟨(up1 x 9).a, (up1 x 9).b, (up1 x 9).c, (up1 x 9).d, (up1 x 9).e, (dist (norms x) (hnorms (half1 x)) (prods x (half1 x)) 10), 1280#32⟩ := by
  rw [k0_part13_eq_skeleton]
  rw [show up1 x 9 = (up1 x 8).put (chunks1 x 9) from rfl]
  rw [show up1 x 8 = (up1 x 7).put (chunks1 x 8) from rfl]
  generalize up1 x 7 = m
  rfl

theorem part14 : k0_part14 (F := F) i arg1 harg1 arg2 harg2 (norms x) (hnorms (half1 x)) (prods x (half1 x)) (rowIds 1024#32) laneIds (up1 x 9).a (up1 x 9).b (up1 x 9).c (up1 x 9).d (up1 x 9).e (dist (norms x) (hnorms (half1 x)) (prods x (half1 x)) 10) 1280#32
    = pure ⟨(up1 x 11).a, (up1 x 11).b, (up1 x 11).c, (up1 x 11).d, (up1 x 11).e, (dist (norms x) (hnorms (half1 x)) (prods x (half1 x)) 12), 1536#32⟩ := by
  rw [k0_part14_eq_skeleton]
  rw [show up1 x 11 = (up1 x 10).put (chunks1 x 11) from rfl]
  rw [show up1 x 10 = (up1 x 9).put (chunks1 x 10) from rfl]
  generalize up1 x 9 = m
  rfl

theorem part15 : k0_part15 (F := F) i arg1 harg1 arg2 harg2 (norms x) (hnorms (half1 x)) (prods x (half1 x)) (rowIds 1024#32) laneIds (up1 x 11).a (up1 x 11).b (up1 x 11).c (up1 x 11).d (up1 x 11).e (dist (norms x) (hnorms (half1 x)) (prods x (half1 x)) 12) 1536#32
    = pure ⟨(up1 x 13).a, (up1 x 13).b, (up1 x 13).c, (up1 x 13).d, (up1 x 13).e, (dist (norms x) (hnorms (half1 x)) (prods x (half1 x)) 14), 1792#32⟩ := by
  rw [k0_part15_eq_skeleton]
  rw [show up1 x 13 = (up1 x 12).put (chunks1 x 13) from rfl]
  rw [show up1 x 12 = (up1 x 11).put (chunks1 x 12) from rfl]
  generalize up1 x 11 = m
  rfl

theorem part16 : k0_part16 (F := F) i arg1 harg1 arg2 harg2 (norms x) (hnorms (half1 x)) (prods x (half1 x)) (rowIds 1024#32) laneIds (up1 x 13).a (up1 x 13).b (up1 x 13).c (up1 x 13).d (up1 x 13).e (dist (norms x) (hnorms (half1 x)) (prods x (half1 x)) 14) 1792#32
    = pure ⟨(up1 x 15).a, (up1 x 15).b, (up1 x 15).c, (up1 x 15).d, (up1 x 15).e, laneIds, (up1 x 15).acc1, (up1 x 15).ties, (broadcast S1024x128 128#32)⟩ := by
  rw [k0_part16_eq_skeleton]
  rw [show up1 x 15 = (up1 x 14).put (chunks1 x 15) from rfl]
  rw [show up1 x 14 = (up1 x 13).put (chunks1 x 14) from rfl]
  generalize up1 x 13 = m
  rfl

set_option maxRecDepth 100000 in
theorem part17 : k0_part17 (F := F) i arg1 harg1 arg2 harg2 (up1 x 15).a (up1 x 15).b (up1 x 15).c (up1 x 15).d (up1 x 15).e laneIds (up1 x 15).acc1 (up1 x 15).ties (broadcast S1024x128 128#32)
    = pure ⟨(up1 x 15).drop.drop.drop.a, (up1 x 15).drop.drop.drop.b, (up1 x 15).acc4, (up1 x 15).drop.drop.drop.leasts⟩ := by
  rw [k0_part17_eq_skeleton]
  generalize up1 x 15 = m
  simp only [k0_part17_skel, k0_pay277, k0_pay278, k0_pay279, k0_pay280, k0_pay281, k0_pay282, k0_pay283, k0_pay284, k0_pay285, k0_pay286, k0_pay287, k0_pay288, k0_pay289, k0_pay290, k0_pay291, drop_a, drop_b, drop_c, drop_d, hit, ties, leasts, least, root, acc1, acc3, acc4]

/-- The last two extractions, the mean and the store's value, of the first half -/
theorem last0 (m : Five F) : k0_pay142 laneIds m.drop.drop.a m.drop.drop.b m.drop.drop.c m.drop.drop.least m.acc3 = m.mean := by
  simp only [k0_pay142, mean, acc4, root, drop_a, drop_b, drop_c, drop_d, hit, ties, leasts, least]
/-- and of the second. -/
theorem last1 (m : Five F) : k0_pay1 laneIds m.drop.drop.drop.a m.drop.drop.drop.b m.acc4 m.drop.drop.drop.leasts = m.mean := by
  simp only [k0_pay1, mean, root, drop_a, drop_b, drop_c, drop_d, hit, ties, leasts, least]

theorem part9 (x : Vec F S1x2048x768 .f32) : k0_part9 (F := F) i arg1 harg1 arg2 harg2 (rowsOf x) laneIds (up0 x 15).drop.drop.a (up0 x 15).drop.drop.b (up0 x 15).drop.drop.c (up0 x 15).drop.drop.least (up0 x 15).acc3
    = (do
      let _v : Vec F S1x1x1024 .f32 ← Prog.lift (.load arg2 (Rect.unit (s := S1x1x2048) ![0, 0, 0] S1x1x1024.size inb_S1x1x2048_S1x1x1024_0_0_0).toLoadRect (View.loadsAt_vmem h_S1x1x1024))
      Prog.lift (.store arg2 (Rect.unit (s := S1x1x2048) ![0, 0, 0] S1x1x1024.size inb_S1x1x2048_S1x1x1024_0_0_0) (mean0 x) Finset.univ (View.stores_vmem_bits_univ h_S1x1x1024 rfl) (.inl rfl))
      pure ⟨hnorms (half1 x), prods x (half1 x), rowIds 1024#32, laneIds⟩) := by
  rw [k0_part9_eq_skeleton]; unfold k0_part9_skel; rw [last0]; rfl

theorem part1 : k0_part1 (F := F) i arg1 harg1 arg2 harg2
    = (do
      let x : Vec F S1x2048x768 .f32 ← Prog.lift (.load arg1 (Rect.unit (s := S1x2048x768) ![0, 0, 0] S1x2048x768.size inb_S1x2048x768_S1x2048x768_0_0_0).toLoadRect (View.loadsAt_vmem h_S1x2048x768))
      pure ⟨rowsOf x, norms x, hnorms (half0 x), prods x (half0 x), rowIds 0#32, laneIds, bigs, (up0 x 0).a, dist (norms x) (hnorms (half0 x)) (prods x (half0 x)) 1, 128#32⟩) := by
  rw [k0_part1_eq_skeleton]; rfl

end Parts

/-- The body with its arithmetic named: one load of the block, a (discarded) load and a store for each half. -/
def tidy (arg1 : Memref sig .tc .vmem S1x2048x768 .f32) (arg2 : Memref sig .tc .vmem S1x1x2048 .f32) : Prog (TpuEff nD τ sig (Elt F) Λ₀ .tc) PUnit := do
  let v0 : Vec F S1x2048x768 .f32 ← Prog.lift (.load arg1 (Rect.unit (s := S1x2048x768) ![0, 0, 0] S1x2048x768.size inb_S1x2048x768_S1x2048x768_0_0_0).toLoadRect (View.loadsAt_vmem h_S1x2048x768))
  let _v : Vec F S1x1x1024 .f32 ← Prog.lift (.load arg2 (Rect.unit (s := S1x1x2048) ![0, 0, 0] S1x1x1024.size inb_S1x1x2048_S1x1x1024_0_0_0).toLoadRect (View.loadsAt_vmem h_S1x1x1024))
  Prog.lift (.store arg2 (Rect.unit (s := S1x1x2048) ![0, 0, 0] S1x1x1024.size inb_S1x1x2048_S1x1x1024_0_0_0) (mean0 v0) Finset.univ (View.stores_vmem_bits_univ h_S1x1x1024 rfl) (.inl rfl))
  let _w : Vec F S1x1x1024 .f32 ← Prog.lift (.load arg2 (Rect.unit (s := S1x1x2048) ![0, 0, 1024] S1x1x1024.size inb_S1x1x2048_S1x1x1024_0_0_1024).toLoadRect (View.loadsAt_vmem h_S1x1x1024))
  Prog.lift (.store arg2 (Rect.unit (s := S1x1x2048) ![0, 0, 1024] S1x1x1024.size inb_S1x1x2048_S1x1x1024_0_0_1024) (mean1 v0) Finset.univ (View.stores_vmem_bits_univ h_S1x1x1024 rfl) (.inl rfl))
  pure ⟨⟩

theorem body_tidy (i : grid0.Coords) (arg1 : Memref sig .tc .vmem S1x2048x768 .f32) (harg1 : arg1.IsWhole) (arg2 : Memref sig .tc .vmem S1x1x2048 .f32) (harg2 : arg2.IsWhole) :
    cc0__entropy_body (F := F) i arg1 harg1 arg2 harg2 = tidy arg1 arg2 := by
  rw [cc0__entropy_body_eq_skeleton]
  unfold cc0__entropy_body_skel
  simp only [part1, bind_assoc, pure_bind, part2, part3, part4, part5, part6, part7, part8, part9, part10, part11, part12, part13, part14, part15, part16, part17, last1]
  rfl

end Cert.Proof

end
-- ==== Proof.Region.lean ====
/-
  The entropies' pipeline: the printed body run at one point, and the launch of its four points as one piece of the
  program's main thread, from every unscoped buffer at a valuation to the same with the entropies' array written.
-/
module

public import proofs.«01_k».proof.Proof.Ent
public import proofs.«01_k».proof.Proof.Gen.KernelIdeal.Points
public import Idealize.ShloMosaic.Lib.Pipeline.RegionsLoop

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

/-! ## The body at one point -/

/-- Place `n` of a half's 1024 entropies. -/
def ixM (n : ℕ) (h : n < 1024) : S1x1x1024.Idx := fun | 0 => ⟨0, Nat.one_pos⟩ | 1 => ⟨0, Nat.one_pos⟩ | 2 => ⟨n, h⟩

/-- A batch's 2048 entropies: the two halves, one after the other. -/
def entBlk (x : Vec F S1x2048x768 .f32) : FVec F S1x1x2048 .f32 := fun j =>
  if h : (j 2).val < 1024 then mean0 x (ixM (j 2).val h) else mean1 x (ixM ((j 2).val - 1024) (by have := (j 2).isLt; simp at this; omega))

theorem body_run (c : Dev nD) (i : grid0.Coords) (M0 : Memref sig .tc .vmem S1x2048x768 .f32) (h0 : M0.IsWhole) (M1 : Memref sig .tc .vmem S1x1x2048 .f32) (h1 : M1.IsWhole)
    (x : Vec F S1x2048x768 .f32) (y : Vec F S1x1x2048 .f32) (E : Set ℕ) (Q : PUnit → sProp 𝕄) :
    iprop(owns (c : Thread nD τ) M0 fullShare x ∗ owns (c : Thread nD τ) M1 fullShare y
        ∗ (iprop(owns (c : Thread nD τ) M0 fullShare x ∗ owns (c : Thread nD τ) M1 fullShare (entBlk x)) -∗ Q ⟨⟩))
      ⊢ wp frame (wpE (defs₀ (F := F)) 𝒱₀ (c : Thread nD τ) none) E (cc0__entropy_body i M0 h0 M1 h1) Q := by
  rw [body_tidy]
  unfold tidy owns
  iintro ⟨⟨%f0, %hf0, H0⟩, ⟨%f1, %hf1, H1⟩, Hk⟩
  sl_exec!
  sl_step
  iapply Hk
  isplitl [H0]; · iexists _; isplitr; swap; (· iexact H0); ipureintro; exact hf0
  iexists _; isplitr; swap; (· iexact H1); ipureintro
  unfold body_run.sl.H1_2
  have hx : View.readAt (Elt F) M0.view (Rect.unit (s := S1x2048x768) ![0, 0, 0] S1x2048x768.size inb_S1x2048x768_S1x2048x768_0_0_0).toLoadRect f0 = x := by
    rw [← hf0]; funext j
    rw [View.readAt_apply]
    refine congrArg _ (funext fun a => Fin.ext ?_)
    fin_cases a <;> simp [Rect.toLoadRect, LoadRect.idx, Rect.unit]
  rw [hx]
  funext j
  have h0 : (j 0).val = 0 := by have := (j 0).isLt; simp at this; omega
  have h1 : (j 1).val = 0 := by have := (j 1).isLt; simp at this; omega
  have h2 : (j 2).val < 2048 := (j 2).isLt
  by_cases h : (j 2).val < 1024
  · rw [View.read_writes_cons_unit_of_not_mem _ _ _ _ _ _ rfl 2 (Or.inl h),
      View.read_writes_cons_unit_of_mem _ _ _ _ _ _ (ixM (j 2).val h) rfl (by intro a; fin_cases a <;> simp [ixM, h0, h1])]
    unfold entBlk; rw [dif_pos h]
  · rw [View.read_writes_cons_unit_of_mem _ _ _ _ _ _ (ixM ((j 2).val - 1024) (by omega)) rfl (by intro a; fin_cases a <;> simp [ixM, h0, h1] <;> omega)]
    unfold entBlk; rw [dif_neg h]

/-! ## The proof data, at an entry valuation -/

variable (V : (c : Dev nD) → (b : Ref sig .tc) → Buf (Elt F) ((c : Thread nD τ).loc b))

/-- The argument's block at a point. -/
abbrev xBlk (c : Dev nD) (t : Fin cfg0.N) : (cfg0.win 0).block.Idx → Elt F (cfg0.win 0).elt :=
  ((cfg0.win 0).blk t).view.read (Elt F) (V c main_arg0)

/-- What the points keep beside the staging buffers: the scoped buffers that are none of them. -/
abbrev Φc (c : Dev nD) : sProp 𝕄 := Pipeline.scopedRest (Ix := HIx 1) (Name := ℕ) (U := UU) (Lvl := ℕ) (Val := Elt F) spec0 c

/-- The two arrays at the valuation; after each point the argument's buffer as fetched and the result's at the point's
    entropies; the debts of the launch to come owed throughout, the waits recorded all at the lowest level. -/
def dat (c : Dev nD) : Dat τ (Elt F) (HIx 1) ℕ UU ℕ cfg0 c where
  A w := V c (Pipeline.arrRef spec0 w)
  after w t := match w with
    | ⟨0, _⟩ => xBlk V c t
    | ⟨1, _⟩ => entBlk (F := F) (xBlk V c t)
  Φ _ := Φc c
  q _ := fullShare
  owed _ := (K (F := F)).Otc c 0
  recorded _ := {p | (K (F := F)).lev (SparseCore.T c, p.1) p.2 ≤ 0}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before_in (c : Dev nD) (t : Fin cfg0.N) (d : (cfg0.win 0).block.Idx → Elt F (cfg0.win 0).elt) : (dat V c).before 0 t d = xBlk V c t := by
  unfold Dat.before; rw [if_pos (fetch0_0 t)]; rfl

theorem body_obligation (c : Dev nD) : BodyObligation (dat V c) (defs₀ (F := F)) 𝒱₀ none Set.univ := fun t => by
  rw [bigSep_W0, bigSep_W0]
  rw [show (dat V c).Φ t.castSucc = (dat V c).Φ t.succ from rfl, show (dat V c).owesAt none t.succ = (dat V c).owesAt none t.castSucc from rfl]
  iintro ⟨HΦ, Howes, ⟨%d0, H0⟩, ⟨%d1, H1⟩⟩
  rw [before_in]
  iapply (body_run (F := F) c (grid0.coords t) _ _ _ _ (xBlk V c t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-! ## The launch over the thread's state -/

/-- The result's array after the launch, as the library computes it. -/
def entArr (c : Dev nD) : Buf (Elt F) ((c : Thread nD τ).loc main_v0) := (dat V c).arrAt 1 cfg0.N

variable (Vp : (c : Dev nD) → (b : Ref sig .tc) → Buf (Elt F) ((c : Thread nD τ).loc b))

theorem owes_none (c : Dev nD) : ∀ g, (K (F := F)).Otc (N := 1) c 0 g none = 0 := by
  intro g
  by_contra h
  have := SparseCore.Cfg.lev_of_Otc_pos (K := K (F := F)) (Nat.pos_of_ne_zero h)
  rw [SparseCore.Cfg.lev_none] at this; omega

set_option backward.isDefEq.respectTransparency.types false in
/-- The pipeline from every unscoped buffer at `V`: it leaves them at `Vp`, which is `V` but for the entropies. -/
def reg (hVp_out : ∀ c, Vp c main_v0 = entArr V c) (hVp_ne : ∀ c (b : Ref sig .tc), b ≠ main_v0 → Vp c b = V c b) :
    Pipeline.RegionSeg (pcfgs (F := F)) adm (pdats V adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (pdats V adm) none 0 c fun w s t => (K (F := F)).mayWait_none _ (owes_none c)
  pre c := iprop(unscopedBufs c (V c) ∗ ∃ W, ⌜(K (F := F)).WBelow (SparseCore.T c) W 0⌝ ∗ owes (c : Thread nD τ) ((K (F := F)).Otc c 0) W)
  post c := iprop(unscopedBufs c (Vp c) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_arg0 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

end Cert.Proof

end
-- ==== Proof.Sim.lean ====
/-
  Two host programs in step. The noise added to the log probabilities is drawn by the same lines in the kernel's program
  and in the reference's, over two signatures. Nothing here computes a hash: the lines are paired, each pair writes the next
  buffer of both programs, and the buffers so far hold the same values. The same pairing gives the list of operations that
  the lines are.
-/
module

public import proofs.«01_k».proof.Proof.Region
public import proofs.«01_k».proof.Proof.Gen.ReferenceIdeal
public import Idealize.ShloMosaic.Lib.StableHlo.RunHlo

@[expose] public section

noncomputable section

namespace Cert.Proof

open Idealize.ShloMosaic Idealize.SL.Sem
open Idealize.ShloMosaic.StableHlo (seq after TRef)

variable {F : FTy → Type} {τ : Topo} {sig₁ sig₂ : RefSig}

/-- The two references name partners: the key, or the reference's buffer that lies 22 behind the kernel's. -/
def Mate (n : ℕ) (x : Ref sig₁ .tc) (y : Ref sig₂ .tc) : Prop :=
  x.space = .hbm ∧ y.space = .hbm ∧ ((37 ≤ x.idx.val ∧ x.idx.val < n ∧ y.idx.val = x.idx.val + 22) ∨ (x.idx.val = 12 ∧ y.idx.val = 10))

/-- The references that the pair of lines number `n` writes. -/
def Next (n : ℕ) (x : Ref sig₁ .tc) (y : Ref sig₂ .tc) : Prop :=
  x.space = .hbm ∧ y.space = .hbm ∧ 37 ≤ n ∧ x.idx.val = n ∧ y.idx.val = n + 22

instance (n : ℕ) (x : Ref sig₁ .tc) (y : Ref sig₂ .tc) : Decidable (Mate n x y) := inferInstanceAs (Decidable (_ ∧ _ ∧ _))
instance (n : ℕ) (x : Ref sig₁ .tc) (y : Ref sig₂ .tc) : Decidable (Next n x y) := inferInstanceAs (Decidable (_ ∧ _ ∧ _))

/-- Partners before line `n` hold the same. -/
def Agree (n : ℕ) (V₁ : Valuation τ sig₁ (Elt F)) (V₂ : Valuation τ sig₂ (Elt F)) : Prop :=
  ∀ (T : BufTy) (x : TRef sig₁ T) (y : TRef sig₂ T), Mate n x.ref y.ref →
    x.ofBuf (Val := Elt F) (V₁ (Proc.devRef .tc x.ref)) = y.ofBuf (Val := Elt F) (V₂ (Proc.devRef .tc y.ref))

theorem ref_eq {sig : RefSig} {x y : Ref sig .tc} (hx : x.space = .hbm) (hy : y.space = .hbm) (h : x.idx.val = y.idx.val) : x = y := by
  obtain ⟨sx, ix, nx⟩ := x
  obtain ⟨sy, iy, ny⟩ := y
  obtain rfl : sx = .hbm := hx
  obtain rfl : sy = .hbm := hy
  obtain rfl : ix = iy := Fin.ext h
  rfl

/-- Writing the same to the two buffers of line `n` keeps the agreement. -/
theorem Agree.set {n : ℕ} {V₁ V₁' : Valuation τ sig₁ (Elt F)} {V₂ V₂' : Valuation τ sig₂ (Elt F)} (h : Agree n V₁ V₂)
    {T : BufTy} (z : TRef sig₁ T) (w : TRef sig₂ T) (hzw : Next n z.ref w.ref) (v : T.Contents (Elt F))
    (h₁ : V₁' (Proc.devRef .tc z.ref) = z.toBuf v) (h₂ : V₂' (Proc.devRef .tc w.ref) = w.toBuf v)
    (n₁ : ∀ r : Ref sig₁ .tc, r ≠ z.ref → V₁' (Proc.devRef .tc r) = V₁ (Proc.devRef .tc r))
    (n₂ : ∀ r : Ref sig₂ .tc, r ≠ w.ref → V₂' (Proc.devRef .tc r) = V₂ (Proc.devRef .tc r)) : Agree (n + 1) V₁' V₂' := by
  obtain ⟨zs, ws, hn, zi, wi⟩ := hzw
  intro U x y ⟨xs, ys, hxy⟩
  by_cases hx : x.ref.idx.val = n
  · have hy : y.ref.idx.val = n + 22 := by omega
    have ex : x.ref = z.ref := ref_eq xs zs (hx.trans zi.symm)
    have ey : y.ref = w.ref := ref_eq ys ws (hy.trans wi.symm)
    obtain ⟨x, tx, dx, ux⟩ := x
    obtain ⟨y, ty, dy, uy⟩ := y
    obtain ⟨z, tz, dz, uz⟩ := z
    obtain ⟨w, tw, dw, uw⟩ := w
    dsimp only at ex ey tx ty tz tw h₁ h₂ ⊢
    subst ex ey
    subst tz
    subst tx
    show cast _ (V₁' (Proc.devRef .tc x)) = cast _ (V₂' (Proc.devRef .tc y))
    rw [h₁, h₂]
    simp [TRef.toBuf]
  · rw [n₁ x.ref fun e => hx (by rw [e]; exact zi), n₂ y.ref fun e => ?_]
    · exact h U x y ⟨xs, ys, by omega⟩
    · have : y.ref.idx.val = n + 22 := by rw [e]; exact wi
      omega

/-- What an operation of the paired lines is: over buffers live throughout, nothing fresh, and writing at `n` to `m`. -/
structure Own {sig : RefSig} (n m : ℕ) (op : HloOp τ sig (Elt F)) : Prop where
  bufs : ∀ b ∈ op.bufs, ∃ r : Ref sig .tc, b = Proc.devRef .tc r ∧ r.isScoped = false
  fresh : op.fresh = ∅
  writes : ∀ b ∈ op.writes, ∃ r : Ref sig .tc, b = Proc.devRef .tc r ∧ r.space = .hbm ∧ n ≤ r.idx.val ∧ r.idx.val < m

theorem Own.mono {sig : RefSig} {n m n' m' : ℕ} {op : HloOp τ sig (Elt F)} (h : Own n m op) (hn : n' ≤ n) (hm : m ≤ m') : Own n' m' op :=
  ⟨h.bufs, h.fresh, fun b hb => let ⟨r, e, s, l, u⟩ := h.writes b hb; ⟨r, e, s, hn.trans l, u.trans_le hm⟩⟩

variable {nD : ℕ} {Λ₁ Λ₂ : Labels}

/-- The two programs are lists of operations in step, from line `n` to line `m`. -/
def Sim (n m : ℕ) (p : Prog (TpuEff nD τ sig₁ (Elt F) Λ₁ .tc) PUnit) (q : Prog (TpuEff nD τ sig₂ (Elt F) Λ₂ .tc) PUnit) : Prop :=
  n ≤ m ∧ ∃ (k : List (HloOp τ sig₁ (Elt F))) (l : List (HloOp τ sig₂ (Elt F))), p = seq k ∧ q = seq l ∧
    (∀ op ∈ k, Own n m op) ∧ (∀ op ∈ l, Own (n + 22) (m + 22) op) ∧ ∀ V₁ V₂, Agree n V₁ V₂ → Agree m (after k V₁) (after l V₂)

theorem after_app {sig : RefSig} (k l : List (HloOp τ sig (Elt F))) (V : Valuation τ sig (Elt F)) : after (k ++ l) V = after l (after k V) := by
  induction k generalizing V with
  | nil => rfl
  | cons op k ih => exact ih _

theorem Sim.bind {n m l : ℕ} {p p' : Prog (TpuEff nD τ sig₁ (Elt F) Λ₁ .tc) PUnit} {q q' : Prog (TpuEff nD τ sig₂ (Elt F) Λ₂ .tc) PUnit}
    (h : Sim n m p q) (h' : Sim m l p' q') : Sim n l (p >>= fun _ => p') (q >>= fun _ => q') := by
  obtain ⟨hn, k₁, l₁, rfl, rfl, o₁, u₁, a₁⟩ := h
  obtain ⟨hm, k₂, l₂, rfl, rfl, o₂, u₂, a₂⟩ := h'
  refine ⟨hn.trans hm, k₁ ++ k₂, l₁ ++ l₂, (StableHlo.seq_append _ _).symm, (StableHlo.seq_append _ _).symm, fun op h => ?_, fun op h => ?_, fun V₁ V₂ h => ?_⟩
  · rcases List.mem_append.mp h with h | h
    · exact (o₁ op h).mono le_rfl hm
    · exact (o₂ op h).mono hn le_rfl
  · rcases List.mem_append.mp h with h | h
    · exact (u₁ op h).mono le_rfl (by omega)
    · exact (u₂ op h).mono (by omega) le_rfl
  · rw [after_app, after_app]; exact a₂ _ _ (a₁ _ _ h)

theorem Sim.done (n : ℕ) : Sim (F := F) (τ := τ) (nD := nD) (sig₁ := sig₁) (sig₂ := sig₂) (Λ₁ := Λ₁) (Λ₂ := Λ₂) n n (pure ⟨⟩) (pure ⟨⟩) :=
  ⟨le_rfl, [], [], rfl, rfl, fun _ h => (nomatch h), fun _ h => (nomatch h), fun _ _ h => h⟩

/-- One pair of lines. -/
theorem Sim.line {n : ℕ} {T : BufTy} {op₁ : HloOp τ sig₁ (Elt F)} {op₂ : HloOp τ sig₂ (Elt F)} (z : TRef sig₁ T) (w : TRef sig₂ T)
    (hzw : Next n z.ref w.ref)
    (b₁ : ∀ b ∈ op₁.bufs, ∃ r : Ref sig₁ .tc, b = Proc.devRef .tc r ∧ r.isScoped = false) (f₁ : op₁.fresh = ∅) (w₁ : op₁.writes = {Proc.devRef .tc z.ref})
    (b₂ : ∀ b ∈ op₂.bufs, ∃ r : Ref sig₂ .tc, b = Proc.devRef .tc r ∧ r.isScoped = false) (f₂ : op₂.fresh = ∅) (w₂ : op₂.writes = {Proc.devRef .tc w.ref})
    (h : ∀ V₁ V₂, Agree n V₁ V₂ → ∃ v : T.Contents (Elt F), op₁.result V₁ (Proc.devRef .tc z.ref) = z.toBuf v ∧ op₂.result V₂ (Proc.devRef .tc w.ref) = w.toBuf v) :
    Sim (nD := nD) (Λ₁ := Λ₁) (Λ₂ := Λ₂) n (n + 1) (hlo rfl op₁ fun _ => .ret ⟨⟩) (hlo rfl op₂ fun _ => .ret ⟨⟩) := by
  refine ⟨Nat.le_succ n, [op₁], [op₂], rfl, rfl, fun op ho => ?_, fun op ho => ?_, fun V₁ V₂ hV => ?_⟩
  · rw [List.mem_singleton.mp ho]
    refine ⟨b₁, f₁, fun b hb => ⟨z.ref, by rw [w₁] at hb; exact Finset.mem_singleton.mp hb, hzw.1, ?_⟩⟩
    have := hzw.2.2.2.1; omega
  · rw [List.mem_singleton.mp ho]
    refine ⟨b₂, f₂, fun b hb => ⟨w.ref, by rw [w₂] at hb; exact Finset.mem_singleton.mp hb, hzw.2.1, ?_⟩⟩
    have := hzw.2.2.2.2; omega
  · obtain ⟨v, e₁, e₂⟩ := h V₁ V₂ hV
    exact hV.set z w hzw v e₁ e₂ (fun r hr => StableHlo.result_of_writes_ne op₁ V₁ z.ref r w₁ hr) (fun r hr => StableHlo.result_of_writes_ne op₂ V₂ w.ref r w₂ hr)

section Lines

variable {n : ℕ} {T A B : BufTy}

theorem Sim.nullary (z : TRef sig₁ T) (w : TRef sig₂ T) (v : T.Contents (Elt F)) (hzw : Next n z.ref w.ref) :
    Sim (nD := nD) (Λ₁ := Λ₁) (Λ₂ := Λ₂) (τ := τ) n (n + 1) (hlo rfl (TRef.nullary z v) fun _ => .ret ⟨⟩) (hlo rfl (TRef.nullary w v) fun _ => .ret ⟨⟩) := by
  refine Sim.line z w hzw ?_ rfl (StableHlo.nullary_writes ..) ?_ rfl (StableHlo.nullary_writes ..) fun V₁ V₂ _ =>
    ⟨v, StableHlo.nullary_result' .., StableHlo.nullary_result' ..⟩
  · intro b hb; exact ⟨z.ref, Finset.mem_singleton.mp hb, z.unscoped⟩
  · intro b hb; exact ⟨w.ref, Finset.mem_singleton.mp hb, w.unscoped⟩

theorem Sim.unary (x : TRef sig₁ A) (y : TRef sig₂ A) (z : TRef sig₁ T) (w : TRef sig₂ T) (f : A.Contents (Elt F) → T.Contents (Elt F))
    (hxy : Mate n x.ref y.ref) (hzw : Next n z.ref w.ref) :
    Sim (nD := nD) (Λ₁ := Λ₁) (Λ₂ := Λ₂) (τ := τ) n (n + 1) (hlo rfl (TRef.unary x z f) fun _ => .ret ⟨⟩) (hlo rfl (TRef.unary y w f) fun _ => .ret ⟨⟩) := by
  refine Sim.line z w hzw ?_ rfl (StableHlo.unary_writes ..) ?_ rfl (StableHlo.unary_writes ..) fun V₁ V₂ h =>
    ⟨f (x.ofBuf (V₁ (Proc.devRef .tc x.ref))), StableHlo.unary_result' .., ?_⟩
  · intro b hb
    rcases Finset.mem_insert.mp hb with e | hb
    · exact ⟨x.ref, e, x.unscoped⟩
    · exact ⟨z.ref, Finset.mem_singleton.mp hb, z.unscoped⟩
  · intro b hb
    rcases Finset.mem_insert.mp hb with e | hb
    · exact ⟨y.ref, e, y.unscoped⟩
    · exact ⟨w.ref, Finset.mem_singleton.mp hb, w.unscoped⟩
  · rw [h A x y hxy]; exact StableHlo.unary_result' ..

theorem Sim.binary (x : TRef sig₁ A) (y : TRef sig₂ A) (x' : TRef sig₁ B) (y' : TRef sig₂ B) (z : TRef sig₁ T) (w : TRef sig₂ T)
    (f : A.Contents (Elt F) → B.Contents (Elt F) → T.Contents (Elt F))
    (hxy : Mate n x.ref y.ref) (hxy' : Mate n x'.ref y'.ref) (hzw : Next n z.ref w.ref) :
    Sim (nD := nD) (Λ₁ := Λ₁) (Λ₂ := Λ₂) (τ := τ) n (n + 1) (hlo rfl (TRef.binary x x' z f) fun _ => .ret ⟨⟩) (hlo rfl (TRef.binary y y' w f) fun _ => .ret ⟨⟩) := by
  refine Sim.line z w hzw ?_ rfl (StableHlo.binary_writes ..) ?_ rfl (StableHlo.binary_writes ..) fun V₁ V₂ h =>
    ⟨f (x.ofBuf (V₁ (Proc.devRef .tc x.ref))) (x'.ofBuf (V₁ (Proc.devRef .tc x'.ref))), StableHlo.binary_result' .., ?_⟩
  · intro b hb
    rcases Finset.mem_insert.mp hb with e | hb
    · exact ⟨x.ref, e, x.unscoped⟩
    rcases Finset.mem_insert.mp hb with e | hb
    · exact ⟨x'.ref, e, x'.unscoped⟩
    · exact ⟨z.ref, Finset.mem_singleton.mp hb, z.unscoped⟩
  · intro b hb
    rcases Finset.mem_insert.mp hb with e | hb
    · exact ⟨y.ref, e, y.unscoped⟩
    rcases Finset.mem_insert.mp hb with e | hb
    · exact ⟨y'.ref, e, y'.unscoped⟩
    · exact ⟨w.ref, Finset.mem_singleton.mp hb, w.unscoped⟩
  · rw [h A x y hxy, h B x' y' hxy']; exact StableHlo.binary_result' ..

/-- A reshape is the unary operation that reads its argument in row-major order. -/
theorem Sim.reshape (x : TRef sig₁ A) (y : TRef sig₂ A) (z : TRef sig₁ T) (w : TRef sig₂ T) (he he') (hn hn')
    (hxy : Mate n x.ref y.ref) (hzw : Next n z.ref w.ref) :
    Sim (F := F) (nD := nD) (Λ₁ := Λ₁) (Λ₂ := Λ₂) (τ := τ) n (n + 1) (hlo rfl (TRef.reshape x z he hn) fun _ => .ret ⟨⟩) (hlo rfl (TRef.reshape y w he' hn') fun _ => .ret ⟨⟩) := by
  have key : ∀ {sig : RefSig} (a : TRef sig A) (b : TRef sig T) (he : A.elt = T.elt) (hn : A.shape.ShapeCasts T.shape),
      (TRef.reshape (τ := τ) (Val := Elt F) a b he hn) = TRef.unary a b fun u i => he ▸ shapeCast T.shape u hn i := by
    intro sig a b he hn
    obtain ⟨a, ta, da, ua⟩ := a
    obtain ⟨b, tb, db, ub⟩ := b
    subst ta tb
    rfl
  rw [key x z he hn, key y w he' hn']
  exact Sim.unary x y z w _ hxy hzw

end Lines

/-! ## The two programs' noise -/

section Noise

variable [FloatOps F]

abbrev KΛ (F : FTy → Type) [FloatOps F] : Labels :=
  SparseCore.Sig (Pipeline.Sig KernelIdeal.Λ₀ (Fin 1) fun p => (KernelIdeal.pcfgs (F := F) p).Adm) 1
abbrev RΛ (F : FTy → Type) [FloatOps F] : Labels :=
  Pipeline.Sig ReferenceIdeal.Λ₀ (Fin 0) fun p => (ReferenceIdeal.pcfgs (F := F) p).Adm

attribute [local irreducible] StableHlo.nullary StableHlo.unary StableHlo.binary StableHlo.reshape

/-- The hash that makes the images' keys. -/
theorem sim_threefry2x32 : Sim (F := F) (Λ₁ := KΛ F) (Λ₂ := RΛ F) 53 275
    (KernelIdeal.fn_threefry2x32.body KernelIdeal.main_call0.v8 KernelIdeal.main_call0.v10 KernelIdeal.main_call0.v11 KernelIdeal.main_call0.v12 KernelIdeal.main_call0.call0)
    (ReferenceIdeal.fn_threefry2x32.body ReferenceIdeal.main_call0.v8 ReferenceIdeal.main_call0.v10 ReferenceIdeal.main_call0.v11 ReferenceIdeal.main_call0.v12 ReferenceIdeal.main_call0.call0) := by
  refine Sim.bind (m := 113) ?_ (Sim.bind (m := 173) ?_ (Sim.bind (m := 233) ?_ ?_))
  all_goals repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)

/-- The hash that makes the tokens' bits. -/
theorem sim_threefry2x32_0 : Sim (F := F) (Λ₁ := KΛ F) (Λ₂ := RΛ F) 298 523
    (KernelIdeal.fn_threefry2x32_0.body KernelIdeal.main_call1.call0.v16 KernelIdeal.main_call1.call0.v17 KernelIdeal.main_call1.call0.v14 KernelIdeal.main_call1.call0.v15 KernelIdeal.main_call1.call0.call0)
    (ReferenceIdeal.fn_threefry2x32_0.body ReferenceIdeal.main_call1.call0.v16 ReferenceIdeal.main_call1.call0.v17 ReferenceIdeal.main_call1.call0.v14 ReferenceIdeal.main_call1.call0.v15 ReferenceIdeal.main_call1.call0.call0) := by
  refine Sim.bind (m := 358) ?_ (Sim.bind (m := 418) ?_ (Sim.bind (m := 478) ?_ ?_))
  all_goals repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)

/-- The key of one image from the number of the image. -/
theorem sim_fold : Sim (F := F) (Λ₁ := KΛ F) (Λ₂ := RΛ F) 38 276
    (KernelIdeal.fn_threefry_fold_in.body (.of KernelIdeal.main_v8) (.of KernelIdeal.main_v29) KernelIdeal.main_call0)
    (ReferenceIdeal.fn_threefry_fold_in.body (.of ReferenceIdeal.main_v6) (.of ReferenceIdeal.main_v44) ReferenceIdeal.main_call0) := by
  unfold KernelIdeal.fn_threefry_fold_in.body ReferenceIdeal.fn_threefry_fold_in.body
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)
  refine Sim.bind sim_threefry2x32 ?_
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)

/-- Uniform numbers of the hash. -/
theorem sim_uniform : Sim (F := F) (Λ₁ := KΛ F) (Λ₂ := RΛ F) 278 544
    (KernelIdeal.fn_uniform.body (.of KernelIdeal.main_v30) KernelIdeal.main_call1.cst KernelIdeal.main_call1.cst_0 KernelIdeal.main_call1.call0)
    (ReferenceIdeal.fn_uniform.body (.of ReferenceIdeal.main_v45) ReferenceIdeal.main_call1.cst ReferenceIdeal.main_call1.cst_0 ReferenceIdeal.main_call1.call0) := by
  unfold KernelIdeal.fn_uniform.body ReferenceIdeal.fn_uniform.body
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)
  refine Sim.bind sim_threefry2x32_0 ?_
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)

/-- The noise of the uniform numbers. -/
theorem sim_gumbel : Sim (F := F) (Λ₁ := KΛ F) (Λ₂ := RΛ F) 276 548
    (KernelIdeal.fn_gumbel.body (.of KernelIdeal.main_v30) KernelIdeal.main_call1)
    (ReferenceIdeal.fn_gumbel.body (.of ReferenceIdeal.main_v45) ReferenceIdeal.main_call1) := by
  unfold KernelIdeal.fn_gumbel.body ReferenceIdeal.fn_gumbel.body
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)
  refine Sim.bind sim_uniform ?_
  repeat (first
    | exact Sim.done _
    | refine Sim.bind (Sim.nullary _ _ _ (by decide)) ?_
    | refine Sim.bind (Sim.unary _ _ _ _ _ (by decide) (by decide)) ?_
    | refine Sim.bind (Sim.binary _ _ _ _ _ _ _ (by decide) (by decide) (by decide)) ?_
    | refine Sim.bind (Sim.reshape _ _ _ _ _ _ _ _ (by decide) (by decide)) ?_)

/-- The noise, from the key and the numbers of the images. -/
theorem sim_noise : Sim (F := F) (Λ₁ := KΛ F) (Λ₂ := RΛ F) 38 548
    (KernelIdeal.fn_threefry_fold_in.body (.of KernelIdeal.main_v8) (.of KernelIdeal.main_v29) KernelIdeal.main_call0 >>= fun _ =>
      KernelIdeal.fn_gumbel.body (.of KernelIdeal.main_v30) KernelIdeal.main_call1)
    (ReferenceIdeal.fn_threefry_fold_in.body (.of ReferenceIdeal.main_v6) (.of ReferenceIdeal.main_v44) ReferenceIdeal.main_call0 >>= fun _ =>
      ReferenceIdeal.fn_gumbel.body (.of ReferenceIdeal.main_v45) ReferenceIdeal.main_call1) :=
  sim_fold.bind sim_gumbel

end Noise

end Cert.Proof
-- ==== Proof.Call.lean ====
/-
  The SparseCore call as one piece of the program: what its handshakes carry, the tile's obligation, and the three whole
  arrays cut into the tiles' pieces and joined again. The table and the indices are parameters.
-/
module

public import proofs.«01_k».proof.Proof.Sim

@[expose] public section

noncomputable section

namespace Cert.Proof

open Cert.KernelIdeal Cert.KernelIdeal.Gen

open Idealize.ShloMosaic
open Idealize.ShloMosaic.SparseCore (S V)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ
local notation "tV" => (Memref.whole Cert.KernelIdeal.main_v35_scv : Memref Cert.KernelIdeal.sig Kind.scVector Space.hbm Cert.KernelIdeal.S8192x768 EltTy.f32)
local notation "iV" => (Memref.whole Cert.KernelIdeal.main_v34_scv : Memref Cert.KernelIdeal.sig Kind.scVector Space.hbm Cert.KernelIdeal.S1024 EltTy.i32)
local notation "oV" => (Memref.whole Cert.KernelIdeal.main_v36_scv : Memref Cert.KernelIdeal.sig Kind.scVector Space.hbm Cert.KernelIdeal.S1024x768 EltTy.f32)
local notation "sV" => (Memref.whole Cert.KernelIdeal.cc1_scratch0 : Memref Cert.KernelIdeal.sig Kind.scVector Space.vmem Cert.KernelIdeal.S32 EltTy.i32)
local notation "rV" => (Memref.whole Cert.KernelIdeal.cc1_scratch1 : Memref Cert.KernelIdeal.sig Kind.scVector Space.vmem Cert.KernelIdeal.S32x768 EltTy.f32)

set_option maxRecDepth 16384 in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false from fun _ _ _ => rfl,
    fun _ => rfl⟩

theorem nCore_zero : (K (F := F)).nCore 0 = 2 := rfl
theorem nSub_zero : (K (F := F)).nSub 0 = 16 := rfl

/-- Tile `(c, s)`'s share of the table. -/
def tq (c : Fin 2) (s : Fin 16) : PosShare TreeShare := pieceOf (pieceOf fullShare 2 (by decide) c) 16 (by decide) s

variable (Tt : (d : Dev nD) → Buf (Elt F) (tLoc d)) (I : (d : Dev nD) → Buf (Elt F) (iLoc d)) (fo : (d : Dev nD) → Buf (Elt F) (oLoc d))

/-- What a tile holds, its part of the result at `f`: its list of indices, its share of the table, its rows. -/
abbrev pts (d : Dev nD) (f : Buf (Elt F) (oLoc d)) (c : Fin 2) (s : Fin 16) : sProp 𝕄 :=
  iprop(iPts I d c s ∗ tPts Tt d (tq c s) ∗ oPts d c s f)

/-- A core takes what its sixteen tiles hold, and brings it back with the rows gathered. -/
def P : (K (F := F)).Pay (nD := nD) (Val := Elt F) (Name := ℕ) (U := UU) where
  st := fun q d c => match q with
    | 0 => bigSep Finset.univ fun i : Fin ((K (F := F)).nSub 0) => pts Tt I d (fo d) (Fin.cast nCore_zero c) (Fin.cast nSub_zero i)
  dn := fun q d c => match q with
    | 0 => bigSep Finset.univ fun i : Fin ((K (F := F)).nSub 0) => pts Tt I d (gathered (Tt d) (I d)) (Fin.cast nCore_zero c) (Fin.cast nSub_zero i)
  go := fun q d c i => match q with | 0 => pts Tt I d (fo d) (Fin.cast nCore_zero c) (Fin.cast nSub_zero i)
  td := fun q d c i => match q with | 0 => pts Tt I d (gathered (Tt d) (I d)) (Fin.cast nCore_zero c) (Fin.cast nSub_zero i)
  x := fun _ _ => iprop(emp)

instance P_storable : (P Tt I fo).IsStorable where
  st q d c := match q with
    | 0 => (inferInstance : BI.Storable (upEmb : UEmb _ 𝕄)
      (bigSep Finset.univ fun i : Fin ((K (F := F)).nSub 0) => pts Tt I d (fo d) (Fin.cast nCore_zero c) (Fin.cast nSub_zero i)))
  dn q d c := match q with
    | 0 => (inferInstance : BI.Storable (upEmb : UEmb _ 𝕄)
      (bigSep Finset.univ fun i : Fin ((K (F := F)).nSub 0) => pts Tt I d (gathered (Tt d) (I d)) (Fin.cast nCore_zero c) (Fin.cast nSub_zero i)))
  go q d c i := match q with
    | 0 => (inferInstance : BI.Storable (upEmb : UEmb _ 𝕄) (pts Tt I d (fo d) (Fin.cast nCore_zero c) (Fin.cast nSub_zero i)))
  td q d c i := match q with
    | 0 => (inferInstance : BI.Storable (upEmb : UEmb _ 𝕄) (pts Tt I d (gathered (Tt d) (I d)) (Fin.cast nCore_zero c) (Fin.cast nSub_zero i)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d j, (I d j).toNat < 2048) : (K (F := F)).TileObl (D (F := F)) 𝒱 (P Tt I fo) v₀ 0 := by
  intro d c i O W hO _ _
  simp only [show (P Tt I fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tt I d (coordsV ⟨_, hci.1⟩ ⟨_, hci.2⟩) facts (tq (Fin.cast nCore_zero c) (Fin.cast nSub_zero i)) O W hO (fo d) (hI d)).trans
    (wp_mono frame _ _ fun _ => obl_post)

theorem vecSplit : (K (F := F)).VecSplit' (P Tt I fo) 0 := by
  intro d c
  show (bigSep Finset.univ fun i : Fin ((K (F := F)).nSub 0) => pts Tt I d (fo d) (Fin.cast nCore_zero c) (Fin.cast nSub_zero i))
    ⊢ |={Set.univ}=> iprop((bigSep Finset.univ fun i : Fin ((K (F := F)).nSub 0) => pts Tt I d (fo d) (Fin.cast nCore_zero c) (Fin.cast nSub_zero i))
      ∗ ((bigSep Finset.univ fun i : Fin ((K (F := F)).nSub 0) => pts Tt I d (gathered (Tt d) (I d)) (Fin.cast nCore_zero c) (Fin.cast nSub_zero i))
        -∗ (bigSep Finset.univ fun i : Fin ((K (F := F)).nSub 0) => pts Tt I d (gathered (Tt d) (I d)) (Fin.cast nCore_zero c) (Fin.cast nSub_zero i))))
  iintro H; imodintro
  isplitl [H]; · iexact H
  iintro H; iexact H

/-! ## The whole arrays and the pieces -/

theorem blk_inj {c c' : Fin 2} {s s' : Fin 16} (h : blk c s = blk c' s') : c = c' ∧ s = s' := by
  unfold blk at h; constructor <;> ext <;> omega

theorem pieces {ℓ : Loc nD τ sig} (f : Buf (Elt F) ℓ) (row : Idx ℓ → ℕ) (hrow : ∀ j, row j < 1024) :
    (ℓ ↦{fullShare} f : sProp 𝕄) = bigSep Finset.univ fun c : Fin 2 => bigSep Finset.univ fun s : Fin 16 =>
      ℓ ↦[Finset.univ.filter fun j => row j / 32 = blk c s]{fullShare} f := by
  rw [← SparseCore.bigSep_product Finset.univ Finset.univ (fun p : Fin 2 × Fin 16 => (ℓ ↦[Finset.univ.filter fun j => row j / 32 = blk p.1 p.2]{fullShare} f : sProp 𝕄)),
    ← pointsTo_biUnion]
  · congr 1
    refine (Finset.eq_univ_of_forall fun j => Finset.mem_biUnion.mpr ?_).symm
    refine ⟨(⟨row j / 32 % 2, by omega⟩, ⟨row j / 32 / 2, by have := hrow j; omega⟩), Finset.mem_product.mpr ⟨Finset.mem_univ _, Finset.mem_univ _⟩, ?_⟩
    refine Finset.mem_filter.mpr ⟨Finset.mem_univ _, ?_⟩
    simp only [blk]; omega
  · intro p _ p' _ hne
    refine Finset.disjoint_left.mpr fun j h h' => hne ?_
    have := blk_inj ((Finset.mem_filter.mp h).2.symm.trans (Finset.mem_filter.mp h').2)
    exact Prod.ext this.1 this.2

theorem tPts_pieces (d : Dev nD) :
    (tLoc d ↦{fullShare} Tt d : sProp 𝕄) = bigSep Finset.univ fun c : Fin 2 => bigSep Finset.univ fun s : Fin 16 => tPts Tt d (tq c s) := by
  rw [pointsTo_piecesOf Finset.univ (Tt d) (o := 2) (by decide) fullShare]
  exact bigSep_congr fun c _ => pointsTo_piecesOf Finset.univ (Tt d) (o := 16) (by decide) _

/-- The three arrays whole are what the cores' tiles hold. -/
theorem whole_pieces (d : Dev nD) (f : Buf (Elt F) (oLoc d)) :
    iprop((iLoc d ↦{fullShare} I d) ∗ (tLoc d ↦{fullShare} Tt d) ∗ oLoc d ↦{fullShare} f)
      = (bigSep Finset.univ fun c : Fin ((K (F := F)).nCore 0) => bigSep Finset.univ fun i : Fin ((K (F := F)).nSub 0) =>
        pts Tt I d f (Fin.cast nCore_zero c) (Fin.cast nSub_zero i) : sProp 𝕄) := by
  show _ = (bigSep Finset.univ fun c : Fin 2 => bigSep Finset.univ fun s : Fin 16 => pts Tt I d f c s : sProp 𝕄)
  simp only [bigSep_sep']
  rw [tPts_pieces, pieces (ℓ := iLoc d) (I d) (fun j => (j 0).val) fun j => (j 0).isLt, pieces (ℓ := oLoc d) f (fun j => (j 0).val) fun j => (j 0).isLt]
  rfl

theorem st_eq (d : Dev nD) : (bigSep Finset.univ fun c : Fin ((K (F := F)).nCore 0) => (P Tt I fo).st 0 d c)
    = iprop((iLoc d ↦{fullShare} I d) ∗ (tLoc d ↦{fullShare} Tt d) ∗ oLoc d ↦{fullShare} fo d) := (whole_pieces Tt I d (fo d)).symm
theorem dn_eq (d : Dev nD) : (bigSep Finset.univ fun c : Fin ((K (F := F)).nCore 0) => (P Tt I fo).dn 0 d c)
    = iprop((iLoc d ↦{fullShare} I d) ∗ (tLoc d ↦{fullShare} Tt d) ∗ oLoc d ↦{fullShare} gathered (Tt d) (I d)) := (whole_pieces Tt I d _).symm

end Cert.Proof

end
-- ==== Proof.Launch.lean ====
/-
  The program's main thread: the entropies' pipeline, the host's lines up to the indices, the SparseCore call, and the
  lines after it. The run ends with every buffer at a valuation that is written down here, over any float values.
-/
module

public import proofs.«01_k».proof.Proof.Call

@[expose] public section

noncomputable section

namespace Cert.Proof

open Cert.KernelIdeal Cert.KernelIdeal.Gen

open Idealize.ShloMosaic
open Idealize.ShloMosaic.SparseCore (S V)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ
/-! ## The host's lines -/

/-- From the entropies to the probabilities, the key and the images' numbers. -/
def preOps : List (HloOp τ sig (Elt F)) := [
  StableHlo.reshape main_v0 main_v1 (rfl : (.f32 : EltTy) = .f32) shapeCasts_S4x1x2048_S4x2048,
  StableHlo.nullary main_c (constantI S_ 32 42#32),
  StableHlo.nullary main_c_0 (constantI S_ 32 32#32),
  StableHlo.binary main_c main_c_0 main_v2 (Host.shrui : (⟨S_, .i32⟩ : BufTy).Contents (Elt F) → (⟨S_, .i32⟩ : BufTy).Contents (Elt F) → (⟨S_, .i32⟩ : BufTy).Contents (Elt F)),
  StableHlo.unary main_v2 main_v3 (id : (⟨S_, .i32⟩ : BufTy).Contents (Elt F) → (⟨S_, .i32⟩ : BufTy).Contents (Elt F)),
  StableHlo.unary main_v3 main_v4 (broadcastInDim S1 ![] bcast_S_S1 : (⟨S_, .i32⟩ : BufTy).Contents (Elt F) → (⟨S1, .i32⟩ : BufTy).Contents (Elt F)),
  StableHlo.nullary main_c_1 (constantI S_ 32 4294967295#32),
  StableHlo.binary main_c main_c_1 main_v5 (andi : (⟨S_, .i32⟩ : BufTy).Contents (Elt F) → (⟨S_, .i32⟩ : BufTy).Contents (Elt F) → (⟨S_, .i32⟩ : BufTy).Contents (Elt F)),
  StableHlo.unary main_v5 main_v6 (id : (⟨S_, .i32⟩ : BufTy).Contents (Elt F) → (⟨S_, .i32⟩ : BufTy).Contents (Elt F)),
  StableHlo.unary main_v6 main_v7 (broadcastInDim S1 ![] bcast_S_S1 : (⟨S_, .i32⟩ : BufTy).Contents (Elt F) → (⟨S1, .i32⟩ : BufTy).Contents (Elt F)),
  StableHlo.binary main_v4 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.unary main_v1 main_v9 ((extractStridedSlice S1x2048 ![0, 0] · slices_S4x2048_S1x2048_0_0) : (⟨S4x2048, .f32⟩ : BufTy).Contents (Elt F) → (⟨S1x2048, .f32⟩ : BufTy).Contents (Elt F)),
  StableHlo.reshape main_v9 main_v10 (rfl : (.f32 : EltTy) = .f32) shapeCasts_S1x2048_S2048,
  StableHlo.nullary main_cst (constant S_ .f32 0x00000000#32),
  StableHlo.binary main_v10 main_cst main_v11 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
  StableHlo.unary main_v1 main_v12 ((extractStridedSlice S1x2048 ![1, 0] · slices_S4x2048_S1x2048_1_0) : (⟨S4x2048, .f32⟩ : BufTy).Contents (Elt F) → (⟨S1x2048, .f32⟩ : BufTy).Contents (Elt F)),
  StableHlo.reshape main_v12 main_v13 (rfl : (.f32 : EltTy) = .f32) shapeCasts_S1x2048_S2048,
  StableHlo.nullary main_cst_2 (constant S_ .f32 0x00000000#32),
  StableHlo.binary main_v13 main_cst_2 main_v14 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
  StableHlo.unary main_v1 main_v15 ((extractStridedSlice S1x2048 ![2, 0] · slices_S4x2048_S1x2048_2_0) : (⟨S4x2048, .f32⟩ : BufTy).Contents (Elt F) → (⟨S1x2048, .f32⟩ : BufTy).Contents (Elt F)),
  StableHlo.reshape main_v15 main_v16 (rfl : (.f32 : EltTy) = .f32) shapeCasts_S1x2048_S2048,
  StableHlo.nullary main_cst_3 (constant S_ .f32 0x00000000#32),
  StableHlo.binary main_v16 main_cst_3 main_v17 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
  StableHlo.unary main_v1 main_v18 ((extractStridedSlice S1x2048 ![3, 0] · slices_S4x2048_S1x2048_3_0) : (⟨S4x2048, .f32⟩ : BufTy).Contents (Elt F) → (⟨S1x2048, .f32⟩ : BufTy).Contents (Elt F)),
  StableHlo.reshape main_v18 main_v19 (rfl : (.f32 : EltTy) = .f32) shapeCasts_S1x2048_S2048,
  StableHlo.nullary main_cst_4 (constant S_ .f32 0x00000000#32),
  StableHlo.binary main_v19 main_cst_4 main_v20 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
  StableHlo.unary main_v11 main_v21 (broadcastInDim S1 ![] bcast_S_S1 : (⟨S_, .f32⟩ : BufTy).Contents (Elt F) → (⟨S1, .f32⟩ : BufTy).Contents (Elt F)),
  StableHlo.unary main_v14 main_v22 (broadcastInDim S1 ![] bcast_S_S1 : (⟨S_, .f32⟩ : BufTy).Contents (Elt F) → (⟨S1, .f32⟩ : BufTy).Contents (Elt F)),
  StableHlo.unary main_v17 main_v23 (broadcastInDim S1 ![] bcast_S_S1 : (⟨S_, .f32⟩ : BufTy).Contents (Elt F) → (⟨S1, .f32⟩ : BufTy).Contents (Elt F)),
  StableHlo.unary main_v20 main_v24 (broadcastInDim S1 ![] bcast_S_S1 : (⟨S_, .f32⟩ : BufTy).Contents (Elt F) → (⟨S1, .f32⟩ : BufTy).Contents (Elt F)),
  StableHlo.nary ![main_v21, main_v22, main_v23, main_v24] main_v25 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
  StableHlo.unary main_v25 main_v26 (broadcastInDim S4x1 ![0] bcast_S4_S4x1_0 : (⟨S4, .f32⟩ : BufTy).Contents (Elt F) → (⟨S4x1, .f32⟩ : BufTy).Contents (Elt F)),
  StableHlo.unary main_v26 main_v27 (broadcastInDim S4x2048 ![0, 1] bcast_S4x1_S4x2048_0_1 : (⟨S4x1, .f32⟩ : BufTy).Contents (Elt F) → (⟨S4x2048, .f32⟩ : BufTy).Contents (Elt F)),
  StableHlo.binary main_v1 main_v27 main_v28 (Host.divf : (⟨S4x2048, .f32⟩ : BufTy).Contents (Elt F) → (⟨S4x2048, .f32⟩ : BufTy).Contents (Elt F) → (⟨S4x2048, .f32⟩ : BufTy).Contents (Elt F)),
  StableHlo.nullary main_v29 (iotaInDim S4 32 0)]

/-- From the noise to the indices and the table. -/
def postOps : List (HloOp τ sig (Elt F)) := [
  StableHlo.unary main_v28 main_v32 (Host.log : (⟨S4x2048, .f32⟩ : BufTy).Contents (Elt F) → (⟨S4x2048, .f32⟩ : BufTy).Contents (Elt F)),
  StableHlo.binary main_v31 main_v32 main_v33 (addf : (⟨S4x2048, .f32⟩ : BufTy).Contents (Elt F) → (⟨S4x2048, .f32⟩ : BufTy).Contents (Elt F) → (⟨S4x2048, .f32⟩ : BufTy).Contents (Elt F)),
  StableHlo.unary main_v33 main_values ((fun x => (Host.topK S4x256 1 (FloatOps.cmpfTotal .gt) x sliceFits_S4x2048_S4x256).1) : (⟨S4x2048, .f32⟩ : BufTy).Contents (Elt F) → (⟨S4x256, .f32⟩ : BufTy).Contents (Elt F)),
  StableHlo.unary main_v33 main_indices ((fun x => (Host.topK S4x256 1 (FloatOps.cmpfTotal .gt) x sliceFits_S4x2048_S4x256).2) : (⟨S4x2048, .f32⟩ : BufTy).Contents (Elt F) → (⟨S4x256, .i32⟩ : BufTy).Contents (Elt F)),
  StableHlo.reshape main_indices main_v34 (rfl : (.i32 : EltTy) = .i32) shapeCasts_S4x256_S1024,
  StableHlo.reshape main_arg0 main_v35 (rfl : (.f32 : EltTy) = .f32) shapeCasts_S4x2048x768_S8192x768]

/-- After the SparseCore call. -/
def endOps : List (HloOp τ sig (Elt F)) := [
  StableHlo.reshape main_v36 main_v37 (rfl : (.f32 : EltTy) = .f32) shapeCasts_S1024x768_S4x256x768,
  StableHlo.nullary main_cst_5 (constant S_ .f32 0x00000000#32)]

/-- The lines that draw the noise. -/
def noiseOps : List (HloOp τ sig (Elt F)) := (sim_noise (F := F)).2.choose
/-- The reference's lines that draw the noise. -/
def noiseOpsR : List (HloOp τ ReferenceIdeal.sig (Elt F)) := (sim_noise (F := F)).2.choose_spec.choose

theorem noise_spec :
    (fn_threefry_fold_in.body (F := F) (.of main_v8) (.of main_v29) main_call0 >>= fun _ => fn_gumbel.body (.of main_v30) main_call1) = StableHlo.seq noiseOps ∧
    (ReferenceIdeal.fn_threefry_fold_in.body (F := F) (.of ReferenceIdeal.main_v6) (.of ReferenceIdeal.main_v44) ReferenceIdeal.main_call0 >>= fun _ =>
      ReferenceIdeal.fn_gumbel.body (.of ReferenceIdeal.main_v45) ReferenceIdeal.main_call1) = StableHlo.seq noiseOpsR ∧
    (∀ op ∈ noiseOps (F := F), Own 38 548 op) ∧ (∀ op ∈ noiseOpsR (F := F), Own (38 + 22) (548 + 22) op) ∧
    ∀ V₁ V₂, Agree 38 V₁ V₂ → Agree 548 (StableHlo.after (noiseOps (F := F)) V₁) (StableHlo.after noiseOpsR V₂) :=
  (sim_noise (F := F)).2.choose_spec.choose_spec

/-- The lines between the pipeline and the SparseCore call. -/
def midOps : List (HloOp τ sig (Elt F)) := preOps ++ (noiseOps ++ postOps)

theorem main_eq (d : Dev nD) : main (F := F) d = (Prog.lift (.customCall (SparseCore.inner (Pipeline.entry 0)) ()) >>= fun _ =>
    StableHlo.seq midOps >>= fun _ => (sc (F := F)).run d 0 >>= fun _ => StableHlo.seq endOps) := by
  unfold midOps
  rw [StableHlo.seq_append, StableHlo.seq_append, ← noise_spec.1]
  simp only [bind_assoc]
  rfl

/-! ## The buffers held -/

/-- The buffers that the main thread holds throughout. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (d.tc : Thread nD τ) ucRefs W := by
  unfold unscopedBufs StableHlo.held ucRefs StableHlo.tcRefs
  rw [Finset.filter_map, bigSep_map]; rfl

theorem sub_ucRefs {op : HloOp τ sig (Elt F)} (h : op.bufs ⊆ StableHlo.tcRefs τ sig) : op.bufs ⊆ ucRefs := fun b hb =>
  Finset.mem_filter.mpr ⟨h hb, by rw [op.no_scoped b hb]; decide⟩

theorem mem_ucRefs (r : Ref sig .tc) (h : (Proc.devRef .tc r : DevRef τ sig).isScoped = false) : (Proc.devRef .tc r : DevRef τ sig) ∈ ucRefs :=
  Finset.mem_filter.mpr ⟨StableHlo.devRef_mem_tcRefs r, by rw [h]; decide⟩

theorem pre_bufs : ∀ op ∈ preOps (F := F), op.bufs ⊆ StableHlo.tcRefs τ sig := by
  refine List.forall_iff_forall_mem.mp ?_
  simp only [preOps, List.Forall, StableHlo.nullary_bufs_sub, StableHlo.unary_bufs_sub, StableHlo.binary_bufs_sub, StableHlo.reshape_bufs_sub, StableHlo.nary_bufs_sub, and_self]
theorem post_bufs : ∀ op ∈ postOps (F := F), op.bufs ⊆ StableHlo.tcRefs τ sig := by
  refine List.forall_iff_forall_mem.mp ?_
  simp only [postOps, List.Forall, StableHlo.unary_bufs_sub, StableHlo.binary_bufs_sub, StableHlo.reshape_bufs_sub, and_self]
theorem end_bufs : ∀ op ∈ endOps (F := F), op.bufs ⊆ StableHlo.tcRefs τ sig := by
  refine List.forall_iff_forall_mem.mp ?_
  simp only [endOps, List.Forall, StableHlo.nullary_bufs_sub, StableHlo.reshape_bufs_sub, and_self]
theorem pre_fresh : ∀ op ∈ preOps (F := F), op.fresh = ∅ := by
  refine List.forall_iff_forall_mem.mp ?_
  simp only [preOps, List.Forall]; and_intros <;> rfl
theorem post_fresh : ∀ op ∈ postOps (F := F), op.fresh = ∅ := by
  refine List.forall_iff_forall_mem.mp ?_
  simp only [postOps, List.Forall]; and_intros <;> rfl
theorem end_fresh : ∀ op ∈ endOps (F := F), op.fresh = ∅ := by
  refine List.forall_iff_forall_mem.mp ?_
  simp only [endOps, List.Forall]; and_intros <;> rfl

theorem mid_bufs : ∀ op ∈ midOps (F := F), op.bufs ⊆ ucRefs := by
  intro op h
  rcases List.mem_append.mp h with h | h
  · exact sub_ucRefs (pre_bufs op h)
  rcases List.mem_append.mp h with h | h
  · intro b hb
    obtain ⟨r, rfl, hr⟩ := (noise_spec.2.2.1 op h).bufs b hb
    exact mem_ucRefs r (op.no_scoped _ hb)
  · exact sub_ucRefs (post_bufs op h)
theorem mid_fresh : ∀ op ∈ midOps (F := F), op.fresh = ∅ := by
  intro op h
  rcases List.mem_append.mp h with h | h
  · exact pre_fresh op h
  rcases List.mem_append.mp h with h | h
  · exact (noise_spec.2.2.1 op h).fresh
  · exact post_fresh op h

/-! ## The valuations -/

variable (m : (ℓ : Loc nD τ sig) → Buf (Elt F) ℓ) (ρ : Dev nD → PrngReg)

/-- The launch memory, as the pipeline reads it. -/
abbrev Vm (c : Dev nD) (b : Ref sig .tc) : Buf (Elt F) ((c : Thread nD τ).loc b) := m ((c : Thread nD τ).loc b)
/-- After the pipeline. -/
def W1 (d : Dev nD) : Valuation τ sig (Elt F) := Function.update (StableHlo.launchContents m d) (Proc.devRef .tc main_v0) (entArr (Vm m) d)
/-- Before the SparseCore call. -/
def W2 (d : Dev nD) : Valuation τ sig (Elt F) := StableHlo.after midOps (W1 m d)
def tab (d : Dev nD) : Buf (Elt F) (tLoc d) := W2 m d (Proc.devRef .tc main_v35)
def idx (d : Dev nD) : Buf (Elt F) (iLoc d) := W2 m d (Proc.devRef .tc main_v34)
def out0 (d : Dev nD) : Buf (Elt F) (oLoc d) := W2 m d (Proc.devRef .tc main_v36)
/-- After the SparseCore call. -/
def W3 (d : Dev nD) : Valuation τ sig (Elt F) := Function.update (W2 m d) (Proc.devRef .tc main_v36) (gathered (F := F) (tab m d) (idx m d))
/-- At the end. -/
def W4 (d : Dev nD) : Valuation τ sig (Elt F) := StableHlo.after endOps (W3 m d)

/-! ## The row numbers are row numbers -/

/-- A position that top-k names is a position of the row it was given. -/
theorem topK_lt (x : FVec F S4x2048 .f32) (j : S4x256.Idx) : ((Host.topK S4x256 1 (FloatOps.cmpfTotal .gt) x sliceFits_S4x2048_S4x256).2 j).toNat < 2048 := by
  simp only [Host.topK, Host.sort2, extractStridedSlice, dif_pos (show 1 < S4x2048.rank by decide), iotaInDim]
  refine lt_of_le_of_lt (by rw [BitVec.toNat_ofNat]; exact Nat.mod_le _ _) (Fin.isLt _)

/-- The probabilities, the noise and the arrays before the last lines of the host. -/
def W15 (d : Dev nD) : Valuation τ sig (Elt F) := StableHlo.after noiseOps (StableHlo.after preOps (W1 m d))

theorem W2_eq (d : Dev nD) : W2 m d = StableHlo.after postOps (W15 m d) := by
  unfold W2 W15 midOps; rw [after_app, after_app]

theorem idx_eq (d : Dev nD) : (idx m d : IVec S1024 32) = shapeCast S1024
    (Host.topK S4x256 1 (FloatOps.cmpfTotal .gt) (addf (W15 m d (Proc.devRef .tc main_v31) : FVec F S4x2048 .f32) (Host.log (W15 m d (Proc.devRef .tc main_v28) : FVec F S4x2048 .f32))) sliceFits_S4x2048_S4x256).2
    shapeCasts_S4x256_S1024 := by
  unfold idx; rw [W2_eq]; unfold postOps
  after_results_simp; rfl

theorem idx_lt (d : Dev nD) (j : S1024.Idx) : ((idx m d : IVec S1024 32) j).toNat < 2048 := by
  rw [idx_eq]; unfold shapeCast; exact topK_lt _ _

/-! ## What the launch deals out -/

abbrev adm0 : (p : Fin 1) → (pcfgs (F := F) p).Adm := fun p => (cfgs p).toPCfg_adm

def u₀ : UU := (initOf (K (F := F)).hsCells (K (F := F)).hsToks,
  (initOf (Pipeline.cells (Pipeline.pin (pcfgs (F := F)) adm0) cellOf_inj) (Pipeline.launchToks (Pipeline.pin (pcfgs (F := F)) adm0) cellOf_inj), 1))

/-- The pipeline's share of the ghost state. -/
abbrev G (d : Dev nD) : sProp 𝕄 := iprop((bigSep Finset.univ fun p : Fin 1 => Pipeline.cellsGhost (Pipeline.pin (pcfgs (F := F)) adm0) EP p d)
  ∗ bigSep Finset.univ fun p : Fin 1 => Pipeline.toksInit (Pipeline.pin (pcfgs (F := F)) adm0) EP p d)

local notation "PP" => P (F := F) (tab m) (idx m) (out0 m)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP).x q thr) := by
  unfold u₀
  iintro Hu
  ihave H := (ownU_pair _ _) $$ Hu
  icases H with ⟨HH, HR⟩
  ihave H := (own_pair_emb _ _ _) $$ HR
  icases H with ⟨HP, -⟩
  ihave H := (Pipeline.fund_ghost (Pipeline.pin (pcfgs (F := F)) adm0) EP cellOf_inj) $$ HP
  imod H with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (PP).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The main thread -/

set_option backward.isDefEq.respectTransparency.types false in
/-- The pipeline's call from the main thread. -/
theorem wp_pipe (d : Dev nD) (Q : PUnit → sProp 𝕄) :
    iprop((boundary d.tc ∗ (StableHlo.held d.tc ucRefs (W1 m d) ∗ ∃ W, ⌜(K (F := F)).WBelow (SparseCore.T d) W 0⌝ ∗ owes (d : Thread nD τ) ((K (F := F)).Otc d 0) W) -∗ Q ⟨⟩)
        ∗ boundary d.tc ∗ (unscopedBufs d (fun b => Vm m d b) ∗ ∃ W, ⌜(K (F := F)).WBelow (SparseCore.T d) W 0⌝ ∗ owes (d : Thread nD τ) ((K (F := F)).Otc d 0) W)
        ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  let R := reg (Vm m) adm0 (fun c b => W1 m c (Proc.devRef .tc b)) (fun c => by unfold W1; exact Function.update_self _ _ _)
    (fun c b hb => by unfold W1; exact Function.update_of_ne (fun h => hb (Proc.devRef_injective _ h)) _ _)
  have h (hv) := Pipeline.RegionSeg.wp (pcfgs (F := F)) adm0 (pdats (Vm m) adm0) none cellOf_inj EP defs₀ 𝒱₀ (K (F := F)).L (K (F := F)).lev
    R d none hv (fun _ => pure ⟨⟩) Q
  rw [show R.pre d = iprop(unscopedBufs d (fun b => Vm m d b) ∗ ∃ W, ⌜(K (F := F)).WBelow (SparseCore.T d) W 0⌝ ∗ owes (d : Thread nD τ) ((K (F := F)).Otc d 0) W) from rfl,
    show R.post d = iprop(unscopedBufs d (fun b => W1 m d (Proc.devRef .tc b)) ∗ ∃ W, ⌜(K (F := F)).WBelow (SparseCore.T d) W 0⌝ ∗ owes (d : Thread nD τ) ((K (F := F)).Otc d 0) W) from rfl] at h
  have e : (Prog.lift (.customCall (SparseCore.inner (Pipeline.entry 0)) ()) : Prog (TpuEff nD τ sig (Elt F) (SparseCore.Sig (ΛP (F := F)) 1) .tc) PUnit)
    = SparseCore.liftProg (Prog.lift (.customCall (Pipeline.entry 0) ())) := by
    simp only [SparseCore.liftProg]; rfl
  rw [e]
  refine BIBase.Entails.trans ?_ ((K (F := F)).wp_liftProg (D (F := F)) 𝒱 (SparseCore.T d) Set.univ none (Prog.lift (.customCall (Pipeline.entry 0) ())) Q)
  refine BIBase.Entails.trans ?_ (h (by simp))
  rw [← unscopedBufs_held]
  unfold G
  rw [bigSep_univ_of_subsingleton (0 : Fin 1), bigSep_univ_of_subsingleton (0 : Fin 1)]
  iintro ⟨Hk, Hb, Hpre, Hlev, Hc, Ht⟩
  isplitl [Hk]
  · iintro H
    rw [wp_pure]
    imodintro
    iapply Hk; iexact H
  isplitl [Hb]; · iexact Hb
  isplitl [Hpre]; · iexact Hpre
  isplitl [Hlev]; · iexact Hlev
  isplitl [Hc] <;> iassumption

abbrev FIN (d : Dev nD) : sProp 𝕄 := StableHlo.held d.tc ucRefs (W4 m d)

/-- The three arrays of the SparseCore call. -/
def three : Finset (DevRef τ sig) := {Proc.devRef .tc main_v34, Proc.devRef .tc main_v35, Proc.devRef .tc main_v36}

theorem three_sub : three ⊆ ucRefs := by
  intro b hb
  simp only [three, Finset.mem_insert, Finset.mem_singleton] at hb
  rcases hb with rfl | rfl | rfl <;> exact mem_ucRefs _ rfl

theorem held_three (d : Dev nD) (W : Valuation τ sig (Elt F)) : (StableHlo.held d.tc three W : sProp 𝕄)
    = iprop((iLoc d ↦{fullShare} W (Proc.devRef .tc main_v34)) ∗ (tLoc d ↦{fullShare} W (Proc.devRef .tc main_v35)) ∗ oLoc d ↦{fullShare} W (Proc.devRef .tc main_v36)) := by
  unfold StableHlo.held three
  rw [bigSep_insert (by decide), bigSep_insert (by decide), bigSep_singleton]
  rfl

theorem split_three (d : Dev nD) : (StableHlo.held d.tc ucRefs (StableHlo.after midOps (W1 m d)) : sProp 𝕄)
    = iprop(((iLoc d ↦{fullShare} idx m d) ∗ (tLoc d ↦{fullShare} tab m d) ∗ oLoc d ↦{fullShare} out0 m d) ∗ StableHlo.held d.tc (ucRefs \ three) (W2 m d)) := by
  rw [show StableHlo.after midOps (W1 m d) = W2 m d from rfl, StableHlo.held_sub_split _ three_sub, held_three]; rfl

theorem join_three (d : Dev nD) : iprop(((iLoc d ↦{fullShare} idx m d) ∗ (tLoc d ↦{fullShare} tab m d) ∗ oLoc d ↦{fullShare} gathered (tab m d) (idx m d)) ∗ StableHlo.held d.tc (ucRefs \ three) (W2 m d))
    = (StableHlo.held d.tc ucRefs (W3 m d) : sProp 𝕄) := by
  rw [StableHlo.held_sub_split (d.tc : Thread nD τ) three_sub (W3 m d), held_three]
  have h1 : W3 m d (Proc.devRef .tc main_v34) = idx m d := Function.update_of_ne (by decide) _ _
  have h2 : W3 m d (Proc.devRef .tc main_v35) = tab m d := Function.update_of_ne (by decide) _ _
  have h3 : W3 m d (Proc.devRef .tc main_v36) = gathered (F := F) (tab m d) (idx m d) := Function.update_self _ _ _
  rw [h1, h2, h3, StableHlo.held_congr (d.tc : Thread nD τ) (V := W2 m d) (V' := W3 m d) fun b hb =>
    (Function.update_of_ne (fun h => (Finset.mem_sdiff.mp hb).2 (by rw [h]; simp [three])) _ _).symm]

theorem hmain (κ : GSem nD τ sig → ℕ) (d : Dev nD) :
    iprop((K (F := F)).ctx EH PP κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ : ∃ R : sProp 𝕄, (K (F := F)).tcSt (N := 1) EH d 0
      = iprop((∃ W, ⌜(K (F := F)).WBelow (SparseCore.T d) W 0⌝ ∗ owes (d : Thread nD τ) ((K (F := F)).Otc d 0) W) ∗ R) := ⟨_, rfl⟩
  rw [main_eq, wp_bind, hR]
  unfold SparseCore.Cfg.tcRes SparseCore.Cfg.tcEnd
  iintro ⟨#Hctx, Hst, ⟨Hb, Hub, Hts, -⟩, HG⟩
  ihave Hlev := (SparseCore.Cfg.ctx_levAts κ) $$ Hctx
  icases Hst with ⟨Ho, Hat⟩
  iapply (wp_pipe m d _)
  isplitr [Hb Hub Ho Hlev HG]
  swap
  · isplitl [Hb]; · iexact Hb
    isplitl [Hub Ho]
    · isplitl [Hub] <;> iassumption
    isplitl [Hlev] <;> iassumption
  iintro ⟨Hb, Hh, Ho⟩
  iapply (StableHlo.wp_seq 𝒱 none Set.univ d ucRefs _ midOps mid_bufs mid_fresh (W1 m d)) $$ [Hb Hh]
  · isplitl [Hb] <;> iassumption
  iintro ⟨Hb, Hh⟩
  ihave H := (Entails.of_eq (split_three m d)) $$ Hh
  icases H with ⟨H3, Hr⟩
  rw [wp_bind]
  iapply ((K (F := F)).wp_run (D (F := F)) 𝒱 (EH := EH) (P := PP) κ d 0)
  isplitr; · iexact Hctx
  isplitl [Ho Hat]
  · rw [show (K (F := F)).tcSt (N := 1) EH d ((0 : Fin 1) : ℕ) = _ from hR]
    isplitl [Ho] <;> iassumption
  isplitl [H3]
  · rw [st_eq]; iexact H3
  iintro ⟨Hst, Hdn⟩
  ihave H3 := (Entails.of_eq (dn_eq _ _ _ d)) $$ Hdn
  ihave Hh := (Entails.of_eq (join_three m d)) $$ [H3 Hr]
  · isplitl [H3] <;> iassumption
  rw [← bind_pure (StableHlo.seq endOps)]
  iapply (StableHlo.wp_seq 𝒱 none Set.univ d ucRefs _ endOps (fun op h => sub_ucRefs (end_bufs op h)) end_fresh (W3 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The end -/

theorem hfinal (W : Valuation τ sig (Elt F)) (d : Dev nD) (r : Ref sig .tc) (h : (Proc.devRef .tc r : DevRef τ sig).isScoped = false) (s' : Phys nD τ sig (Elt F)) :
    iprop(StableHlo.held (d.tc : Thread nD τ) ucRefs W ∗ SI s') ⊢ (⌜s'.mem.mem ((d.tc : Thread nD τ).loc r) = W (Proc.devRef .tc r)⌝ : sProp 𝕄) := by
  rw [StableHlo.held_sub_split (d.tc : Thread nD τ) (Finset.singleton_subset_iff.mpr (mem_ucRefs r h))]
  unfold StableHlo.held
  rw [bigSep_singleton]
  iintro ⟨⟨Hi, -⟩, HSI⟩
  ihave H := (SI_pointsTo_agree (st := s') (ℓ := (d, Proc.devRef .tc r)) (I := Finset.univ) (q := fullShare) (f := W (Proc.devRef .tc r))) $$ [HSI Hi]
  · isplitl [HSI] <;> iassumption
  icases H with %h1
  ipureintro; exact funext fun i => h1 i (Finset.mem_univ i)

/-- What the run leaves: the argument and the two results at the last valuation. -/
def fq (d : Dev nD) (s' : Phys nD τ sig (Elt F)) : Prop :=
  s'.mem.mem ((d.tc : Thread nD τ).loc main_arg0) = W4 m d (Proc.devRef .tc main_arg0) ∧ s'.mem.mem ((d.tc : Thread nD τ).loc main_v37) = W4 m d (Proc.devRef .tc main_v37)
    ∧ s'.mem.mem ((d.tc : Thread nD τ).loc main_cst_5) = W4 m d (Proc.devRef .tc main_cst_5)

theorem hfin (d : Dev nD) (s' : Phys nD τ sig (Elt F)) : iprop(FIN m d ∗ SI s') ⊢ (⌜fq m d s'⌝ : sProp 𝕄) := by
  have h := fun r hr => hfinal (W4 m d) d r hr s'
  exact fun a ha => ⟨h main_arg0 rfl a ha, h main_v37 rfl a ha, h main_cst_5 rfl a ha⟩

/-! ## The run -/

/-- What the run leaves, and every semaphore at zero. -/
def QC : PUnit × MemSt nD τ sig (Elt F) → Prop := fun r =>
  (∀ d : Dev nD, r.2.mem ((d.tc : Thread nD τ).loc main_arg0) = W4 m d (Proc.devRef .tc main_arg0) ∧ r.2.mem ((d.tc : Thread nD τ).loc main_v37) = W4 m d (Proc.devRef .tc main_v37)
    ∧ r.2.mem ((d.tc : Thread nD τ).loc main_cst_5) = W4 m d (Proc.devRef .tc main_cst_5)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP) (A := ∅) facts v₀
    (fun q hq => match q with | 0 => nomatch hq)
    (fun q _ => match q with | 0 => tileObl (tab m) (idx m) (out0 m) fun d j => idx_lt m d j)
    (fun q _ => match q with | 0 => SparseCore.Cfg.VecSplit.of_plain (vecSplit (tab m) (idx m) (out0 m)))
    m ρ main (fun d => G (F := F) d) (FIN m) (u₀ (F := F)) (sep_elim_left.trans (hu₀ m)) (hmain m ρ) (fq m) (hfin m) (QC m) (fun _ h hz => ⟨h, hz⟩)

/-! ## The argument is kept -/

theorem keep (ops : List (HloOp τ sig (Elt F))) (b : DevRef τ sig) (h : ∀ op ∈ ops, b ∉ op.writes) (W : Valuation τ sig (Elt F)) : StableHlo.after ops W b = W b :=
  StableHlo.after_of_forall_not_mem ops W h

theorem W4_arg (d : Dev nD) : W4 m d (Proc.devRef .tc main_arg0) = m ((d.tc : Thread nD τ).loc main_arg0) := by
  have hn : ∀ V : Valuation τ sig (Elt F), StableHlo.after noiseOps V (Proc.devRef .tc main_arg0) = V (Proc.devRef .tc main_arg0) := fun V =>
    keep noiseOps _ (fun op h hb => by
      obtain ⟨r, hr, h1, h2, h3⟩ := (noise_spec.2.2.1 op h).writes _ hb
      have := Proc.devRef_injective _ hr; subst this
      exact absurd h2 (by decide)) V
  have h1 : W4 m d (Proc.devRef .tc main_arg0) = W3 m d (Proc.devRef .tc main_arg0) := by
    unfold W4 endOps; after_results_simp
  have h2 : W3 m d (Proc.devRef .tc main_arg0) = W2 m d (Proc.devRef .tc main_arg0) := Function.update_of_ne (by decide) _ _
  have h3 : W2 m d (Proc.devRef .tc main_arg0) = W15 m d (Proc.devRef .tc main_arg0) := by
    rw [W2_eq]; unfold postOps; after_results_simp
  have h4 : W15 m d (Proc.devRef .tc main_arg0) = W1 m d (Proc.devRef .tc main_arg0) := by
    unfold W15; rw [hn]; unfold preOps; after_results_simp
  rw [h1, h2, h3, h4]; exact Function.update_of_ne (by decide) _ _

end Cert.Proof

end
-- ==== Proof.Ref.lean ====
/-
  The reference's main thread: its lines up to the noise, the noise, and its lines after, and what its two results hold
  at the end, over any float values.
-/
module

public import proofs.«01_k».proof.Proof.Launch

@[expose] public section

noncomputable section

namespace Cert.Proof.Ref

open Cert.ReferenceIdeal Cert.ReferenceIdeal.Gen

open Idealize.ShloMosaic
open Idealize.ShloMosaic.TcCoe
open Idealize.SL.Sem

variable {F : FTy → Type} [FloatOps F]

/-! ## The lines -/

/-- The entropies, and the key before them. -/
def entOps : List (HloOp τ sig (Elt F)) := [
  StableHlo.nullary main_c (constantI S_ 32 42#32),
  StableHlo.nullary main_c_0 (constantI S_ 32 32#32),
  StableHlo.binary main_c main_c_0 main_v0 (Host.shrui : (⟨S_, .i32⟩ : BufTy).Contents (Elt F) → (⟨S_, .i32⟩ : BufTy).Contents (Elt F) → (⟨S_, .i32⟩ : BufTy).Contents (Elt F)),
  StableHlo.unary main_v0 main_v1 (id : (⟨S_, .i32⟩ : BufTy).Contents (Elt F) → (⟨S_, .i32⟩ : BufTy).Contents (Elt F)),
  StableHlo.unary main_v1 main_v2 (broadcastInDim S1 ![] bcast_S_S1 : (⟨S_, .i32⟩ : BufTy).Contents (Elt F) → (⟨S1, .i32⟩ : BufTy).Contents (Elt F)),
  StableHlo.nullary main_c_1 (constantI S_ 32 4294967295#32),
  StableHlo.binary main_c main_c_1 main_v3 (andi : (⟨S_, .i32⟩ : BufTy).Contents (Elt F) → (⟨S_, .i32⟩ : BufTy).Contents (Elt F) → (⟨S_, .i32⟩ : BufTy).Contents (Elt F)),
  StableHlo.unary main_v3 main_v4 (id : (⟨S_, .i32⟩ : BufTy).Contents (Elt F) → (⟨S_, .i32⟩ : BufTy).Contents (Elt F)),
  StableHlo.unary main_v4 main_v5 (broadcastInDim S1 ![] bcast_S_S1 : (⟨S_, .i32⟩ : BufTy).Contents (Elt F) → (⟨S1, .i32⟩ : BufTy).Contents (Elt F)),
  StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.binary main_arg0 main_arg0 main_v7 (mulf : (⟨S4x2048x768, .f32⟩ : BufTy).Contents (Elt F) → (⟨S4x2048x768, .f32⟩ : BufTy).Contents (Elt F) → (⟨S4x2048x768, .f32⟩ : BufTy).Contents (Elt F)),
  StableHlo.nullary main_cst (constant S_ .f32 0x00000000#32),
  StableHlo.binary main_v7 main_cst main_v8 ((fun x v => Host.reduceAdd x v reducesTo_S4x2048x768_S4x2048_d2 h_S_) : (⟨S4x2048x768, .f32⟩ : BufTy).Contents (Elt F) → (⟨S_, .f32⟩ : BufTy).Contents (Elt F) → (⟨S4x2048, .f32⟩ : BufTy).Contents (Elt F)),
  StableHlo.unary main_v8 main_v9 (broadcastInDim S4x2048x1 ![0, 1] bcast_S4x2048_S4x2048x1_0_1 : (⟨S4x2048, .f32⟩ : BufTy).Contents (Elt F) → (⟨S4x2048x1, .f32⟩ : BufTy).Contents (Elt F)),
  StableHlo.unary main_v8 main_v10 (broadcastInDim S4x1x2048 ![0, 2] bcast_S4x2048_S4x1x2048_0_2 : (⟨S4x2048, .f32⟩ : BufTy).Contents (Elt F) → (⟨S4x1x2048, .f32⟩ : BufTy).Contents (Elt F)),
  StableHlo.unary main_v9 main_v11 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
  StableHlo.unary main_v10 main_v12 (broadcastInDim S4x2048x2048 ![0, 1, 2] bcast_S4x1x2048_S4x2048x2048_0_1_2 : (⟨S4x1x2048, .f32⟩ : BufTy).Contents (Elt F) → (⟨S4x2048x2048, .f32⟩ : BufTy).Contents (Elt F)),
  StableHlo.binary main_v11 main_v12 main_v13 (addf : (⟨S4x2048x2048, .f32⟩ : BufTy).Contents (Elt F) → (⟨S4x2048x2048, .f32⟩ : BufTy).Contents (Elt F) → (⟨S4x2048x2048, .f32⟩ : BufTy).Contents (Elt F)),
  StableHlo.unary main_arg0 main_v14 ((transpose S4x768x2048 [0, 2, 1] · transposes_S4x2048x768_S4x768x2048_0_2_1) : (⟨S4x2048x768, .f32⟩ : BufTy).Contents (Elt F) → (⟨S4x768x2048, .f32⟩ : BufTy).Contents (Elt F)),
  StableHlo.binary main_arg0 main_v14 main_v15 ((fun l r => Host.dotGeneral dot_S4x2048x768_S4x768x2048_S4x2048x2048_2_1_1_2_0_0 none l r) : (⟨S4x2048x768, .f32⟩ : BufTy).Contents (Elt F) → (⟨S4x768x2048, .f32⟩ : BufTy).Contents (Elt F) → (⟨S4x2048x2048, .f32⟩ : BufTy).Contents (Elt F)),
  StableHlo.nullary main_cst_2 (constant S_ .f32 0x40000000#32),
  StableHlo.unary main_cst_2 main_v16 (broadcastInDim S4x2048x2048 ![] bcast_S_S4x2048x2048 : (⟨S_, .f32⟩ : BufTy).Contents (Elt F) → (⟨S4x2048x2048, .f32⟩ : BufTy).Contents (Elt F)),
  StableHlo.binary main_v16 main_v15 main_v17 (mulf : (⟨S4x2048x2048, .f32⟩ : BufTy).Contents (Elt F) → (⟨S4x2048x2048, .f32⟩ : BufTy).Contents (Elt F) → (⟨S4x2048x2048, .f32⟩ : BufTy).Contents (Elt F)),
  StableHlo.binary main_v13 main_v17 main_v18 (subf : (⟨S4x2048x2048, .f32⟩ : BufTy).Contents (Elt F) → (⟨S4x2048x2048, .f32⟩ : BufTy).Contents (Elt F) → (⟨S4x2048x2048, .f32⟩ : BufTy).Contents (Elt F)),
  StableHlo.nullary main_cst_3 (constant S_ .f32 0x00000000#32),
  StableHlo.unary main_cst_3 main_v19 (broadcastInDim S4x2048x2048 ![] bcast_S_S4x2048x2048 : (⟨S_, .f32⟩ : BufTy).Contents (Elt F) → (⟨S4x2048x2048, .f32⟩ : BufTy).Contents (Elt F)),
  StableHlo.binary main_v18 main_v19 main_v20 (maximumf : (⟨S4x2048x2048, .f32⟩ : BufTy).Contents (Elt F) → (⟨S4x2048x2048, .f32⟩ : BufTy).Contents (Elt F) → (⟨S4x2048x2048, .f32⟩ : BufTy).Contents (Elt F)),
  StableHlo.nullary main_v21 (iotaInDim S2048x2048 32 0),
  StableHlo.nullary main_v22 (iotaInDim S2048x2048 32 1),
  StableHlo.nullary main_c_4 (constantI S_ 32 0#32),
  StableHlo.unary main_c_4 main_v23 (broadcastInDim S2048x2048 ![] bcast_S_S2048x2048 : (⟨S_, .i32⟩ : BufTy).Contents (Elt F) → (⟨S2048x2048, .i32⟩ : BufTy).Contents (Elt F)),
  StableHlo.binary main_v21 main_v23 main_v24 (addi : (⟨S2048x2048, .i32⟩ : BufTy).Contents (Elt F) → (⟨S2048x2048, .i32⟩ : BufTy).Contents (Elt F) → (⟨S2048x2048, .i32⟩ : BufTy).Contents (Elt F)),
  StableHlo.binary main_v24 main_v22 main_v25 (cmpi .eq : (⟨S2048x2048, .i32⟩ : BufTy).Contents (Elt F) → (⟨S2048x2048, .i32⟩ : BufTy).Contents (Elt F) → (⟨S2048x2048, .i1⟩ : BufTy).Contents (Elt F)),
  StableHlo.unary main_v25 main_v26 (uitofp .f32 : (⟨S2048x2048, .i1⟩ : BufTy).Contents (Elt F) → (⟨S2048x2048, .f32⟩ : BufTy).Contents (Elt F)),
  StableHlo.nullary main_cst_5 (constant S_ .f32 0x501502F9#32),
  StableHlo.unary main_cst_5 main_v27 (broadcastInDim S2048x2048 ![] bcast_S_S2048x2048 : (⟨S_, .f32⟩ : BufTy).Contents (Elt F) → (⟨S2048x2048, .f32⟩ : BufTy).Contents (Elt F)),
  StableHlo.binary main_v26 main_v27 main_v28 (mulf : (⟨S2048x2048, .f32⟩ : BufTy).Contents (Elt F) → (⟨S2048x2048, .f32⟩ : BufTy).Contents (Elt F) → (⟨S2048x2048, .f32⟩ : BufTy).Contents (Elt F)),
  StableHlo.unary main_v28 main_v29 (broadcastInDim S1x2048x2048 ![1, 2] bcast_S2048x2048_S1x2048x2048_1_2 : (⟨S2048x2048, .f32⟩ : BufTy).Contents (Elt F) → (⟨S1x2048x2048, .f32⟩ : BufTy).Contents (Elt F)),
  StableHlo.unary main_v29 main_v30 (broadcastInDim S4x2048x2048 ![0, 1, 2] bcast_S1x2048x2048_S4x2048x2048_0_1_2 : (⟨S1x2048x2048, .f32⟩ : BufTy).Contents (Elt F) → (⟨S4x2048x2048, .f32⟩ : BufTy).Contents (Elt F)),
  StableHlo.binary main_v20 main_v30 main_v31 (addf : (⟨S4x2048x2048, .f32⟩ : BufTy).Contents (Elt F) → (⟨S4x2048x2048, .f32⟩ : BufTy).Contents (Elt F) → (⟨S4x2048x2048, .f32⟩ : BufTy).Contents (Elt F)),
  StableHlo.unary main_v31 main_v32 (Host.negf : (⟨S4x2048x2048, .f32⟩ : BufTy).Contents (Elt F) → (⟨S4x2048x2048, .f32⟩ : BufTy).Contents (Elt F)),
  StableHlo.unary main_v32 main_values ((fun x => (Host.topK S4x2048x5 2 (FloatOps.cmpfTotal .gt) x sliceFits_S4x2048x2048_S4x2048x5).1) : (⟨S4x2048x2048, .f32⟩ : BufTy).Contents (Elt F) → (⟨S4x2048x5, .f32⟩ : BufTy).Contents (Elt F)),
  StableHlo.unary main_v32 main_indices ((fun x => (Host.topK S4x2048x5 2 (FloatOps.cmpfTotal .gt) x sliceFits_S4x2048x2048_S4x2048x5).2) : (⟨S4x2048x2048, .f32⟩ : BufTy).Contents (Elt F) → (⟨S4x2048x5, .i32⟩ : BufTy).Contents (Elt F)),
  StableHlo.unary main_values main_v33 (Host.negf : (⟨S4x2048x5, .f32⟩ : BufTy).Contents (Elt F) → (⟨S4x2048x5, .f32⟩ : BufTy).Contents (Elt F)),
  StableHlo.nullary main_cst_6 (constant S_ .f32 0x2B8CBCCC#32),
  StableHlo.unary main_cst_6 main_v34 (broadcastInDim S4x2048x5 ![] bcast_S_S4x2048x5 : (⟨S_, .f32⟩ : BufTy).Contents (Elt F) → (⟨S4x2048x5, .f32⟩ : BufTy).Contents (Elt F)),
  StableHlo.binary main_v33 main_v34 main_v35 (maximumf : (⟨S4x2048x5, .f32⟩ : BufTy).Contents (Elt F) → (⟨S4x2048x5, .f32⟩ : BufTy).Contents (Elt F) → (⟨S4x2048x5, .f32⟩ : BufTy).Contents (Elt F)),
  StableHlo.unary main_v35 main_v36 (Host.sqrt : (⟨S4x2048x5, .f32⟩ : BufTy).Contents (Elt F) → (⟨S4x2048x5, .f32⟩ : BufTy).Contents (Elt F)),
  StableHlo.nullary main_cst_7 (constant S_ .f32 0x00000000#32),
  StableHlo.binary main_v36 main_cst_7 main_v37 ((fun x v => Host.reduceAdd x v reducesTo_S4x2048x5_S4x2048_d2 h_S_) : (⟨S4x2048x5, .f32⟩ : BufTy).Contents (Elt F) → (⟨S_, .f32⟩ : BufTy).Contents (Elt F) → (⟨S4x2048, .f32⟩ : BufTy).Contents (Elt F)),
  StableHlo.nullary main_cst_8 (constant S_ .f32 0x40A00000#32),
  StableHlo.unary main_cst_8 main_v38 (broadcastInDim S4x2048 ![] bcast_S_S4x2048 : (⟨S_, .f32⟩ : BufTy).Contents (Elt F) → (⟨S4x2048, .f32⟩ : BufTy).Contents (Elt F)),
  StableHlo.binary main_v37 main_v38 main_v39 (Host.divf : (⟨S4x2048, .f32⟩ : BufTy).Contents (Elt F) → (⟨S4x2048, .f32⟩ : BufTy).Contents (Elt F) → (⟨S4x2048, .f32⟩ : BufTy).Contents (Elt F))]

/-- From the entropies to the probabilities and the images' numbers. -/
def probOps : List (HloOp τ sig (Elt F)) := [
  StableHlo.nullary main_cst_9 (constant S_ .f32 0x00000000#32),
  StableHlo.binary main_v39 main_cst_9 main_v40 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
  StableHlo.unary main_v40 main_v41 (broadcastInDim S4x1 ![0] bcast_S4_S4x1_0 : (⟨S4, .f32⟩ : BufTy).Contents (Elt F) → (⟨S4x1, .f32⟩ : BufTy).Contents (Elt F)),
  StableHlo.unary main_v41 main_v42 (broadcastInDim S4x2048 ![0, 1] bcast_S4x1_S4x2048_0_1 : (⟨S4x1, .f32⟩ : BufTy).Contents (Elt F) → (⟨S4x2048, .f32⟩ : BufTy).Contents (Elt F)),
  StableHlo.binary main_v39 main_v42 main_v43 (Host.divf : (⟨S4x2048, .f32⟩ : BufTy).Contents (Elt F) → (⟨S4x2048, .f32⟩ : BufTy).Contents (Elt F) → (⟨S4x2048, .f32⟩ : BufTy).Contents (Elt F)),
  StableHlo.nullary main_v44 (iotaInDim S4 32 0)]

/-- From the noise to the rows gathered. -/
def lastOps : List (HloOp τ sig (Elt F)) := [
  StableHlo.unary main_v43 main_v47 (Host.log : (⟨S4x2048, .f32⟩ : BufTy).Contents (Elt F) → (⟨S4x2048, .f32⟩ : BufTy).Contents (Elt F)),
  StableHlo.binary main_v46 main_v47 main_v48 (addf : (⟨S4x2048, .f32⟩ : BufTy).Contents (Elt F) → (⟨S4x2048, .f32⟩ : BufTy).Contents (Elt F) → (⟨S4x2048, .f32⟩ : BufTy).Contents (Elt F)),
  StableHlo.unary main_v48 main_values_10 ((fun x => (Host.topK S4x256 1 (FloatOps.cmpfTotal .gt) x sliceFits_S4x2048_S4x256).1) : (⟨S4x2048, .f32⟩ : BufTy).Contents (Elt F) → (⟨S4x256, .f32⟩ : BufTy).Contents (Elt F)),
  StableHlo.unary main_v48 main_indices_11 ((fun x => (Host.topK S4x256 1 (FloatOps.cmpfTotal .gt) x sliceFits_S4x2048_S4x256).2) : (⟨S4x2048, .f32⟩ : BufTy).Contents (Elt F) → (⟨S4x256, .i32⟩ : BufTy).Contents (Elt F)),
  StableHlo.nullary main_c_12 (constantI S_ 32 0#32),
  StableHlo.unary main_c_12 main_v49 (broadcastInDim S4x256 ![] bcast_S_S4x256 : (⟨S_, .i32⟩ : BufTy).Contents (Elt F) → (⟨S4x256, .i32⟩ : BufTy).Contents (Elt F)),
  StableHlo.binary main_indices_11 main_v49 main_v50 (cmpi .slt : (⟨S4x256, .i32⟩ : BufTy).Contents (Elt F) → (⟨S4x256, .i32⟩ : BufTy).Contents (Elt F) → (⟨S4x256, .i1⟩ : BufTy).Contents (Elt F)),
  StableHlo.nullary main_c_13 (constantI S_ 32 2048#32),
  StableHlo.unary main_c_13 main_v51 (broadcastInDim S4x256 ![] bcast_S_S4x256 : (⟨S_, .i32⟩ : BufTy).Contents (Elt F) → (⟨S4x256, .i32⟩ : BufTy).Contents (Elt F)),
  StableHlo.binary main_indices_11 main_v51 main_v52 (addi : (⟨S4x256, .i32⟩ : BufTy).Contents (Elt F) → (⟨S4x256, .i32⟩ : BufTy).Contents (Elt F) → (⟨S4x256, .i32⟩ : BufTy).Contents (Elt F)),
  StableHlo.ternary main_v50 main_v52 main_indices_11 main_v53 (select : (⟨S4x256, .i1⟩ : BufTy).Contents (Elt F) → (⟨S4x256, .i32⟩ : BufTy).Contents (Elt F) → (⟨S4x256, .i32⟩ : BufTy).Contents (Elt F) → (⟨S4x256, .i32⟩ : BufTy).Contents (Elt F)),
  StableHlo.unary main_v53 main_v54 (broadcastInDim S4x256x1 ![0, 1] bcast_S4x256_S4x256x1_0_1 : (⟨S4x256, .i32⟩ : BufTy).Contents (Elt F) → (⟨S4x256x1, .i32⟩ : BufTy).Contents (Elt F)),
  StableHlo.binary main_arg0 main_v54 main_v55 ((fun x i => Host.gather gather_S4x2048x768_S4x256x1_S4x256x768_2_1_0_0_1_2_11768 x i) : (⟨S4x2048x768, .f32⟩ : BufTy).Contents (Elt F) → (⟨S4x256x1, .i32⟩ : BufTy).Contents (Elt F) → (⟨S4x256x768, .f32⟩ : BufTy).Contents (Elt F)),
  StableHlo.nullary main_cst_14 (constant S_ .f32 0x00000000#32)]

def allOps : List (HloOp τ sig (Elt F)) := entOps ++ (probOps ++ (noiseOpsR ++ lastOps))

theorem main_eq (d : Dev nD) : main (F := F) d = StableHlo.seq allOps := by
  unfold allOps
  rw [StableHlo.seq_append, StableHlo.seq_append, StableHlo.seq_append, ← noise_spec.2.1]
  simp only [bind_assoc]
  rfl

theorem ent_bufs : ∀ op ∈ entOps (F := F), op.bufs ⊆ StableHlo.tcRefs τ sig := by
  refine List.forall_iff_forall_mem.mp ?_
  simp only [entOps, List.Forall, StableHlo.nullary_bufs_sub, StableHlo.unary_bufs_sub, StableHlo.binary_bufs_sub, and_self]
theorem prob_bufs : ∀ op ∈ probOps (F := F), op.bufs ⊆ StableHlo.tcRefs τ sig := by
  refine List.forall_iff_forall_mem.mp ?_
  simp only [probOps, List.Forall, StableHlo.nullary_bufs_sub, StableHlo.unary_bufs_sub, StableHlo.binary_bufs_sub, and_self]
theorem last_bufs : ∀ op ∈ lastOps (F := F), op.bufs ⊆ StableHlo.tcRefs τ sig := by
  refine List.forall_iff_forall_mem.mp ?_
  simp only [lastOps, List.Forall, StableHlo.nullary_bufs_sub, StableHlo.unary_bufs_sub, StableHlo.binary_bufs_sub, StableHlo.ternary_bufs_sub, and_self]
theorem ent_fresh : ∀ op ∈ entOps (F := F), op.fresh = ∅ := by
  refine List.forall_iff_forall_mem.mp ?_
  simp only [entOps, List.Forall]; and_intros <;> rfl
theorem prob_fresh : ∀ op ∈ probOps (F := F), op.fresh = ∅ := by
  refine List.forall_iff_forall_mem.mp ?_
  simp only [probOps, List.Forall]; and_intros <;> rfl
theorem last_fresh : ∀ op ∈ lastOps (F := F), op.fresh = ∅ := by
  refine List.forall_iff_forall_mem.mp ?_
  simp only [lastOps, List.Forall]; and_intros <;> rfl

theorem all_bufs : ∀ op ∈ allOps (F := F), op.bufs ⊆ StableHlo.tcRefs τ sig := by
  intro op h
  rcases List.mem_append.mp h with h | h
  · exact ent_bufs op h
  rcases List.mem_append.mp h with h | h
  · exact prob_bufs op h
  rcases List.mem_append.mp h with h | h
  · intro b hb
    obtain ⟨r, rfl, hr⟩ := (noise_spec.2.2.2.1 op h).bufs b hb
    exact StableHlo.devRef_mem_tcRefs r
  · exact last_bufs op h
theorem all_fresh : ∀ op ∈ allOps (F := F), op.fresh = ∅ := by
  intro op h
  rcases List.mem_append.mp h with h | h
  · exact ent_fresh op h
  rcases List.mem_append.mp h with h | h
  · exact prob_fresh op h
  rcases List.mem_append.mp h with h | h
  · exact (noise_spec.2.2.2.1 op h).fresh
  · exact last_fresh op h

/-! ## The run -/

variable (m : (ℓ : Loc nD τ sig) → Buf (Elt F) ℓ) (ρ : Dev nD → PrngReg)

/-- Before the noise. -/
def R1 (d : Dev nD) : Valuation τ sig (Elt F) := StableHlo.after probOps (StableHlo.after entOps (StableHlo.launchContents m d))
/-- With the noise drawn. -/
def R2 (d : Dev nD) : Valuation τ sig (Elt F) := StableHlo.after noiseOpsR (R1 m d)
/-- At the end. -/
def R3 (d : Dev nD) : Valuation τ sig (Elt F) := StableHlo.after lastOps (R2 m d)

theorem run_main : θ_run (defs (F := F)) (onTc (τ := τ) (main (F := F))) ⟨m, fun _ => 0, ρ⟩ fun r =>
    ∀ (d : Dev nD) (b : Ref sig .tc), r.2.mem ((d.tc : Thread nD τ).loc b) = R3 m d (Proc.devRef .tc b) := by
  have h := StableHlo.run_hlo (defs (F := F)) (main (F := F)) (ops := allOps) main_eq (by decide) (by decide)
    (List.forall_iff_forall_mem.mpr all_bufs) all_fresh m ρ
  refine θ_run_mono h fun r hr d b => (hr d b).trans ?_
  unfold R3 R2 R1 allOps; rw [after_app, after_app, after_app]

theorem noise_keep (r : Ref sig .tc) (h : r.idx.val < 38 + 22) (V : Valuation τ sig (Elt F)) :
    StableHlo.after noiseOpsR V (Proc.devRef .tc r) = V (Proc.devRef .tc r) :=
  StableHlo.after_of_forall_not_mem noiseOpsR V fun op ho hb => by
    obtain ⟨r', hr, h1, h2, h3⟩ := (noise_spec.2.2.2.1 op ho).writes _ hb
    have := Proc.devRef_injective _ hr; subst this
    omega

theorem R3_arg (d : Dev nD) : R3 m d (Proc.devRef .tc main_arg0) = m ((d.tc : Thread nD τ).loc main_arg0) := by
  have h1 : R3 m d (Proc.devRef .tc main_arg0) = R2 m d (Proc.devRef .tc main_arg0) := by
    unfold R3 lastOps; after_results_simp
  have h2 : R2 m d (Proc.devRef .tc main_arg0) = R1 m d (Proc.devRef .tc main_arg0) := noise_keep _ (by decide) _
  have h3 : R1 m d (Proc.devRef .tc main_arg0) = StableHlo.launchContents m d (Proc.devRef .tc main_arg0) := by
    unfold R1 probOps entOps; after_results_simp
  rw [h1, h2, h3]

end Cert.Proof.Ref

end
-- ==== Proof.Same.lean ====
/-
  The program as printed and the ideal program have one text: their body tables and main functions are equal.
  The records of buffers are two types, so the functions of the module are compared one by one, each at the buffers of
  its one call.
-/
module

public import proofs.«01_k».proof.Defs
public import proofs.«01_k».proof.Proof.Gen.Kernel
public import proofs.«01_k».proof.Proof.Ref

@[expose] public section

set_option maxHeartbeats 4000000

noncomputable section

namespace Cert.Proof.Same

open Idealize.ShloMosaic

variable {F : FTy → Type} [FloatOps F]

theorem kernels : Kernel.defs₀ (F := F) = KernelIdeal.defs₀ := by
  funext p l a
  match p, l, a with
  | .tc, 0, (t, s) => rfl
  | .tc, 1, _ => rfl
  | .scVector c s, 0, _ => rfl
  | .scVector c s, 1, _ => rfl
  | .scScalar c, 0, _ => rfl
  | .scScalar c, 1, _ => rfl

theorem tables : Kernel.defs (F := F) = KernelIdeal.defs := by
  unfold Kernel.defs KernelIdeal.defs
  rw [kernels]; rfl

/-! ## Folding the batch number into the key -/

theorem mix0 (a b c d) : Kernel.fn_threefry2x32.body_part0 (F := F) a b c d Kernel.main_call0.call0
    = KernelIdeal.fn_threefry2x32.body_part0 a b c d KernelIdeal.main_call0.call0 := by
  unfold Kernel.fn_threefry2x32.body_part0 KernelIdeal.fn_threefry2x32.body_part0
  rfl

theorem mix1 (a b c d) : Kernel.fn_threefry2x32.body_part1 (F := F) a b c d Kernel.main_call0.call0
    = KernelIdeal.fn_threefry2x32.body_part1 a b c d KernelIdeal.main_call0.call0 := by
  unfold Kernel.fn_threefry2x32.body_part1 KernelIdeal.fn_threefry2x32.body_part1
  rfl

theorem mix2 (a b c d) : Kernel.fn_threefry2x32.body_part2 (F := F) a b c d Kernel.main_call0.call0
    = KernelIdeal.fn_threefry2x32.body_part2 a b c d KernelIdeal.main_call0.call0 := by
  unfold Kernel.fn_threefry2x32.body_part2 KernelIdeal.fn_threefry2x32.body_part2
  rfl

theorem mix3 (a b c d) : Kernel.fn_threefry2x32.body_part3 (F := F) a b c d Kernel.main_call0.call0
    = KernelIdeal.fn_threefry2x32.body_part3 a b c d KernelIdeal.main_call0.call0 := by
  unfold Kernel.fn_threefry2x32.body_part3 KernelIdeal.fn_threefry2x32.body_part3
  rfl

theorem mix (a b c d) : Kernel.fn_threefry2x32.body (F := F) a b c d Kernel.main_call0.call0
    = KernelIdeal.fn_threefry2x32.body a b c d KernelIdeal.main_call0.call0 := by
  unfold Kernel.fn_threefry2x32.body KernelIdeal.fn_threefry2x32.body
  rw [mix0, mix1, mix2, mix3]
  rfl

theorem fold_in (a b) : Kernel.fn_threefry_fold_in.body (F := F) a b Kernel.main_call0
    = KernelIdeal.fn_threefry_fold_in.body a b KernelIdeal.main_call0 := by
  unfold Kernel.fn_threefry_fold_in.body KernelIdeal.fn_threefry_fold_in.body
  rw [mix]
  rfl

/-! ## Drawing the noise -/

theorem draw0 (a b c d) : Kernel.fn_threefry2x32_0.body_part0 (F := F) a b c d Kernel.main_call1.call0.call0
    = KernelIdeal.fn_threefry2x32_0.body_part0 a b c d KernelIdeal.main_call1.call0.call0 := by
  unfold Kernel.fn_threefry2x32_0.body_part0 KernelIdeal.fn_threefry2x32_0.body_part0
  rfl

theorem draw1 (a b c d) : Kernel.fn_threefry2x32_0.body_part1 (F := F) a b c d Kernel.main_call1.call0.call0
    = KernelIdeal.fn_threefry2x32_0.body_part1 a b c d KernelIdeal.main_call1.call0.call0 := by
  unfold Kernel.fn_threefry2x32_0.body_part1 KernelIdeal.fn_threefry2x32_0.body_part1
  rfl

theorem draw2 (a b c d) : Kernel.fn_threefry2x32_0.body_part2 (F := F) a b c d Kernel.main_call1.call0.call0
    = KernelIdeal.fn_threefry2x32_0.body_part2 a b c d KernelIdeal.main_call1.call0.call0 := by
  unfold Kernel.fn_threefry2x32_0.body_part2 KernelIdeal.fn_threefry2x32_0.body_part2
  rfl

theorem draw3 (a b c d) : Kernel.fn_threefry2x32_0.body_part3 (F := F) a b c d Kernel.main_call1.call0.call0
    = KernelIdeal.fn_threefry2x32_0.body_part3 a b c d KernelIdeal.main_call1.call0.call0 := by
  unfold Kernel.fn_threefry2x32_0.body_part3 KernelIdeal.fn_threefry2x32_0.body_part3
  rfl

theorem draw (a b c d) : Kernel.fn_threefry2x32_0.body (F := F) a b c d Kernel.main_call1.call0.call0
    = KernelIdeal.fn_threefry2x32_0.body a b c d KernelIdeal.main_call1.call0.call0 := by
  unfold Kernel.fn_threefry2x32_0.body KernelIdeal.fn_threefry2x32_0.body
  rw [draw0, draw1, draw2, draw3]
  rfl

theorem uniform (a b c) : Kernel.fn_uniform.body (F := F) a b c Kernel.main_call1.call0
    = KernelIdeal.fn_uniform.body a b c KernelIdeal.main_call1.call0 := by
  unfold Kernel.fn_uniform.body KernelIdeal.fn_uniform.body
  rw [draw]
  rfl

theorem gumbel (a) : Kernel.fn_gumbel.body (F := F) a Kernel.main_call1 = KernelIdeal.fn_gumbel.body a KernelIdeal.main_call1 := by
  unfold Kernel.fn_gumbel.body KernelIdeal.fn_gumbel.body
  rw [uniform]
  rfl

/-! ## The whole -/

theorem mains : Kernel.main (F := F) = KernelIdeal.main := by
  funext d
  unfold Kernel.main KernelIdeal.main
  rw [fold_in, gumbel]
  rfl

theorem threads : Kernel.threads (F := F) = KernelIdeal.threads := by
  unfold Kernel.threads KernelIdeal.threads
  rw [mains]; rfl

end Cert.Proof.Same

end
-- ==== Proof.Least.lean ====
/-
  The smallest values of a family, by counting. Below a bound `B` a value is known by the thresholds it does not exceed:
  the `j`-th smallest of a family is at most `t` exactly when more than `j` members are. So a sorted list kept lane by
  lane, five extractions of the least over the lanes, and a sort of the whole family all find the same five values.
-/
module

public import proofs.«01_k».proof.Proof.Same

@[expose] public section

noncomputable section

namespace Cert.Proof.Least

variable {α : Type} [LinearOrder α]

/-- The first five of `a` are the least of a family of which `n t` members are at most `t`, as far as values below `B` go. -/
def Counts (B : α) (n : α → ℕ) (a : ℕ → α) : Prop := ∀ t < B, ∀ j < 5, a j ≤ t ↔ j < n t

/-- What goes on past place `j` when `v` is put into `a`. -/
def carry (a : ℕ → α) (v : α) : ℕ → α
  | 0 => v
  | j + 1 => max (a j) (carry a v j)

theorem carry_le {B : α} {n : α → ℕ} {a : ℕ → α} (h : Counts B n a) (v : α) {t : α} (ht : t < B) :
    ∀ j ≤ 5, carry a v j ≤ t ↔ v ≤ t ∧ j ≤ n t
  | 0, _ => by simp [carry]
  | j + 1, hj => by
    have := h t ht j (by omega)
    have ih := carry_le h v ht j (by omega)
    rw [carry, max_le_iff, this, ih]
    constructor
    · rintro ⟨h1, h2, h3⟩; exact ⟨h2, by omega⟩
    · rintro ⟨h1, h2⟩; exact ⟨by omega, h1, by omega⟩

/-- The count with one value more. -/
def more (n : α → ℕ) (v : α) (t : α) : ℕ := n t + if v ≤ t then 1 else 0

/-- A value put into the first `k` places, the rest of which are still unset: with `k = 5`, into all of them. -/
theorem counts_put {B : α} {n : α → ℕ} {a : ℕ → α} (h : Counts B n a) (v : α) (k : ℕ) (a' : ℕ → α)
    (hlo : ∀ j < k, j < 5 → a' j = min (a j) (carry a v j)) (hhi : ∀ j, k ≤ j → j < 5 → a' j = B ∧ ∀ t, n t < k) :
    Counts B (more n v) a' := by
  intro t ht j hj
  unfold more
  by_cases hk : j < k
  · rw [hlo j hk hj, min_le_iff, h t ht j hj, carry_le h v ht j (by omega)]
    split <;> rename_i hv <;> simp only [hv, true_and, false_and, or_false]
    · omega
    · omega
  · obtain ⟨h1, h2⟩ := hhi j (by omega) hj
    have := h2 t
    rw [h1]
    constructor
    · intro h3; exact absurd ht (not_lt.mpr h3)
    · intro h3; split at h3 <;> omega

/-- Values below `B` that do not exceed the same thresholds are one value. -/
theorem eq_of_le_iff {B a b : α} (ha : a ≤ B) (hb : b ≤ B) (h : ∀ t < B, a ≤ t ↔ b ≤ t) : a = b := by
  rcases lt_trichotomy a b with h1 | h1 | h1
  · exact absurd ((h a (h1.trans_le hb)).mp le_rfl) (not_le.mpr h1)
  · exact h1
  · exact absurd ((h b (h1.trans_le ha)).mpr le_rfl) (not_le.mpr h1)

/-! ## Extractions -/

section Extract

variable {ι : Type} [Fintype ι] [DecidableEq ι]

/-- How often lane `L` has been chosen before extraction `k`. -/
def used (l : ℕ → ι) : ℕ → ι → ℕ
  | 0, _ => 0
  | k + 1, L => used l k L + if L = l k then 1 else 0

theorem used_le (l : ℕ → ι) (L : ι) : ∀ k, used l k L ≤ k
  | 0 => le_rfl
  | k + 1 => by have := used_le l L k; rw [used]; split <;> omega

theorem sum_used (l : ℕ → ι) : ∀ k, ∑ L, used l k L = k
  | 0 => by simp [used]
  | k + 1 => by simp only [used]; rw [Finset.sum_add_distrib, sum_used l k]; simp

variable {s : ℕ → ι → ℕ → α} {l : ℕ → ι}

theorem state_eq (hs : ∀ k L j, s (k + 1) L j = if L = l k then s k L (j + 1) else s k L j) :
    ∀ k L j, s k L j = s 0 L (j + used l k L)
  | 0, L, j => by simp [used]
  | k + 1, L, j => by
    rw [hs, used]
    split
    · rw [state_eq hs k L (j + 1)]; congr 1; omega
    · rw [state_eq hs k L j]; congr 1

/-- Extraction `k` takes a value of at most `t` exactly when more than `k` values in all are at most `t`. -/
theorem extract_le {B : α} {n : ι → α → ℕ} (h0 : ∀ L, Counts B (n L) (s 0 L))
    (hl : ∀ k L, s k (l k) 0 ≤ s k L 0)
    (hs : ∀ k L j, s (k + 1) L j = if L = l k then s k L (j + 1) else s k L j) {t : α} (ht : t < B) (k : ℕ) (hk : k < 5) :
    s k (l k) 0 ≤ t ↔ k < ∑ L, n L t := by
  have head : ∀ k < 5, ∀ L, s k L 0 ≤ t ↔ used l k L < n L t := fun k hk L => by
    rw [state_eq hs k L 0, Nat.zero_add]
    exact h0 L t ht _ ((used_le l L k).trans_lt hk)
  have some : ∀ k < 5, s k (l k) 0 ≤ t ↔ ∃ L, used l k L < n L t := fun k hk =>
    ⟨fun h => ⟨l k, (head k hk _).mp h⟩, fun ⟨L, h⟩ => (hl k L).trans ((head k hk L).mpr h)⟩
  have inv : ∀ k ≤ 5, (∀ L, used l k L ≤ n L t) ∨ (∀ L, n L t ≤ used l k L) := by
    intro k
    induction k with
    | zero => intro _; exact .inl fun L => Nat.zero_le _
    | succ k ih =>
      intro hk
      by_cases he : s k (l k) 0 ≤ t
      · have hlt := (head k (by omega) (l k)).mp he
        refine .inl fun L => ?_
        rcases ih (by omega) with h | h
        · rw [used]
          split
          · rename_i hL; subst hL; omega
          · have := h L; omega
        · have := h (l k); omega
      · refine .inr fun L => ?_
        have : n L t ≤ used l k L := not_lt.mp fun h => he ((some k (by omega)).mpr ⟨L, h⟩)
        rw [used]; omega
  rw [some k hk]
  have hsum := sum_used l k
  constructor
  · rintro ⟨L, hL⟩
    rcases inv k (by omega) with h | h
    · calc k = ∑ L, used l k L := hsum.symm
        _ < ∑ L, n L t := Finset.sum_lt_sum (fun L _ => h L) ⟨L, Finset.mem_univ L, hL⟩
    · have := h L; omega
  · intro h
    by_contra hne
    push Not at hne
    have : ∑ L, n L t ≤ ∑ L, used l k L := Finset.sum_le_sum fun L _ => hne L
    omega

theorem state_le {B : α} (h0 : ∀ L j, s 0 L j ≤ B) (hs : ∀ k L j, s (k + 1) L j = if L = l k then s k L (j + 1) else s k L j) (k : ℕ) (L : ι) (j : ℕ) :
    s k L j ≤ B := by rw [state_eq hs]; exact h0 _ _

end Extract

/-! ## Sorting -/

/-- In a sorted family the `k`-th is at most `t` exactly when more than `k` members are. -/
theorem sorted_le {n : ℕ} {f : Fin n → α} (hf : Monotone f) (t : α) (k : Fin n) :
    f k ≤ t ↔ k.val < (Finset.univ.filter fun i => f i ≤ t).card := by
  constructor
  · intro h
    have : Finset.Iic k ⊆ Finset.univ.filter fun i => f i ≤ t := fun i hi =>
      Finset.mem_filter.mpr ⟨Finset.mem_univ _, (hf (Finset.mem_Iic.mp hi)).trans h⟩
    have := Finset.card_le_card this
    rw [Fin.card_Iic] at this; omega
  · intro h
    by_contra hne
    have : (Finset.univ.filter fun i => f i ≤ t) ⊆ Finset.Iio k := fun i hi => by
      rw [Finset.mem_Iio]
      by_contra hi'
      exact hne ((hf (not_lt.mp hi')).trans (Finset.mem_filter.mp hi).2)
    have := Finset.card_le_card this
    rw [Fin.card_Iio] at this; omega

/-- The same of a family that a bijection sorts. -/
theorem sorted_perm_le {n : ℕ} {x : Fin n → α} {p : Fin n → Fin n} (hp : Function.Bijective p) (hx : Monotone (x ∘ p)) (t : α) (k : Fin n) :
    x (p k) ≤ t ↔ k.val < (Finset.univ.filter fun i => x i ≤ t).card := by
  have h := sorted_le hx t k
  rw [show (Finset.univ.filter fun i => x i ≤ t).card = (Finset.univ.filter fun i => (x ∘ p) i ≤ t).card from
    (Finset.card_bij (fun i _ => p i) (fun i hi => by simpa using hi) (fun a _ b _ h => hp.1 h)
      (fun b hb => by obtain ⟨a, rfl⟩ := hp.2 b; exact ⟨a, by simpa using hb, rfl⟩)).symm]
  exact h

/-- A count over 2048 columns, lane by lane and chunk by chunk. -/
theorem card_cols (x : Fin 2048 → α) (t : α) :
    (Finset.univ.filter fun i => x i ≤ t).card
      = ∑ L : Fin 128, ∑ c : Fin 16, if x ⟨128 * c.val + L.val, by omega⟩ ≤ t then 1 else 0 := by
  rw [Finset.card_filter, Finset.sum_comm, ← Finset.sum_product', ← (finProdFinEquiv (m := 16) (n := 128)).sum_comp]
  refine Finset.sum_congr rfl fun p _ => ?_
  rw [show finProdFinEquiv p = (⟨128 * p.1.val + p.2.val, by omega⟩ : Fin 2048) from Fin.ext (by simp [finProdFinEquiv]; omega)]

end Cert.Proof.Least

end
-- ==== Proof.Val.lean ====
/-
  The entropy kernel's vectors read at an index, over the extended reals: the squared norms, the products, and the squared
  distances of every chunk.
-/
module

public import proofs.«01_k».proof.Proof.Least
public import Idealize.ShloMosaic.Lib.Pointwise

@[expose] public section

noncomputable section

namespace Cert.Val

open Cert.KernelIdeal Cert.KernelIdeal.Gen
open Cert.Proof hiding ix1 ixT
open Idealize.ShloMosaic

/-- The value that stands for "no distance". -/
def big : EReal := Ideal.ofBits .f32 0x501502F9#32
/-- The factor of the products. -/
def two : EReal := Ideal.ofBits .f32 0x40000000#32

/-- The product of two rows of a table, -/
def dotp (X : Fin 2048 → Fin 768 → EReal) (i j : Fin 2048) : EReal := ∑ k, X i k * X j k
/-- their squared distance, clamped at zero, -/
def sqd (X : Fin 2048 → Fin 768 → EReal) (i j : Fin 2048) : EReal := max (dotp X i i + dotp X j j - two * dotp X i j) 0
/-- and the same with a row's distance to itself replaced by the large value. -/
def away (X : Fin 2048 → Fin 768 → EReal) (i j : Fin 2048) : EReal := if i = j then big else sqd X i j

/-- The block's rows as a table. -/
def tableOf (x : Vec Ideal S1x2048x768 .f32) (i : Fin 2048) (k : Fin 768) : EReal := x (ix3 0 i k)

variable (x : Vec Ideal S1x2048x768 .f32)

theorem rowsOf_at (i : Fin 2048) (k : Fin 768) : rowsOf x (ix2 i k) = tableOf x i k := by
  pointwise [rowsOf, tableOf]

theorem norms_at (i : Fin 2048) : norms x (ix1 i) = dotp (tableOf x) i i := by
  pointwise [norms, dotp, rowsOf_at]

theorem half0_at (r : Fin 1024) (k : Fin 768) : half0 x (ix2 r k) = tableOf x ⟨r.val, by omega⟩ k := by
  pointwise [half0, rowsOf_at]

theorem half1_at (r : Fin 1024) (k : Fin 768) : half1 x (ix2 r k) = tableOf x ⟨1024 + r.val, by omega⟩ k := by
  pointwise [half1, rowsOf_at]

theorem hnorms_at (y : FVec Ideal S1024x768 .f32) (r : Fin 1024) : hnorms y (ix1 r) = ∑ k, y (ix2 r k) * y (ix2 r k) := by
  pointwise [hnorms]

theorem prods_at (y : FVec Ideal S1024x768 .f32) (r : Fin 1024) (j : Fin 2048) : prods x y (ix2 r j) = ∑ k, y (ix2 r k) * tableOf x j k := by
  pointwise [prods, rowsOf_at]

theorem dist_at (sf : FVec Ideal S2048 .f32) (sr : FVec Ideal S1024 .f32) (mm : FVec Ideal S1024x2048 .f32) (c : Fin 16) (r : Fin 1024) (l : Fin 128) :
    dist sf sr mm c (ix2 r l) = max (sr (ix1 r) + sf (ix1 ⟨128 * c.val + l.val, by omega⟩) - two * mm (ix2 r ⟨128 * c.val + l.val, by omega⟩)) 0 := by
  pointwise [Proof.dist, raw, sums, colsOf, normsOf, two]

theorem bigs_at (j : S1024x128.Idx) : bigs (F := Ideal) j = big := rfl

theorem word_eq (a b c d : ℕ) (h₁ : a + b < 2 ^ 32) (h₂ : c + d < 2 ^ 32) :
    IntOp.cmpi .eq (IntOp.addi (BitVec.ofNat 32 a) (BitVec.ofNat 32 b)) (IntOp.addi (BitVec.ofNat 32 c) (BitVec.ofNat 32 d)) = if a + b = c + d then 1#1 else 0#1 := by
  rw [show IntOp.addi (BitVec.ofNat 32 a) (BitVec.ofNat 32 b) = BitVec.ofNat 32 (a + b) from (BitVec.ofNat_add a b).symm,
    show IntOp.addi (BitVec.ofNat 32 c) (BitVec.ofNat 32 d) = BitVec.ofNat 32 (c + d) from (BitVec.ofNat_add c d).symm]
  unfold IntOp.cmpi
  by_cases h : a + b = c + d
  · rw [h]; simp
  · have : BitVec.ofNat 32 (a + b) ≠ BitVec.ofNat 32 (c + d) := fun e => h (by
      have := congrArg BitVec.toNat e
      rwa [BitVec.toNat_ofNat, BitVec.toNat_ofNat, Nat.mod_eq_of_lt h₁, Nat.mod_eq_of_lt h₂] at this)
    rw [if_neg h]
    show BitVec.ofBool (BitVec.ofNat 32 (a + b) == BitVec.ofNat 32 (c + d)) = _
    rw [beq_eq_false_iff_ne.mpr this]; rfl

theorem masked_at (n : ℕ) (hn : n ≤ 1024) (sf : FVec Ideal S2048 .f32) (sr : FVec Ideal S1024 .f32) (mm : FVec Ideal S1024x2048 .f32) (c : Fin 16) (r : Fin 1024) (l : Fin 128) :
    masked (BitVec.ofNat 32 n) sf sr mm c (ix2 r l) = if n + r.val = 128 * c.val + l.val then big else Proof.dist sf sr mm c (ix2 r l) := by
  have e : (cmpi .eq (rowIds (BitVec.ofNat 32 n)) (addi (broadcast S1024x128 (BitVec.ofNat 32 (128 * c.val))) laneIds) (ix2 r l)) = if n + r.val = 128 * c.val + l.val then 1#1 else 0#1 := by
    pointwise [laneIds, rowIds]
    exact word_eq _ _ _ _ (by omega) (by omega)
  show Scalar.select _ _ _ = _
  rw [show (cmpi .eq (rowIds (BitVec.ofNat 32 n)) (addi (broadcast S1024x128 (BitVec.ofNat 32 (128 * c.val))) laneIds) (ix2 r l)) = _ from e]
  by_cases h : n + r.val = 128 * c.val + l.val
  · rw [if_pos h, if_pos h]; rfl
  · rw [if_neg h, if_neg h]; rfl

theorem away_eq (X : Fin 2048 → Fin 768 → EReal) (i j : Fin 2048) (h : i ≠ j) : away X i j = sqd X i j := if_neg h

theorem chunks0_at (c : Fin 16) (r : Fin 1024) (l : Fin 128) : chunks0 x c (ix2 r l) = away (tableOf x) ⟨r.val, by omega⟩ ⟨128 * c.val + l.val, by omega⟩ := by
  have e : Proof.dist (norms x) (hnorms (half0 x)) (prods x (half0 x)) c (ix2 r l) = sqd (tableOf x) ⟨r.val, by omega⟩ ⟨128 * c.val + l.val, by omega⟩ := by
    rw [dist_at, hnorms_at, norms_at, prods_at]; simp only [half0_at]; rfl
  unfold chunks0
  by_cases h : c.val < 8
  · rw [if_pos h, show (0#32) = BitVec.ofNat 32 0 from rfl, masked_at 0 (by omega), e, away]
    simp only [Fin.mk.injEq, Nat.zero_add]
  · rw [if_neg h, e, away_eq]
    simp only [ne_eq, Fin.mk.injEq]; omega

theorem chunks1_at (c : Fin 16) (r : Fin 1024) (l : Fin 128) : chunks1 x c (ix2 r l) = away (tableOf x) ⟨1024 + r.val, by omega⟩ ⟨128 * c.val + l.val, by omega⟩ := by
  have e : Proof.dist (norms x) (hnorms (half1 x)) (prods x (half1 x)) c (ix2 r l) = sqd (tableOf x) ⟨1024 + r.val, by omega⟩ ⟨128 * c.val + l.val, by omega⟩ := by
    rw [dist_at, hnorms_at, norms_at, prods_at]; simp only [half1_at]; rfl
  unfold chunks1
  by_cases h : c.val < 8
  · rw [if_pos h, e, away_eq]
    simp only [ne_eq, Fin.mk.injEq]; omega
  · rw [if_neg h, show (1024#32) = BitVec.ofNat 32 1024 from rfl, masked_at 1024 (by omega), e, away]
    simp only [Fin.mk.injEq]

end Cert.Val

end
-- ==== Proof.Pick.lean ====
/-
  The entropy kernel's lists over the extended reals: five places of every lane count the least values seen in it, and
  an extraction takes the least over the lanes out of one lane.
-/
module

public import proofs.«01_k».proof.Proof.Val

@[expose] public section

noncomputable section

namespace Cert.Val

open Cert.KernelIdeal Cert.KernelIdeal.Gen
open Cert.Proof hiding ix1 ixT
open Cert.Proof.Least
open Idealize.ShloMosaic

/-- A lane's five places as a sequence; past them nothing is set. -/
def seq (m : Five Ideal) (i : S1024x128.Idx) : ℕ → EReal
  | 0 => m.a i
  | 1 => m.b i
  | 2 => m.c i
  | 3 => m.d i
  | 4 => m.e i
  | _ => big

/-- How many of a lane's first chunks are at most `t`. -/
def cnt (v : Fin 16 → FVec Ideal S1024x128 .f32) (i : S1024x128.Idx) (n : ℕ) (t : EReal) : ℕ := ∑ c ∈ Finset.range (n + 1), if v (Fin.ofNat 16 c) i ≤ t then 1 else 0

theorem cnt_succ (v : Fin 16 → FVec Ideal S1024x128 .f32) (i : S1024x128.Idx) (n : ℕ) : cnt v i (n + 1) = more (cnt v i n) (v (Fin.ofNat 16 (n + 1)) i) := by
  funext t; exact Finset.sum_range_succ _ _

theorem cnt_le (v : Fin 16 → FVec Ideal S1024x128 .f32) (i : S1024x128.Idx) (n : ℕ) (t : EReal) : cnt v i n t ≤ n + 1 := by
  refine (Finset.sum_le_card_nsmul _ _ 1 fun c _ => ?_).trans (by simp)
  split <;> omega

theorem fill_counts (v : Fin 16 → FVec Ideal S1024x128 .f32) (i : S1024x128.Idx) : ∀ n, Counts big (cnt v i n) (seq (Five.fill v n) i)
  | 0 => fun t ht j hj => by
    have hc : cnt v i 0 t = if v 0 i ≤ t then 1 else 0 := Finset.sum_range_one _
    rw [hc]
    rcases j with _ | j
    · show v 0 i ≤ t ↔ _
      by_cases h : v 0 i ≤ t <;> simp [h]
    · have : seq (Five.fill v 0) i (j + 1) = big := by
        have : j < 4 := by omega
        interval_cases j <;> rfl
      rw [this]
      refine iff_of_false (not_le.mpr ht) ?_
      split <;> omega
  | 1 => by
    rw [cnt_succ]
    refine counts_put (fill_counts v i 0) _ 2 _ (fun j h _ => ?_) (fun j h h' => ⟨?_, fun t => (cnt_le v i 0 t).trans_lt (by omega)⟩)
    · interval_cases j <;> rfl
    · interval_cases j <;> rfl
  | 2 => by
    rw [cnt_succ]
    refine counts_put (fill_counts v i 1) _ 3 _ (fun j h _ => ?_) (fun j h h' => ⟨?_, fun t => (cnt_le v i 1 t).trans_lt (by omega)⟩)
    · interval_cases j <;> rfl
    · interval_cases j <;> rfl
  | 3 => by
    rw [cnt_succ]
    refine counts_put (fill_counts v i 2) _ 4 _ (fun j h _ => ?_) (fun j h h' => ⟨?_, fun t => (cnt_le v i 2 t).trans_lt (by omega)⟩)
    · interval_cases j <;> rfl
    · interval_cases j <;> rfl
  | n + 4 => by
    rw [cnt_succ]
    refine counts_put (fill_counts v i (n + 3)) _ 5 _ (fun j _ h => ?_) (fun j h h' => absurd h' (by omega))
    interval_cases j <;> rfl

theorem fill_le (v : Fin 16 → FVec Ideal S1024x128 .f32) (i : S1024x128.Idx) (hv : v 0 i ≤ big) : ∀ n j, seq (Five.fill v n) i j ≤ big
  | 0 => fun j => by rcases j with _ | _ | _ | _ | _ | j <;> first | exact hv | exact le_refl big
  | 1 => fun j => by rcases j with _ | _ | _ | _ | _ | j <;> first | exact (min_le_left _ _).trans (fill_le v i hv 0 0) | exact (min_le_left _ _).trans (fill_le v i hv 0 1) | exact le_refl big
  | 2 => fun j => by rcases j with _ | _ | _ | _ | _ | j <;> first | exact (min_le_left _ _).trans (fill_le v i hv 1 0) | exact (min_le_left _ _).trans (fill_le v i hv 1 1) | exact (min_le_left _ _).trans (fill_le v i hv 1 2) | exact le_refl big
  | 3 => fun j => by rcases j with _ | _ | _ | _ | _ | j <;> first | exact (min_le_left _ _).trans (fill_le v i hv 2 0) | exact (min_le_left _ _).trans (fill_le v i hv 2 1) | exact (min_le_left _ _).trans (fill_le v i hv 2 2) | exact (min_le_left _ _).trans (fill_le v i hv 2 3) | exact le_refl big
  | n + 4 => fun j => by
    have h := fill_le v i hv (n + 3)
    rcases j with _ | _ | _ | _ | _ | j
    · exact (min_le_left _ _).trans (h 0)
    · exact (min_le_left _ _).trans (h 1)
    · exact (min_le_left _ _).trans (h 2)
    · exact (min_le_left _ _).trans (h 3)
    · exact (min_le_left _ _).trans (h 4)
    · exact le_refl big

/-! ## One extraction -/

theorem fold_min_mem {ι : Type} [Fintype ι] [Nonempty ι] (f : ι → EReal) : (∃ l, Finset.univ.fold min ⊤ f = f l) ∧ ∀ l, Finset.univ.fold min ⊤ f ≤ f l := by
  have e : Finset.univ.fold min ⊤ f = Finset.univ.inf f := rfl
  rw [e]
  obtain ⟨l, _, h⟩ := Finset.exists_mem_eq_inf Finset.univ Finset.univ_nonempty f
  exact ⟨⟨l, h⟩, fun l => Finset.inf_le (Finset.mem_univ l)⟩

theorem minsi_eq (a b : BitVec 32) : (IntOp.minsi a b = a ∨ IntOp.minsi a b = b) ∧ (IntOp.minsi a b).toInt ≤ a.toInt ∧ (IntOp.minsi a b).toInt ≤ b.toInt := by
  unfold IntOp.minsi
  by_cases h : a.toInt < b.toInt
  · rw [if_pos (by simpa [BitVec.slt] using h)]; exact ⟨.inl rfl, le_refl _, h.le⟩
  · rw [if_neg (by simpa [BitVec.slt] using h)]; exact ⟨.inr rfl, not_lt.mp h, le_refl _⟩

theorem fold_minsi_mem {ι : Type} [DecidableEq ι] (b : BitVec 32) (f : ι → BitVec 32) (s : Finset ι) :
    (s.fold IntOp.minsi b f = b ∨ ∃ l ∈ s, s.fold IntOp.minsi b f = f l) ∧ ∀ l ∈ s, (s.fold IntOp.minsi b f).toInt ≤ (f l).toInt := by
  induction s using Finset.induction_on with
  | empty => exact ⟨.inl rfl, fun l h => absurd h (Finset.notMem_empty l)⟩
  | insert a s ha ih =>
    rw [Finset.fold_insert ha]
    obtain ⟨h₁, h₂, h₃⟩ := minsi_eq (f a) (s.fold IntOp.minsi b f)
    refine ⟨?_, fun l hl => ?_⟩
    · rcases h₁ with h | h
      · exact .inr ⟨a, Finset.mem_insert_self _ _, h⟩
      · rw [h]
        rcases ih.1 with h' | ⟨l, hl, h'⟩
        · exact .inl h'
        · exact .inr ⟨l, Finset.mem_insert_of_mem hl, h'⟩
    · rcases Finset.mem_insert.mp hl with rfl | hl
      · exact h₂
      · exact h₃.trans (ih.2 l hl)

theorem toInt_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The first of the lanes a flag marks, found as the smallest of the lane numbers that are marked. -/
theorem first_marked (c : Fin 128 → BitVec 1) (h : ∃ L, c L = 1) :
    ∃ l, c l = 1 ∧ Finset.univ.fold IntOp.minsi (2147483647#32) (fun x : Fin 128 => Scalar.select (c x) (BitVec.ofNat 32 x.val) 128#32) = BitVec.ofNat 32 l.val := by
  obtain ⟨L, hL⟩ := h
  obtain ⟨h₁, h₂⟩ := fold_minsi_mem 2147483647#32 (fun x : Fin 128 => Scalar.select (c x) (BitVec.ofNat 32 x.val) 128#32) Finset.univ
  have hw := h₂ L (Finset.mem_univ L)
  have hs : Scalar.select (c L) (BitVec.ofNat 32 L.val) 128#32 = BitVec.ofNat 32 L.val := if_pos hL
  rw [hs, toInt_small _ (by omega)] at hw
  rcases h₁ with h | ⟨l, _, h⟩
  · rw [h] at hw
    have : (2147483647#32).toInt = 2147483647 := by decide
    omega
  · by_cases hl : c l = 1
    · exact ⟨l, hl, h.trans (if_pos hl)⟩
    · rw [h, show Scalar.select (c l) (BitVec.ofNat 32 l.val) 128#32 = 128#32 from if_neg hl] at hw
      have : (128#32).toInt = 128 := by decide
      omega

theorem inf_bits : Ideal.ofBits FTy.f32 2139095040#32 = ⊤ := by
  simp [Ideal.ofBits, Ideal.ieee]

theorem ties_at (m : Five Ideal) (r : Fin 1024) (L : Fin 128) : m.ties (ix2 r L) = if m.a (ix2 r L) = m.least (ix1 r) then 1#1 else 0#1 := by
  pointwise [Five.ties, Five.leasts]
  by_cases h : m.a (ix2 r L) = m.least (ix1 r)
  · rw [if_pos h, decide_eq_true h]; rfl
  · rw [if_neg h, decide_eq_false h]; rfl

theorem hit_lane (m : Five Ideal) (r : Fin 1024) : ∃ l : Fin 128, m.least (ix1 r) = m.a (ix2 r l) ∧ (∀ L, m.a (ix2 r l) ≤ m.a (ix2 r L)) ∧ ∀ L, m.hit (ix2 r L) = if L = l then 1#1 else 0#1 := by
  have e₁ : m.least (ix1 r) = Finset.univ.fold min ⊤ fun x => m.a (ix2 r x) := by
    pointwise [Five.least]
    rw [inf_bits]
  obtain ⟨⟨L₀, h₀⟩, hle⟩ := fold_min_mem fun x => m.a (ix2 r x)
  obtain ⟨l, hl, hw⟩ := first_marked (fun x => m.ties (ix2 r x)) ⟨L₀, by rw [ties_at, if_pos (by rw [e₁, h₀])]; rfl⟩
  rw [ties_at] at hl
  have hal : m.a (ix2 r l) = m.least (ix1 r) := by
    by_contra h; rw [if_neg h] at hl; exact absurd hl (by decide)
  refine ⟨l, hal.symm, fun L => ?_, fun L => ?_⟩
  · rw [hal, e₁]; exact hle L
  · pointwise [Five.hit, laneIds]
    rw [hw]
    have := word_eq L.val 0 l.val 0 (by omega) (by omega)
    simpa [IntOp.addi, Fin.ext_iff] using this

theorem seq_drop (m : Five Ideal) (r : Fin 1024) (l L : Fin 128) (h : m.hit (ix2 r L) = if L = l then 1#1 else 0#1) (j : ℕ) :
    seq m.drop (ix2 r L) j = if L = l then seq m (ix2 r L) (j + 1) else seq m (ix2 r L) j := by
  have hs (a b : FVec Ideal S1024x128 .f32) : select m.hit a b (ix2 r L) = if L = l then a (ix2 r L) else b (ix2 r L) := by
    show Scalar.select _ _ _ = _
    rw [h]
    by_cases hL : L = l
    · rw [if_pos hL, if_pos hL]; rfl
    · rw [if_neg hL, if_neg hL]; rfl
  rcases j with _ | _ | _ | _ | _ | j
  · show m.drop.a (ix2 r L) = if L = l then m.b (ix2 r L) else m.a (ix2 r L)
    rw [Five.drop_a]; exact hs _ _
  · show m.drop.b (ix2 r L) = if L = l then m.c (ix2 r L) else m.b (ix2 r L)
    rw [Five.drop_b]; exact hs _ _
  · show m.drop.c (ix2 r L) = if L = l then m.d (ix2 r L) else m.c (ix2 r L)
    rw [Five.drop_c]; exact hs _ _
  · show m.drop.d (ix2 r L) = if L = l then m.e (ix2 r L) else m.d (ix2 r L)
    rw [Five.drop_d]; exact hs _ _
  · show m.drop.e (ix2 r L) = if L = l then bigs (F := Ideal) (ix2 r L) else m.e (ix2 r L)
    rw [show m.drop.e = select m.hit bigs m.e by simp only [Five.drop]]; exact hs _ _
  · show big = if L = l then big else big
    exact (ite_self _).symm

/-! ## The five values -/

/-- `v` is the `k`-th least of a row's values, none of which exceeds the large one. -/
def Kth (f : Fin 2048 → EReal) (k : ℕ) (v : EReal) : Prop := v ≤ big ∧ ∀ t < big, v ≤ t ↔ k < (Finset.univ.filter fun i => f i ≤ t).card

theorem kth_unique {f : Fin 2048 → EReal} {k : ℕ} {v w : EReal} (hv : Kth f k v) (hw : Kth f k w) : v = w :=
  eq_of_le_iff hv.1 hw.1 fun t ht => (hv.2 t ht).trans (hw.2 t ht).symm

theorem drop_kth (v : Fin 16 → FVec Ideal S1024x128 .f32) (r : Fin 1024) (f : Fin 2048 → EReal) (hv : ∀ c l, v c (ix2 r l) = f ⟨128 * c.val + l.val, by omega⟩)
    (hf : ∀ j, f j ≤ big) (k : ℕ) (hk : k < 5) : Kth f k ((Five.drop^[k] (Five.fill v 15)).least (ix1 r)) := by
  choose l h₁ h₂ h₃ using fun k => hit_lane (Five.drop^[k] (Five.fill v 15)) r
  have hs (k : ℕ) (L : Fin 128) (j : ℕ) : seq (Five.drop^[k + 1] (Five.fill v 15)) (ix2 r L) j
      = if L = l k then seq (Five.drop^[k] (Five.fill v 15)) (ix2 r L) (j + 1) else seq (Five.drop^[k] (Five.fill v 15)) (ix2 r L) j := by
    rw [Function.iterate_succ_apply']; exact seq_drop _ r (l k) L (h₃ k L) j
  rw [h₁ k]
  refine ⟨state_le (s := fun k L j => seq (Five.drop^[k] (Five.fill v 15)) (ix2 r L) j) (l := l) (fun L j => fill_le v _ (by rw [hv]; exact hf _) 15 j) hs k (l k) 0, fun t ht => ?_⟩
  refine (extract_le (s := fun k L j => seq (Five.drop^[k] (Five.fill v 15)) (ix2 r L) j) (l := l) (n := fun L => cnt v (ix2 r L) 15) (fun L => fill_counts v _ 15) (fun k L => h₂ k L) hs ht k hk).trans ?_
  rw [card_cols]
  refine iff_of_eq (congrArg (k < ·) (Finset.sum_congr rfl fun L _ => ?_))
  unfold cnt
  rw [Finset.sum_range]
  refine Finset.sum_congr rfl fun c _ => ?_
  rw [show Fin.ofNat 16 c.val = c from Fin.ext (Nat.mod_eq_of_lt c.isLt), hv]

/-- A row's mean from its five least values. -/
def mean5 (v : ℕ → EReal) : EReal :=
  let root (a : EReal) : EReal := Ideal.sqrt (max a (Ideal.ofBits .f32 0x2B8CBCCC#32))
  Ideal.div (root (v 0) + root (v 1) + root (v 2) + root (v 3) + root (v 4)) (Ideal.ofBits .f32 0x40A00000#32)

theorem mean_at (m : Five Ideal) (r : Fin 1024) : m.mean (ix3 0 0 r) = mean5 fun k => (Five.drop^[k] m).least (ix1 r) := by
  pointwise [Five.mean, Five.acc4, Five.acc3, Five.acc1, Five.root]
  rfl

end Cert.Val

end
-- ==== Proof.Arr.lean ====
/-
  The entropies' array after the kernel's first region: every row's mean from its five least distances.
-/
module

public import proofs.«01_k».proof.Proof.Pick
public import Idealize.ShloMosaic.Lib.Pipeline.ValueKit

@[expose] public section

noncomputable section

namespace Cert.Val

open Cert.KernelIdeal Cert.KernelIdeal.Gen
open Cert.Proof hiding ix1 ixT
open Idealize.ShloMosaic
open Idealize.ShloMosaic.TcCoe

/-- Batch `b` of the argument as a block, -/
def slab (X : FVec Ideal S4x2048x768 .f32) (b : Fin 4) : Vec Ideal S1x2048x768 .f32 := fun j => X (ix3 b (j 1) (j 2))
/-- and as a table. -/
def tab0 (X : FVec Ideal S4x2048x768 .f32) (b : Fin 4) (i : Fin 2048) (k : Fin 768) : EReal := X (ix3 b i k)

theorem tableOf_slab (X : FVec Ideal S4x2048x768 .f32) (b : Fin 4) : tableOf (slab X b) = tab0 X b := rfl

theorem index0_0 : ∀ t : Fin cfg0.N, win0_0.index t = ![t.val, 0, 0] := (by decide +kernel : ∀ t : Fin grid0.N, _)
theorem index0_1 : ∀ t : Fin cfg0.N, win0_1.index t = ![t.val, 0, 0] := (by decide +kernel : ∀ t : Fin grid0.N, _)

/-- The whole array from its batches. -/
def entAll (X : FVec Ideal S4x2048x768 .f32) : FVec Ideal S4x1x2048 .f32 := fun i => entBlk (slab X (i 0)) (ix3 0 0 (i 2))

theorem entArr_eq (V : (c : Dev nD) → (b : Ref sig .tc) → Buf (Elt Ideal) ((c : Thread nD τ).loc b)) (c : Dev nD) : entArr V c = entAll (V c main_arg0) := by
  refine (dat V c).arrAt_eq_of_covers 1 _ (by decide +kernel) fun t hf y => ?_
  have ht : t.val < 4 := t.isLt
  have hy : (y : S1x1x2048.Idx) = ix3 0 0 (y 2) := by funext a; fin_cases a; · exact Subsingleton.elim (α := Fin 1) _ _
                                                      · exact Subsingleton.elim (α := Fin 1) _ _
                                                      · rfl
  have hx : xBlk V c t = slab (V c main_arg0) ⟨t.val, ht⟩ := by
    funext j
    show V c main_arg0 (((cfg0.win 0).blk t).view.emb j) = V c main_arg0 (ix3 _ (j 1) (j 2))
    refine congrArg _ ?_
    have hj : (j 0).val = 0 := Nat.lt_one_iff.mp (j 0).isLt
    blk_ext [index0_0]
  have hi : (win0_1.blk t).view.emb y = ix3 (⟨t.val, ht⟩ : Fin 4) (0 : Fin 1) (y 2 : Fin 2048) := by
    have h0 : (y 0).val = 0 := Nat.lt_one_iff.mp (y 0).isLt
    have h1 : (y 1).val = 0 := Nat.lt_one_iff.mp (y 1).isLt
    blk_ext [index0_1]
  blk_simp
  rw [hi]
  show entBlk (xBlk V c t) y = entBlk (slab (V c main_arg0) ⟨t.val, ht⟩) (ix3 0 0 (y 2))
  rw [hx]
  exact congrArg _ hy

/-- What is known of a row's entropy. -/
theorem entBlk_at (x : Vec Ideal S1x2048x768 .f32) (i : Fin 2048) (hf : ∀ j, away (tableOf x) i j ≤ big) :
    ∃ w : ℕ → EReal, entBlk x (ix3 0 0 i) = mean5 w ∧ ∀ k < 5, Kth (away (tableOf x) i) k (w k) := by
  by_cases h : i.val < 1024
  · refine ⟨fun k => (Five.drop^[k] (Five.fill (chunks0 x) 15)).least (ix1 ⟨i.val, h⟩), ?_, fun k hk => drop_kth _ _ _ (fun c l => chunks0_at x c _ l) hf k hk⟩
    rw [← mean_at]
    show (if h : i.val < 1024 then mean0 x (ixM i.val h) else _) = _
    rw [dif_pos h]
    refine congrArg (mean0 x) ?_
    funext a; fin_cases a <;> rfl
  · have e : (⟨1024 + (i.val - 1024), by omega⟩ : Fin 2048) = i := Fin.ext (by show 1024 + (i.val - 1024) = i.val; omega)
    refine ⟨fun k => (Five.drop^[k] (Five.fill (chunks1 x) 15)).least (ix1 ⟨i.val - 1024, by omega⟩), ?_, fun k hk => drop_kth _ _ _ (fun c l => (chunks1_at x c _ l).trans (by rw [e])) hf k hk⟩
    rw [← mean_at]
    show (if h : i.val < 1024 then mean0 x (ixM i.val h) else mean1 x (ixM (i.val - 1024) _)) = _
    rw [dif_neg h]
    refine congrArg (mean1 x) ?_
    funext a; fin_cases a <;> rfl

end Cert.Val

end
-- ==== Proof.RefEnt.lean ====
/-
  The reference's entropies over the extended reals: its distances, and every row's mean from its five least.
-/
module

public import proofs.«01_k».proof.Proof.Arr
public import Idealize.ShloMosaic.Lib.SortFacts

@[expose] public section

noncomputable section

namespace Cert.Val

open Cert.ReferenceIdeal Cert.ReferenceIdeal.Gen
open Idealize.ShloMosaic
open Idealize.ShloMosaic.TcCoe

variable (X : FVec Ideal S4x2048x768 .f32)

/-- Every row's squared norm, -/
def sqsR : FVec Ideal S4x2048 .f32 := Host.reduceAdd (mulf X X) (constant S_ .f32 0x00000000#32) reducesTo_S4x2048x768_S4x2048_d2 h_S_
/-- the products of all rows, -/
def prodsR : FVec Ideal S4x2048x2048 .f32 := Host.dotGeneral dot_S4x2048x768_S4x768x2048_S4x2048x2048_2_1_1_2_0_0 none X (transpose S4x768x2048 [0, 2, 1] X transposes_S4x2048x768_S4x768x2048_0_2_1)
/-- the clamped squared distances, -/
def distR : FVec Ideal S4x2048x2048 .f32 :=
  maximumf (subf
    (addf (broadcastInDim S4x2048x2048 ![0, 1, 2] bcast_S4x2048x1_S4x2048x2048_0_1_2 (broadcastInDim S4x2048x1 ![0, 1] bcast_S4x2048_S4x2048x1_0_1 (sqsR X)))
      (broadcastInDim S4x2048x2048 ![0, 1, 2] bcast_S4x1x2048_S4x2048x2048_0_1_2 (broadcastInDim S4x1x2048 ![0, 2] bcast_S4x2048_S4x1x2048_0_2 (sqsR X))))
    (mulf (broadcastInDim S4x2048x2048 ![] bcast_S_S4x2048x2048 (constant S_ .f32 0x40000000#32)) (prodsR X)))
    (broadcastInDim S4x2048x2048 ![] bcast_S_S4x2048x2048 (constant S_ .f32 0x00000000#32))
/-- the large value on the diagonal, -/
def eyeR : FVec Ideal S2048x2048 .f32 :=
  mulf (uitofp .f32 (cmpi .eq (addi (iotaInDim S2048x2048 32 0) (broadcastInDim S2048x2048 ![] bcast_S_S2048x2048 (constantI S_ 32 0#32))) (iotaInDim S2048x2048 32 1)))
    (broadcastInDim S2048x2048 ![] bcast_S_S2048x2048 (constant S_ .f32 0x501502F9#32))
/-- and the distances negated. -/
def negR : FVec Ideal S4x2048x2048 .f32 :=
  Host.negf (addf (distR X) (broadcastInDim S4x2048x2048 ![0, 1, 2] bcast_S1x2048x2048_S4x2048x2048_0_1_2 (broadcastInDim S1x2048x2048 ![1, 2] bcast_S2048x2048_S1x2048x2048_1_2 eyeR)))
/-- The five greatest of those. -/
def topR : FVec Ideal S4x2048x5 .f32 := (Host.topK S4x2048x5 2 (FloatOps.cmpfTotal .gt) (negR X) sliceFits_S4x2048x2048_S4x2048x5).1
/-- The entropies. -/
def entR : FVec Ideal S4x2048 .f32 :=
  Host.divf (Host.reduceAdd (Host.sqrt (maximumf (Host.negf (topR X)) (broadcastInDim S4x2048x5 ![] bcast_S_S4x2048x5 (constant S_ .f32 0x2B8CBCCC#32))))
    (constant S_ .f32 0x00000000#32) reducesTo_S4x2048x5_S4x2048_d2 h_S_) (broadcastInDim S4x2048 ![] bcast_S_S4x2048 (constant S_ .f32 0x40A00000#32))

theorem ent_read (V : Valuation τ sig (Elt Ideal)) : StableHlo.after (Proof.Ref.entOps (F := Ideal)) V (Proc.devRef .tc main_v39) = entR (V (Proc.devRef .tc main_arg0)) := by
  unfold Proof.Ref.entOps
  after_results_simp
  rfl

theorem sqsR_at (b : Fin 4) (i : Fin 2048) : sqsR X (ix2 b i) = dotp (tab0 X b) i i := by
  pointwise [sqsR]
  rfl

theorem prodsR_at (b : Fin 4) (i j : Fin 2048) : prodsR X (ix3 b i j) = dotp (tab0 X b) i j := by
  pointwise [prodsR]
  rfl

theorem distR_at (b : Fin 4) (i j : Fin 2048) : distR X (ix3 b i j) = sqd (tab0 X b) i j := by
  pointwise [distR, sqsR_at, prodsR_at]
  rfl

theorem eyeR_at (i j : Fin 2048) : eyeR (ix2 i j) = (if i = j then 1 else 0) * big := by
  pointwise [eyeR]
  have h := word_eq i.val 0 j.val 0 (by omega) (by omega)
  rw [show IntOp.addi (BitVec.ofNat 32 j.val) (BitVec.ofNat 32 0) = BitVec.ofNat 32 j.val from BitVec.add_zero _] at h
  rw [show IntOp.cmpi CmpIPredicate.eq (IntOp.addi (BitVec.ofNat 32 i.val) 0#32) (BitVec.ofNat 32 j.val) = _ from h]
  show _ * big = _
  congr 1
  by_cases e : i = j
  · subst e
    rw [if_pos rfl, if_pos rfl]
    show (((1#1).toNat : ℝ) : EReal) = 1
    norm_num
  · rw [if_neg e, if_neg fun h => e (Fin.ext (by omega))]
    show (((0#1).toNat : ℝ) : EReal) = 0
    norm_num

theorem negR_at (b : Fin 4) (i j : Fin 2048) : negR X (ix3 b i j) = -(sqd (tab0 X b) i j + (if i = j then 1 else 0) * big) := by
  pointwise [negR, distR_at, eyeR_at]

theorem entR_at (b : Fin 4) (i : Fin 2048) : entR X (ix2 b i) = mean5 fun k => if h : k < 5 then -(topR X (ix3 b i ⟨k, h⟩)) else 0 := by
  pointwise [entR]
  rw [Fin.sum_univ_five]
  rfl

theorem along2 (v : S4x2048x2048.Idx) (b : Fin 4) (i : Fin 2048) (h0 : (v 0).val = b.val) (h1 : (v 1).val = i.val) (h : 2 < S4x2048x2048.rank) (j : Fin (S4x2048x2048.size ⟨2, h⟩)) :
    v.along ⟨2, h⟩ j = ix3 b i j := by
  funext a; fin_cases a
  · exact Fin.ext h0
  · exact Fin.ext h1
  · rfl

/-- The five greatest are the first of the row in some order, greatest first. -/
theorem topR_at (b : Fin 4) (i : Fin 2048) : ∃ p : Fin 2048 → Fin 2048, Function.Bijective p ∧ (∀ k l, k < l → negR X (ix3 b i (p l)) ≤ negR X (ix3 b i (p k)))
    ∧ ∀ k : Fin 5, topR X (ix3 b i k) = negR X (ix3 b i (p ⟨k.val, by omega⟩)) := by
  let before : Fin 2048 → Fin 2048 → Bool := fun k k' => FloatOps.cmpfTotal CmpDirection.gt (negR X (ix3 b i k)) (negR X (ix3 b i k')) == 1#1
  have hbefore (k k' : Fin 2048) : before k k' = decide (negR X (ix3 b i k') < negR X (ix3 b i k)) := by
    show (BitVec.ofBool (decide (negR X (ix3 b i k') < negR X (ix3 b i k))) == 1#1) = _
    by_cases h : negR X (ix3 b i k') < negR X (ix3 b i k) <;> simp [h]
  refine ⟨sortedFrom before, ⟨sortedFrom_injective before, sortedFrom_surjective before⟩, fun k l h => ?_, fun k => ?_⟩
  · have := sortedFrom_noInversion before before (fun a b h => ?_) (fun a b h => ?_) (fun a b c h h' => ?_) k l h
    · rw [hbefore, decide_eq_false_iff_not, not_lt] at this; exact this
    · rw [hbefore, decide_eq_true_eq] at h; rw [hbefore, decide_eq_false_iff_not, not_lt]; exact h.le
    · exact h
    · rw [hbefore, decide_eq_false_iff_not, not_lt] at h h' ⊢; exact h.trans h'
  · unfold topR
    simp only [Host.topK, Host.sort2, extractStridedSlice, dif_pos (show 2 < S4x2048x2048.rank by decide), iotaInDim]
    rw [along2 _ b i (Nat.zero_add _) (Nat.zero_add _)]
    refine congrArg (fun j => negR X (ix3 b i j)) ?_
    refine (congrArg (fun f => sortedFrom f _) (a₂ := before) ?_).trans (congrArg (sortedFrom before) (Fin.ext (Nat.zero_add _)))
    funext k k'
    rw [along2 _ b i (Nat.zero_add _) (Nat.zero_add _), along2 _ b i (Nat.zero_add _) (Nat.zero_add _)]
    rfl

/-! ## Under the bound -/

/-- Every entry is a number of at most 1024. -/
def Small : Prop := ∀ i, ∃ r : ℝ, X i = r ∧ |r| ≤ 1024

theorem big_eq : big = ((10000000000 : ℝ) : EReal) := by
  simp [big, Ideal.ofBits, Ideal.ieee, -EReal.coe_mul]
  norm_num

theorem two_eq : two = ((2 : ℝ) : EReal) := by
  simp [two, Ideal.ofBits, Ideal.ieee, -EReal.coe_mul]
  norm_num

variable {X}

theorem real_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem dotp_small (hX : Small X) (b : Fin 4) (i j : Fin 2048) : ∃ r : ℝ, dotp (tab0 X b) i j = r ∧ |r| ≤ 805306368 := by
  choose f hf hb using hX
  refine ⟨∑ k, f (ix3 b i k) * f (ix3 b j k), ?_, ?_⟩
  · unfold dotp tab0
    simp only [hf]
    rw [real_sum]
    rfl
  · refine (Finset.abs_sum_le_sum_abs _ _).trans ((Finset.sum_le_card_nsmul _ _ 1048576 fun k _ => ?_).trans (by norm_num))
    rw [abs_mul]
    have h1 := hb (ix3 b i k)
    have h2 := hb (ix3 b j k)
    nlinarith [abs_nonneg (f (ix3 b i k)), abs_nonneg (f (ix3 b j k))]

theorem sqd_le (hX : Small X) (b : Fin 4) (i j : Fin 2048) : sqd (tab0 X b) i j ≤ big := by
  obtain ⟨p, hp, hp'⟩ := dotp_small hX b i i
  obtain ⟨q, hq, hq'⟩ := dotp_small hX b j j
  obtain ⟨s, hs, hs'⟩ := dotp_small hX b i j
  unfold sqd
  rw [hp, hq, hs, two_eq, big_eq]
  refine max_le ?_ (by exact_mod_cast (by norm_num : (0 : ℝ) ≤ 10000000000))
  have := abs_le.mp hp'; have := abs_le.mp hq'; have := abs_le.mp hs'
  exact_mod_cast (by linarith : p + q - 2 * s ≤ 10000000000)

theorem sqd_self (hX : Small X) (b : Fin 4) (i : Fin 2048) : sqd (tab0 X b) i i = 0 := by
  obtain ⟨p, hp, -⟩ := dotp_small hX b i i
  unfold sqd
  rw [hp, two_eq]
  have : (p : EReal) + p - ((2 : ℝ) : EReal) * p = 0 := by exact_mod_cast (by ring : p + p - 2 * p = 0)
  rw [this, max_self]

theorem away_le (hX : Small X) (b : Fin 4) (i j : Fin 2048) : away (tab0 X b) i j ≤ big := by
  unfold away
  split
  · exact le_refl _
  · exact sqd_le hX b i j

theorem neg_negR (hX : Small X) (b : Fin 4) (i j : Fin 2048) : -(negR X (ix3 b i j)) = away (tab0 X b) i j := by
  rw [negR_at, neg_neg, away]
  by_cases h : i = j
  · subst h
    rw [if_pos rfl, if_pos rfl, sqd_self hX, zero_add, one_mul]
  · rw [if_neg h, if_neg h, zero_mul, add_zero]

theorem topR_kth (hX : Small X) (b : Fin 4) (i : Fin 2048) (k : Fin 5) : Kth (away (tab0 X b) i) k.val (-(topR X (ix3 b i k))) := by
  obtain ⟨p, hp, hm, ht⟩ := topR_at X b i
  rw [ht, neg_negR hX]
  refine ⟨away_le hX _ _ _, fun t _ => ?_⟩
  refine Proof.Least.sorted_perm_le hp (fun k l h => ?_) t ⟨k.val, by omega⟩
  rcases h.eq_or_lt with rfl | h
  · exact le_refl _
  · show away _ _ _ ≤ away _ _ _
    rw [← neg_negR hX, ← neg_negR hX]
    exact EReal.neg_le_neg_iff.mpr (hm k l h)

/-- The two programs' entropies are one. -/
theorem ent_same (hX : Small X) (b : Fin 4) (i : Fin 2048) : entAll X (ix3 b 0 i) = entR X (ix2 b i) := by
  obtain ⟨w, hw, hk⟩ := entBlk_at (slab X b) i (fun j => away_le hX b i j)
  rw [entR_at]
  refine hw.trans ?_
  have e (k : ℕ) (h : k < 5) : w k = -(topR X (ix3 b i ⟨k, h⟩)) := kth_unique (hk k h) (topR_kth hX b i ⟨k, h⟩)
  unfold mean5
  rw [e 0 (by omega), e 1 (by omega), e 2 (by omega), e 3 (by omega), e 4 (by omega)]
  rfl

end Cert.Val

end
-- ==== Proof.Rows.lean ====
/-
  The rows of the result: the kernel's gather from the flat table and the reference's from each batch, at the same
  indices. And the probabilities, whose sums the kernel takes batch by batch.
-/
module

public import proofs.«01_k».proof.Proof.RefEnt

@[expose] public section

noncomputable section

namespace Cert.Val

open Cert.Proof hiding ix1 ixT
open Idealize.ShloMosaic
open Idealize.ShloMosaic.TcCoe

/-! ## The probabilities -/

section Kernel

open Cert.KernelIdeal Cert.KernelIdeal.Gen

/-- The sum of batch `b`'s entropies, -/
def sumK (e : FVec Ideal S4x2048 .f32) (o : Fin 2 → ℕ) (h : S4x2048.Slices o S1x2048) : FVec Ideal S1 .f32 :=
  broadcastInDim S1 ![] bcast_S_S1 (Host.reduceAdd (shapeCast S2048 (extractStridedSlice S1x2048 o e h) shapeCasts_S1x2048_S2048) (constant S_ .f32 0x00000000#32) reducesTo_S2048_S_d0 h_S_)

/-- The kernel's probabilities. -/
def probK (e : FVec Ideal S4x2048 .f32) : FVec Ideal S4x2048 .f32 :=
  Host.divf e (broadcastInDim S4x2048 ![0, 1] bcast_S4x1_S4x2048_0_1 (broadcastInDim S4x1 ![0] bcast_S4_S4x1_0
    (concatenate S4 0 [⟨S1, sumK e ![0, 0] slices_S4x2048_S1x2048_0_0⟩, ⟨S1, sumK e ![1, 0] slices_S4x2048_S1x2048_1_0⟩, ⟨S1, sumK e ![2, 0] slices_S4x2048_S1x2048_2_0⟩, ⟨S1, sumK e ![3, 0] slices_S4x2048_S1x2048_3_0⟩]
      concatenates_S1_S1_S1_S1_S4_d0)))

theorem sumK_at (e : FVec Ideal S4x2048 .f32) (o : Fin 2 → ℕ) (h : S4x2048.Slices o S1x2048) (b : Fin 4) (h0 : o 0 = b.val) (h1 : o 1 = 0) : sumK e o h (ix1 0) = ∑ i, e (ix2 b i) := by
  pointwise [sumK]
  refine Finset.sum_congr rfl fun i _ => congrArg e ?_
  rw [show (⟨o 0, by omega⟩ : Fin 4) = b from Fin.ext h0]
  refine congrArg (ix2 b) (Fin.ext ?_)
  show o 1 + i.val = i.val
  omega

theorem probK_at (e : FVec Ideal S4x2048 .f32) (b : Fin 4) (i : Fin 2048) : probK e (ix2 b i) = Ideal.div (e (ix2 b i)) (∑ j, e (ix2 b j)) := by
  fin_cases b
  · pointwise [probK]
    rw [sumK_at e _ _ 0 rfl rfl]
  · pointwise [probK]
    rw [sumK_at e _ _ 1 rfl rfl]
  · pointwise [probK]
    rw [sumK_at e _ _ 2 rfl rfl]
  · pointwise [probK]
    rw [sumK_at e _ _ 3 rfl rfl]

theorem pre_read (V : Valuation τ sig (Elt Ideal)) : StableHlo.after (preOps (F := Ideal)) V (Proc.devRef .tc main_v28) = probK (shapeCast S4x2048 (V (Proc.devRef .tc main_v0)) shapeCasts_S4x1x2048_S4x2048) := by
  unfold preOps
  after_results_simp
  rfl

/-- The kernel's rows. -/
def rowsK (X : FVec Ideal S4x2048x768 .f32) (I : IVec S4x256 32) : FVec Ideal S4x256x768 .f32 :=
  shapeCast S4x256x768 (gathered (F := Ideal) (shapeCast S8192x768 X shapeCasts_S4x2048x768_S8192x768) (shapeCast S1024 I shapeCasts_S4x256_S1024)) shapeCasts_S1024x768_S4x256x768

theorem rowsK_at (X : FVec Ideal S4x2048x768 .f32) (I : IVec S4x256 32) (hI : ∀ j, (I j).toNat < 2048) (b : Fin 4) (r : Fin 256) (d : Fin 768) :
    rowsK X I (ix3 b r d) = X (ix3 b ⟨(I (ix2 b r)).toNat, hI _⟩ d) := by
  pointwise [rowsK]
  have hI' : shapeCast S1024 I shapeCasts_S4x256_S1024 (Idealize.ShloMosaic.ix1 (⟨b.val * 256 + r.val, by omega⟩ : Fin 1024)) = I (ix2 b r) := by
    pointwise
  have hT (row : Fin 8192) (hr : row.val = b.val * 2048 + (I (ix2 b r)).toNat) : shapeCast S8192x768 X shapeCasts_S4x2048x768_S8192x768 (ix2 row d) = X (ix3 b ⟨(I (ix2 b r)).toNat, hI _⟩ d) := by
    pointwise
    have := hI (ix2 b r)
    rw [show (⟨row.val / 2048, by omega⟩ : Fin 4) = b from Fin.ext (by show row.val / 2048 = b.val; omega),
      show (⟨row.val % 2048, by omega⟩ : Fin 2048) = ⟨(I (ix2 b r)).toNat, hI _⟩ from Fin.ext (by show row.val % 2048 = (I (ix2 b r)).toNat; omega)]
  have e1 (q : Fin 1024) : Proof.ix1 q = Idealize.ShloMosaic.ix1 q := by funext a; fin_cases a; rfl
  have e2 (q : Fin 8192) (k : Fin 768) : Proof.ixT q k = ix2 q k := by funext a; fin_cases a <;> rfl
  show shapeCast S8192x768 X shapeCasts_S4x2048x768_S8192x768 (Proof.ixT (Proof.srcRow (shapeCast S1024 I shapeCasts_S4x256_S1024) ⟨b.val * 256 + r.val, by omega⟩) d) = _
  rw [e2, hT]
  show ((b.val * 256 + r.val) / 256 * 2048 + (shapeCast S1024 I shapeCasts_S4x256_S1024 (Proof.ix1 ⟨b.val * 256 + r.val, by omega⟩)).toNat) % 8192 = _
  rw [e1, hI']
  have := hI (ix2 b r)
  omega

end Kernel

section Reference

open Cert.ReferenceIdeal Cert.ReferenceIdeal.Gen

/-- The reference's probabilities. -/
def probR (e : FVec Ideal S4x2048 .f32) : FVec Ideal S4x2048 .f32 :=
  Host.divf e (broadcastInDim S4x2048 ![0, 1] bcast_S4x1_S4x2048_0_1 (broadcastInDim S4x1 ![0] bcast_S4_S4x1_0
    (Host.reduceAdd e (constant S_ .f32 0x00000000#32) reducesTo_S4x2048_S4_d1 h_S_)))

theorem probR_at (e : FVec Ideal S4x2048 .f32) (b : Fin 4) (i : Fin 2048) : probR e (ix2 b i) = Ideal.div (e (ix2 b i)) (∑ j, e (ix2 b j)) := by
  pointwise [probR]

theorem prob_read (V : Valuation τ sig (Elt Ideal)) : StableHlo.after (Ref.probOps (F := Ideal)) V (Proc.devRef .tc main_v43) = probR (V (Proc.devRef .tc main_v39)) := by
  unfold Ref.probOps
  after_results_simp
  rfl

/-- An index below zero counted from the end, -/
def wrapR (I : IVec S4x256 32) : IVec S4x256 32 :=
  select (cmpi .slt I (broadcastInDim S4x256 ![] bcast_S_S4x256 (constantI S_ 32 0#32))) (addi I (broadcastInDim S4x256 ![] bcast_S_S4x256 (constantI S_ 32 2048#32))) I
/-- and the reference's rows. -/
def rowsR (X : FVec Ideal S4x2048x768 .f32) (I : IVec S4x256 32) : FVec Ideal S4x256x768 .f32 :=
  Host.gather gather_S4x2048x768_S4x256x1_S4x256x768_2_1_0_0_1_2_11768 X (broadcastInDim S4x256x1 ![0, 1] bcast_S4x256_S4x256x1_0_1 (wrapR I))

theorem wrapR_eq (I : IVec S4x256 32) (hI : ∀ j, (I j).toNat < 2048) : wrapR I = I := by
  funext j
  have h : IntOp.cmpi .slt (I j) 0#32 = 0#1 := by
    unfold IntOp.cmpi
    have := hI j
    have : (I j).slt 0#32 = false := by
      rw [BitVec.slt_eq_decide, BitVec.toInt_eq_toNat_of_lt (by omega)]
      simp
    show BitVec.ofBool ((I j).slt 0#32) = _
    rw [this]; rfl
  show Scalar.select (IntOp.cmpi .slt (I j) 0#32) _ _ = _
  rw [h]; rfl

theorem rowsR_at (X : FVec Ideal S4x2048x768 .f32) (I : IVec S4x256 32) (hI : ∀ j, (I j).toNat < 2048) (b : Fin 4) (r : Fin 256) (d : Fin 768) :
    rowsR X I (ix3 b r d) = X (ix3 b ⟨(I (ix2 b r)).toNat, hI _⟩ d) := by
  unfold rowsR
  rw [wrapR_eq I hI]
  unfold Host.gather
  refine congrArg X ?_
  generalize hJ : broadcastInDim S4x256x1 ![0, 1] bcast_S4x256_S4x256x1_0_1 I = J
  have hs : J (gather_S4x2048x768_S4x256x1_S4x256x768_2_1_0_0_1_2_11768.siIdx (ix3 b r d) ⟨0, by decide⟩) = I (ix2 b r) := by
    rw [show gather_S4x2048x768_S4x256x1_S4x256x768_2_1_0_0_1_2_11768.siIdx (ix3 b r d) ⟨0, by decide⟩ = ix3 b r 0 by funext a; fin_cases a <;> rfl, ← hJ]
    pointwise
  funext a
  refine Fin.ext ?_
  fin_cases a
  · show 0 + b.val + 0 = b.val
    omega
  · show min (J (gather_S4x2048x768_S4x256x1_S4x256x768_2_1_0_0_1_2_11768.siIdx (ix3 b r d) ⟨0, by decide⟩)).toInt.toNat 2047 + 0 + 0 = (I (ix2 b r)).toNat
    have := hI (ix2 b r)
    rw [hs, BitVec.toInt_eq_toNat_of_lt (by omega)]
    omega
  · show 0 + 0 + d.val = d.val
    omega

/-- The indices of the 256 greatest of the noised logarithms. -/
def pickR (z p : FVec Ideal S4x2048 .f32) : IVec S4x256 32 := (Host.topK S4x256 1 (FloatOps.cmpfTotal .gt) (addf z (Host.log p)) sliceFits_S4x2048_S4x256).2

theorem last_read (V : Valuation τ sig (Elt Ideal)) : StableHlo.after (Ref.lastOps (F := Ideal)) V (Proc.devRef .tc main_v55)
    = rowsR (V (Proc.devRef .tc main_arg0)) (pickR (V (Proc.devRef .tc main_v46)) (V (Proc.devRef .tc main_v43))) := by
  unfold Ref.lastOps
  after_results_simp
  rfl

end Reference

end Cert.Val

end
-- ==== Proof.Alg.lean ====
/-
  The kernel's results are the reference's: the key is the same and so is the noise, the probabilities are the same, and
  so the indices and the rows are.
-/
module

public import proofs.«01_k».proof.Proof.Rows
public import proofs.«01_k».proof.Defs
public import Idealize.ShloMosaic.Lib.ReduceAll

@[expose] public section

noncomputable section

namespace Cert.Alg

open Cert.Proof hiding ix1 ixT
open Cert.Val
open Cert.KernelIdeal (nD τ)
open Cert.KernelIdeal.Gen
open Cert.ReferenceIdeal.Gen
open Idealize.ShloMosaic Idealize.SL.Sem
open Idealize.ShloMosaic.TcCoe

abbrev KV := Valuation τ KernelIdeal.sig (Elt Ideal)
abbrev RV := Valuation τ ReferenceIdeal.sig (Elt Ideal)

/-! ## The argument is small -/

theorem facts_bounded : Cert.Pre_bounded.Facts := ⟨by decide, by decide, by decide⟩

theorem bits_1024 : Ideal.ofBits .f32 0x44800000#32 = ((1024 : ℝ) : EReal) := by
  simp [Ideal.ofBits, Ideal.ieee, -EReal.coe_mul]
  norm_num

theorem small_one (x : EReal) (h : max x (-x) ≤ ((1024 : ℝ) : EReal)) : ∃ r : ℝ, x = r ∧ |r| ≤ 1024 := by
  induction x using EReal.rec with
  | bot => simp at h
  | top => simp at h
  | coe r =>
    refine ⟨r, rfl, ?_⟩
    have h1 := (le_max_left _ _).trans h
    have h2 := (le_max_right _ _).trans h
    rw [← EReal.coe_neg] at h2
    exact abs_le'.mpr ⟨EReal.coe_le_coe_iff.mp h1, EReal.coe_le_coe_iff.mp h2⟩

theorem small_of [hP : Cert.Pre_bounded.Facts] (X : FVec Ideal KernelIdeal.S4x2048x768 .f32) (h : Cert.Pre_bounded.fn (F := Ideal) X = fun _ => 1#1) : Small X := by
  intro i
  have hs : Subsingleton Cert.Pre_bounded.S_.Idx := ⟨fun a b => funext fun k => k.elim0⟩
  have h1 := Host.reduce_andi_all _ _ _ _ (fun k => k.elim0 : Cert.Pre_bounded.S_.Idx) (congrFun h _) i
  refine small_one (X i) ?_
  have h2 : BitVec.ofBool (decide (max (X i) (-(X i)) ≤ Ideal.ofBits .f32 0x44800000#32)) = 1#1 := h1
  rw [bits_1024] at h2
  by_contra hc
  rw [decide_eq_false hc] at h2
  exact absurd h2 (by decide)

/-! ## The probabilities -/

theorem split2 (j : KernelIdeal.S4x2048.Idx) : ∃ (b : Fin 4) (i : Fin 2048), j = ix2 b i := ⟨j 0, j 1, by funext a; fin_cases a <;> rfl⟩
theorem split3 (j : KernelIdeal.S4x256x768.Idx) : ∃ (b : Fin 4) (r : Fin 256) (k : Fin 768), j = ix3 b r k := ⟨j 0, j 1, j 2, by funext a; fin_cases a <;> rfl⟩

theorem prob_same (X : FVec Ideal KernelIdeal.S4x2048x768 .f32) (hX : Small X) :
    probK (shapeCast KernelIdeal.S4x2048 (entAll X) KernelIdeal.Gen.facts.shapeCasts_S4x1x2048_S4x2048) = probR (entR X) := by
  have he : shapeCast KernelIdeal.S4x2048 (entAll X) KernelIdeal.Gen.facts.shapeCasts_S4x1x2048_S4x2048 = entR X := by
    funext j
    obtain ⟨b, i, rfl⟩ := split2 j
    rw [← ent_same hX]
    pointwise
  rw [he]
  funext j
  obtain ⟨b, i, rfl⟩ := split2 j
  exact (probK_at _ b i).trans (probR_at _ b i).symm

/-! ## The noise -/

theorem key_k (V : KV) : StableHlo.after (preOps (F := Ideal)) V (Proc.devRef .tc KernelIdeal.main_v8) = concatenate KernelIdeal.S2 0
    [⟨KernelIdeal.S1, broadcastInDim KernelIdeal.S1 ![] KernelIdeal.Gen.facts.bcast_S_S1 (Host.shrui (constantI KernelIdeal.S_ 32 42#32) (constantI KernelIdeal.S_ 32 32#32))⟩,
     ⟨KernelIdeal.S1, broadcastInDim KernelIdeal.S1 ![] KernelIdeal.Gen.facts.bcast_S_S1 (andi (constantI KernelIdeal.S_ 32 42#32) (constantI KernelIdeal.S_ 32 4294967295#32))⟩]
    KernelIdeal.Gen.facts.concatenates_S1_S1_S2_d0 := by
  unfold preOps
  after_results_simp
  rfl

theorem key_r (V : RV) : StableHlo.after (Ref.probOps (F := Ideal)) (StableHlo.after Ref.entOps V) (Proc.devRef .tc ReferenceIdeal.main_v6) = concatenate KernelIdeal.S2 0
    [⟨KernelIdeal.S1, broadcastInDim KernelIdeal.S1 ![] KernelIdeal.Gen.facts.bcast_S_S1 (Host.shrui (constantI KernelIdeal.S_ 32 42#32) (constantI KernelIdeal.S_ 32 32#32))⟩,
     ⟨KernelIdeal.S1, broadcastInDim KernelIdeal.S1 ![] KernelIdeal.Gen.facts.bcast_S_S1 (andi (constantI KernelIdeal.S_ 32 42#32) (constantI KernelIdeal.S_ 32 4294967295#32))⟩]
    KernelIdeal.Gen.facts.concatenates_S1_S1_S2_d0 := by
  unfold Ref.probOps Ref.entOps
  after_results_simp
  rfl

theorem agree (V : KV) (U : RV) : Agree 38 (StableHlo.after (preOps (F := Ideal)) V) (StableHlo.after (Ref.probOps (F := Ideal)) (StableHlo.after Ref.entOps U)) := by
  have h : Agree 37 (StableHlo.after (preOps (F := Ideal)) V) (StableHlo.after (Ref.probOps (F := Ideal)) (StableHlo.after Ref.entOps U)) := by
    intro T x y ⟨xs, ys, hxy⟩
    obtain ⟨hx, hy⟩ : x.ref.idx.val = 12 ∧ y.ref.idx.val = 10 := by omega
    obtain ⟨x, tx, dx, ux⟩ := x
    obtain ⟨y, ty, dy, uy⟩ := y
    dsimp only at xs ys hx hy tx ty ⊢
    obtain rfl : x = KernelIdeal.main_v8 := ref_eq xs rfl hx
    obtain rfl : y = ReferenceIdeal.main_v6 := ref_eq ys rfl hy
    show cast _ _ = cast _ _
    rw [key_k, key_r]
  exact h.set (.of KernelIdeal.main_v29) (.of ReferenceIdeal.main_v44) (by decide) (iotaInDim KernelIdeal.S4 32 0)
    (by unfold preOps; after_results_simp; rfl) (by unfold Ref.probOps; after_results_simp; rfl) (fun _ _ => rfl) (fun _ _ => rfl)

/-! ## The two runs read -/

section Read

variable (m : (ℓ : Loc nD τ KernelIdeal.sig) → Buf (Elt Ideal) ℓ) (m' : (ℓ : Loc nD τ ReferenceIdeal.sig) → Buf (Elt Ideal) ℓ) (d : Dev nD)

theorem noise_k (r : Ref KernelIdeal.sig .tc) (h : r.idx.val < 38) (V : KV) : StableHlo.after noiseOps V (Proc.devRef .tc r) = V (Proc.devRef .tc r) :=
  keep noiseOps _ (fun op ho hb => by
    obtain ⟨r', hr, h1, h2, h3⟩ := (noise_spec.2.2.1 op ho).writes _ hb
    have := Proc.devRef_injective _ hr; subst this
    omega) V

theorem noise_same : W15 m d (Proc.devRef .tc KernelIdeal.main_v31) = Ref.R2 m' d (Proc.devRef .tc ReferenceIdeal.main_v46) :=
  noise_spec.2.2.2.2 _ _ (agree (W1 m d) (StableHlo.launchContents m' d)) ⟨KernelIdeal.S4x2048, .f32⟩ (.of KernelIdeal.main_v31) (.of ReferenceIdeal.main_v46) (by decide)

theorem prob_k : W15 m d (Proc.devRef .tc KernelIdeal.main_v28)
    = probK (shapeCast KernelIdeal.S4x2048 (entAll (m ((d.tc : Thread nD τ).loc KernelIdeal.main_arg0))) KernelIdeal.Gen.facts.shapeCasts_S4x1x2048_S4x2048) := by
  unfold W15
  rw [noise_k _ (by decide), pre_read]
  have h : W1 m d (Proc.devRef .tc KernelIdeal.main_v0) = entAll (m ((d.tc : Thread nD τ).loc KernelIdeal.main_arg0)) :=
    (Function.update_self _ _ _).trans (entArr_eq (Vm m) d)
  rw [h]

theorem prob_r : Ref.R2 m' d (Proc.devRef .tc ReferenceIdeal.main_v43) = probR (entR (m' ((d.tc : Thread nD τ).loc ReferenceIdeal.main_arg0))) := by
  unfold Ref.R2 Ref.R1
  rw [Ref.noise_keep _ (by decide), prob_read, ent_read]

theorem out_k : W4 m d (Proc.devRef .tc KernelIdeal.main_v37) = rowsK (m ((d.tc : Thread nD τ).loc KernelIdeal.main_arg0))
    (pickR (W15 m d (Proc.devRef .tc KernelIdeal.main_v31)) (W15 m d (Proc.devRef .tc KernelIdeal.main_v28))) := by
  have h1 : W4 m d (Proc.devRef .tc KernelIdeal.main_v37) = shapeCast KernelIdeal.S4x256x768 (gathered (F := Ideal) (tab m d) (idx m d)) KernelIdeal.Gen.facts.shapeCasts_S1024x768_S4x256x768 := by
    unfold W4 endOps
    after_results_simp
    exact congrArg (fun v => shapeCast KernelIdeal.S4x256x768 v KernelIdeal.Gen.facts.shapeCasts_S1024x768_S4x256x768) (Function.update_self _ _ _)
  have h2 : (tab m d : FVec Ideal KernelIdeal.S8192x768 .f32) = shapeCast KernelIdeal.S8192x768 (m ((d.tc : Thread nD τ).loc KernelIdeal.main_arg0)) KernelIdeal.Gen.facts.shapeCasts_S4x2048x768_S8192x768 := by
    have h3 : W15 m d (Proc.devRef .tc KernelIdeal.main_arg0) = m ((d.tc : Thread nD τ).loc KernelIdeal.main_arg0) := by
      unfold W15
      rw [noise_k _ (by decide)]
      unfold preOps; after_results_simp
      exact Function.update_of_ne (by decide) _ _
    rw [← h3]
    unfold tab
    rw [W2_eq]
    unfold postOps
    after_results_simp
    rfl
  rw [h1]
  unfold rowsK
  rw [← h2]
  exact congrArg (fun I => shapeCast KernelIdeal.S4x256x768 (gathered (F := Ideal) (tab m d) I) KernelIdeal.Gen.facts.shapeCasts_S1024x768_S4x256x768) (idx_eq m d)

theorem out_r : Ref.R3 m' d (Proc.devRef .tc ReferenceIdeal.main_v55) = rowsR (m' ((d.tc : Thread nD τ).loc ReferenceIdeal.main_arg0))
    (pickR (Ref.R2 m' d (Proc.devRef .tc ReferenceIdeal.main_v46)) (Ref.R2 m' d (Proc.devRef .tc ReferenceIdeal.main_v43))) := by
  have h : Ref.R2 m' d (Proc.devRef .tc ReferenceIdeal.main_arg0) = m' ((d.tc : Thread nD τ).loc ReferenceIdeal.main_arg0) := by
    rw [← Ref.R3_arg m' d]
    unfold Ref.R3 Ref.lastOps; after_results_simp
  unfold Ref.R3
  rw [last_read, h]

theorem zero_k : W4 m d (Proc.devRef .tc KernelIdeal.main_cst_5) = constant (F := Ideal) KernelIdeal.S_ .f32 0x00000000#32 := by
  unfold W4 endOps
  after_results_simp

theorem zero_r : Ref.R3 m' d (Proc.devRef .tc ReferenceIdeal.main_cst_14) = constant (F := Ideal) KernelIdeal.S_ .f32 0x00000000#32 := by
  unfold Ref.R3 Ref.lastOps
  after_results_simp

theorem out_same (hX : Small (m ((d.tc : Thread nD τ).loc KernelIdeal.main_arg0)))
    (hm : m' ((d.tc : Thread nD τ).loc ReferenceIdeal.main_arg0) = m ((d.tc : Thread nD τ).loc KernelIdeal.main_arg0)) :
    Ref.R3 m' d (Proc.devRef .tc ReferenceIdeal.main_v55) = W4 m d (Proc.devRef .tc KernelIdeal.main_v37) := by
  rw [out_k, out_r, noise_same m m' d, prob_k, prob_r, hm, prob_same _ hX]
  funext j
  obtain ⟨b, r, k, rfl⟩ := split3 j
  exact (rowsR_at _ _ (fun i => topK_lt _ i) b r k).trans (rowsK_at _ _ (fun i => topK_lt _ i) b r k).symm

end Read

/-! ## The claim -/

theorem algebraic [hP : Cert.Pre_bounded.Facts] : Cert.algebraic_KernelIdeal_ReferenceIdeal_pre_bounded := fun m g m' g' hpre hm =>
  ⟨fun c => W4 m c (Proc.devRef .tc KernelIdeal.main_v37), fun c => W4 m c (Proc.devRef .tc KernelIdeal.main_cst_5),
    θ_run_mono (Proof.run_main (F := Ideal) m g) fun _ h c => ⟨(h.1 c).2.1, (h.1 c).2.2, (h.1 c).1.trans (W4_arg m c)⟩,
    θ_run_mono (Ref.run_main (F := Ideal) m' g') fun _ h c => ⟨(h c _).trans (out_same m m' c (small_of _ (hpre c)) (hm c)),
      (h c _).trans ((zero_r m' c).trans (zero_k m c).symm), (h c _).trans (Ref.R3_arg m' c)⟩⟩

end Cert.Alg

end
-- ==== Proof.lean ====
/-
  The proof of the certificate's claims. The kernel's run is proved once, over any float values (Proof/Launch.lean), and
  so is the reference's (Proof/Ref.lean): the frames are those runs with the values dropped, and the equation of the results is
  proved in Proof/Alg.lean.
-/
module

public import proofs.«01_k».proof.Defs
public import proofs.«01_k».proof.Proof.Gen.Kernel
public import proofs.«01_k».proof.Proof.Alg

@[expose] public section

noncomputable section

namespace Cert.Proof

open Idealize.ShloMosaic Idealize.SL.Sem

/-- The kernel terminates, keeps its argument and leaves every semaphore at zero: its text is the ideal program's. -/
theorem frame_kernel : Cert.quiescent_Kernel := fun m ρ _ => by
  have h := (θ_run Cert.KernelIdeal.defs _ _).mono (fun _ h => And.intro (fun c => (h.1 c).1.trans (W4_arg m c)) h.2) (run_main (F := Bits) m ρ)
  rw [Same.tables, Same.threads]
  exact h

/-- The same at the ideal instance. -/
theorem frame_ideal : Cert.quiescent_KernelIdeal := fun m ρ _ =>
  (θ_run Cert.KernelIdeal.defs _ _).mono (fun _ h => ⟨fun c => (h.1 c).1.trans (W4_arg m c), h.2⟩) (run_main (F := Ideal) m ρ)

/-- The reference terminates and keeps its argument; it has no semaphore. -/
theorem frame_reference : Cert.quiescent_ReferenceIdeal := fun m ρ _ =>
  (θ_run Cert.ReferenceIdeal.defs _ _).mono (fun r h => ⟨fun c => (h c Cert.ReferenceIdeal.main_arg0).trans (Ref.R3_arg m c),
    Idealize.ShloMosaic.sem_eq_zero_of_no_sems (by decide) r.2⟩) (Ref.run_main (F := Ideal) m ρ)

theorem claim : Cert.Claim := ⟨Cert.Kernel.Gen.facts, Cert.KernelIdeal.Gen.facts, Cert.ReferenceIdeal.Gen.facts, Alg.facts_bounded,
  frame_kernel, frame_ideal, fun m ρ _ => frame_ideal m ρ trivial, frame_reference, fun m ρ _ => frame_reference m ρ trivial, trivial,
  Alg.algebraic (hP := Alg.facts_bounded)⟩

end Cert.Proof

end
